-- ==== Defs.lean ====
def Pre_Cmp (m : (ℓ : Loc Cert.Cmp.nD Cert.Cmp.τ Cert.Cmp.sig) → Buf (Elt Bits) ℓ) : Prop :=
  True

def Pre_CmpIdeal (m : (ℓ : Loc Cert.CmpIdeal.nD Cert.CmpIdeal.τ Cert.CmpIdeal.sig) → Buf (Elt Ideal) ℓ) : Prop :=
  True

def Pre_CmpIdeal_cmp_finite [hPre_cmp_finite : Cert.Pre_cmp_finite.Facts] (m : (ℓ : Loc Cert.CmpIdeal.nD Cert.CmpIdeal.τ Cert.CmpIdeal.sig) → Buf (Elt Ideal) ℓ) : Prop :=
  ∀ c : Dev Cert.CmpIdeal.nD,
    (Cert.Pre_cmp_finite.fn (F := Ideal) (m ((c.tc : Thread Cert.CmpIdeal.nD Cert.CmpIdeal.τ).loc Cert.CmpIdeal.main_arg0)) (m ((c.tc : Thread Cert.CmpIdeal.nD Cert.CmpIdeal.τ).loc Cert.CmpIdeal.main_arg1))) = (fun _ => 1#1)

def Pre_CmpRefIdeal (m : (ℓ : Loc Cert.CmpRefIdeal.nD Cert.CmpRefIdeal.τ Cert.CmpRefIdeal.sig) → Buf (Elt Ideal) ℓ) : Prop :=
  True

def Pre_CmpRefIdeal_cmp_finite [hPre_cmp_finite : Cert.Pre_cmp_finite.Facts] (m : (ℓ : Loc Cert.CmpRefIdeal.nD Cert.CmpRefIdeal.τ Cert.CmpRefIdeal.sig) → Buf (Elt Ideal) ℓ) : Prop :=
  ∀ c : Dev Cert.CmpRefIdeal.nD,
    (Cert.Pre_cmp_finite.fn (F := Ideal) (m ((c.tc : Thread Cert.CmpRefIdeal.nD Cert.CmpRefIdeal.τ).loc Cert.CmpRefIdeal.main_arg0)) (m ((c.tc : Thread Cert.CmpRefIdeal.nD Cert.CmpRefIdeal.τ).loc Cert.CmpRefIdeal.main_arg1))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_ProjDec (m : (ℓ : Loc Cert.ProjDec.nD Cert.ProjDec.τ Cert.ProjDec.sig) → Buf (Elt Bits) ℓ) : Prop :=
  True

def Pre_ProjDecIdeal (m : (ℓ : Loc Cert.ProjDecIdeal.nD Cert.ProjDecIdeal.τ Cert.ProjDecIdeal.sig) → Buf (Elt Ideal) ℓ) : Prop :=
  True

def Pre_ProjDecRefIdeal (m : (ℓ : Loc Cert.ProjDecRefIdeal.nD Cert.ProjDecRefIdeal.τ Cert.ProjDecRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_ProjOut (m : (ℓ : Loc Cert.ProjOut.nD Cert.ProjOut.τ Cert.ProjOut.sig) → Buf (Elt Bits) ℓ) : Prop :=
  True

def Pre_ProjOutIdeal (m : (ℓ : Loc Cert.ProjOutIdeal.nD Cert.ProjOutIdeal.τ Cert.ProjOutIdeal.sig) → Buf (Elt Ideal) ℓ) : Prop :=
  True

def Pre_ProjOutRefIdeal (m : (ℓ : Loc Cert.ProjOutRefIdeal.nD Cert.ProjOutRefIdeal.τ Cert.ProjOutRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepIdeal_prep_finite [hPre_prep_finite : Cert.Pre_prep_finite.Facts] (m : (ℓ : Loc Cert.PrepIdeal.nD Cert.PrepIdeal.τ Cert.PrepIdeal.sig) → Buf (Elt Ideal) ℓ) : Prop :=
  ∀ c : Dev Cert.PrepIdeal.nD,
    (Cert.Pre_prep_finite.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1))) = (fun _ => 1#1)

def Pre_PrepRefIdeal (m : (ℓ : Loc Cert.PrepRefIdeal.nD Cert.PrepRefIdeal.τ Cert.PrepRefIdeal.sig) → Buf (Elt Ideal) ℓ) : Prop :=
  True

def Pre_PrepRefIdeal_prep_finite [hPre_prep_finite : Cert.Pre_prep_finite.Facts] (m : (ℓ : Loc Cert.PrepRefIdeal.nD Cert.PrepRefIdeal.τ Cert.PrepRefIdeal.sig) → Buf (Elt Ideal) ℓ) : Prop :=
  ∀ c : Dev Cert.PrepRefIdeal.nD,
    (Cert.Pre_prep_finite.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1))) = (fun _ => 1#1)

def quiescent_Cmp [hCmp : Cert.Cmp.Facts] : Prop :=
  ∀ (m : (ℓ : Loc Cert.Cmp.nD Cert.Cmp.τ Cert.Cmp.sig) → Buf (Elt Bits) ℓ) (g : Dev Cert.Cmp.nD → PrngReg), Pre_Cmp m →
    θ_run (Cert.Cmp.defs (F := Bits)) (onTc (τ := Cert.Cmp.τ) (Cert.Cmp.main (F := Bits))) ⟨m, fun _ => 0, g⟩ (fun r => (∀ c : Dev Cert.Cmp.nD,
      r.2.mem ((c.tc : Thread Cert.Cmp.nD Cert.Cmp.τ).loc Cert.Cmp.main_arg0) = m ((c.tc : Thread Cert.Cmp.nD Cert.Cmp.τ).loc Cert.Cmp.main_arg0)
      ∧ r.2.mem ((c.tc : Thread Cert.Cmp.nD Cert.Cmp.τ).loc Cert.Cmp.main_arg1) = m ((c.tc : Thread Cert.Cmp.nD Cert.Cmp.τ).loc Cert.Cmp.main_arg1))
      ∧ r.2.sem = fun _ => 0)

def quiescent_CmpIdeal [hCmpIdeal : Cert.CmpIdeal.Facts] : Prop :=
  ∀ (m : (ℓ : Loc Cert.CmpIdeal.nD Cert.CmpIdeal.τ Cert.CmpIdeal.sig) → Buf (Elt Ideal) ℓ) (g : Dev Cert.CmpIdeal.nD → PrngReg), Pre_CmpIdeal m →
    θ_run (Cert.CmpIdeal.defs (F := Ideal)) (onTc (τ := Cert.CmpIdeal.τ) (Cert.CmpIdeal.main (F := Ideal))) ⟨m, fun _ => 0, g⟩ (fun r => (∀ c : Dev Cert.CmpIdeal.nD,
      r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
      ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1))
      ∧ r.2.sem = fun _ => 0)

def quiescent_CmpIdeal_pre_cmp_finite [hCmpIdeal : Cert.CmpIdeal.Facts] [hPre_cmp_finite : Cert.Pre_cmp_finite.Facts] : Prop :=
  ∀ (m : (ℓ : Loc Cert.CmpIdeal.nD Cert.CmpIdeal.τ Cert.CmpIdeal.sig) → Buf (Elt Ideal) ℓ) (g : Dev Cert.CmpIdeal.nD → PrngReg), Pre_CmpIdeal_cmp_finite m →
    θ_run (Cert.CmpIdeal.defs (F := Ideal)) (onTc (τ := Cert.CmpIdeal.τ) (Cert.CmpIdeal.main (F := Ideal))) ⟨m, fun _ => 0, g⟩ (fun r => (∀ c : Dev Cert.CmpIdeal.nD,
      r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
      ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1))
      ∧ r.2.sem = fun _ => 0)

def quiescent_CmpRefIdeal [hCmpRefIdeal : Cert.CmpRefIdeal.Facts] : Prop :=
  ∀ (m : (ℓ : Loc Cert.CmpRefIdeal.nD Cert.CmpRefIdeal.τ Cert.CmpRefIdeal.sig) → Buf (Elt Ideal) ℓ) (g : Dev Cert.CmpRefIdeal.nD → PrngReg), Pre_CmpRefIdeal m →
    θ_run (Cert.CmpRefIdeal.defs (F := Ideal)) (onTc (τ := Cert.CmpRefIdeal.τ) (Cert.CmpRefIdeal.main (F := Ideal))) ⟨m, fun _ => 0, g⟩ (fun r => (∀ c : Dev Cert.CmpRefIdeal.nD,
      r.2.mem ((c.tc : Thread Cert.CmpRefIdeal.nD Cert.CmpRefIdeal.τ).loc Cert.CmpRefIdeal.main_arg0) = m ((c.tc : Thread Cert.CmpRefIdeal.nD Cert.CmpRefIdeal.τ).loc Cert.CmpRefIdeal.main_arg0)
      ∧ r.2.mem ((c.tc : Thread Cert.CmpRefIdeal.nD Cert.CmpRefIdeal.τ).loc Cert.CmpRefIdeal.main_arg1) = m ((c.tc : Thread Cert.CmpRefIdeal.nD Cert.CmpRefIdeal.τ).loc Cert.CmpRefIdeal.main_arg1))
      ∧ r.2.sem = fun _ => 0)

def quiescent_CmpRefIdeal_pre_cmp_finite [hCmpRefIdeal : Cert.CmpRefIdeal.Facts] [hPre_cmp_finite : Cert.Pre_cmp_finite.Facts] : Prop :=
  ∀ (m : (ℓ : Loc Cert.CmpRefIdeal.nD Cert.CmpRefIdeal.τ Cert.CmpRefIdeal.sig) → Buf (Elt Ideal) ℓ) (g : Dev Cert.CmpRefIdeal.nD → PrngReg), Pre_CmpRefIdeal_cmp_finite m →
    θ_run (Cert.CmpRefIdeal.defs (F := Ideal)) (onTc (τ := Cert.CmpRefIdeal.τ) (Cert.CmpRefIdeal.main (F := Ideal))) ⟨m, fun _ => 0, g⟩ (fun r => (∀ c : Dev Cert.CmpRefIdeal.nD,
      r.2.mem ((c.tc : Thread Cert.CmpRefIdeal.nD Cert.CmpRefIdeal.τ).loc Cert.CmpRefIdeal.main_arg0) = m ((c.tc : Thread Cert.CmpRefIdeal.nD Cert.CmpRefIdeal.τ).loc Cert.CmpRefIdeal.main_arg0)
      ∧ r.2.mem ((c.tc : Thread Cert.CmpRefIdeal.nD Cert.CmpRefIdeal.τ).loc Cert.CmpRefIdeal.main_arg1) = m ((c.tc : Thread Cert.CmpRefIdeal.nD Cert.CmpRefIdeal.τ).loc Cert.CmpRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_ProjDec [hProjDec : Cert.ProjDec.Facts] : Prop :=
  ∀ (m : (ℓ : Loc Cert.ProjDec.nD Cert.ProjDec.τ Cert.ProjDec.sig) → Buf (Elt Bits) ℓ) (g : Dev Cert.ProjDec.nD → PrngReg), Pre_ProjDec m →
    θ_run (Cert.ProjDec.defs (F := Bits)) (onTc (τ := Cert.ProjDec.τ) (Cert.ProjDec.main (F := Bits))) ⟨m, fun _ => 0, g⟩ (fun r => (∀ c : Dev Cert.ProjDec.nD,
      r.2.mem ((c.tc : Thread Cert.ProjDec.nD Cert.ProjDec.τ).loc Cert.ProjDec.main_arg0) = m ((c.tc : Thread Cert.ProjDec.nD Cert.ProjDec.τ).loc Cert.ProjDec.main_arg0)
      ∧ r.2.mem ((c.tc : Thread Cert.ProjDec.nD Cert.ProjDec.τ).loc Cert.ProjDec.main_arg1) = m ((c.tc : Thread Cert.ProjDec.nD Cert.ProjDec.τ).loc Cert.ProjDec.main_arg1)
      ∧ r.2.mem ((c.tc : Thread Cert.ProjDec.nD Cert.ProjDec.τ).loc Cert.ProjDec.main_arg2) = m ((c.tc : Thread Cert.ProjDec.nD Cert.ProjDec.τ).loc Cert.ProjDec.main_arg2))
      ∧ r.2.sem = fun _ => 0)

def quiescent_ProjDecIdeal [hProjDecIdeal : Cert.ProjDecIdeal.Facts] : Prop :=
  ∀ (m : (ℓ : Loc Cert.ProjDecIdeal.nD Cert.ProjDecIdeal.τ Cert.ProjDecIdeal.sig) → Buf (Elt Ideal) ℓ) (g : Dev Cert.ProjDecIdeal.nD → PrngReg), Pre_ProjDecIdeal m →
    θ_run (Cert.ProjDecIdeal.defs (F := Ideal)) (onTc (τ := Cert.ProjDecIdeal.τ) (Cert.ProjDecIdeal.main (F := Ideal))) ⟨m, fun _ => 0, g⟩ (fun r => (∀ c : Dev Cert.ProjDecIdeal.nD,
      r.2.mem ((c.tc : Thread Cert.ProjDecIdeal.nD Cert.ProjDecIdeal.τ).loc Cert.ProjDecIdeal.main_arg0) = m ((c.tc : Thread Cert.ProjDecIdeal.nD Cert.ProjDecIdeal.τ).loc Cert.ProjDecIdeal.main_arg0)
      ∧ r.2.mem ((c.tc : Thread Cert.ProjDecIdeal.nD Cert.ProjDecIdeal.τ).loc Cert.ProjDecIdeal.main_arg1) = m ((c.tc : Thread Cert.ProjDecIdeal.nD Cert.ProjDecIdeal.τ).loc Cert.ProjDecIdeal.main_arg1)
      ∧ r.2.mem ((c.tc : Thread Cert.ProjDecIdeal.nD Cert.ProjDecIdeal.τ).loc Cert.ProjDecIdeal.main_arg2) = m ((c.tc : Thread Cert.ProjDecIdeal.nD Cert.ProjDecIdeal.τ).loc Cert.ProjDecIdeal.main_arg2))
      ∧ r.2.sem = fun _ => 0)

def quiescent_ProjDecRefIdeal [hProjDecRefIdeal : Cert.ProjDecRefIdeal.Facts] : Prop :=
  ∀ (m : (ℓ : Loc Cert.ProjDecRefIdeal.nD Cert.ProjDecRefIdeal.τ Cert.ProjDecRefIdeal.sig) → Buf (Elt Ideal) ℓ) (g : Dev Cert.ProjDecRefIdeal.nD → PrngReg), Pre_ProjDecRefIdeal m →
    θ_run (Cert.ProjDecRefIdeal.defs (F := Ideal)) (onTc (τ := Cert.ProjDecRefIdeal.τ) (Cert.ProjDecRefIdeal.main (F := Ideal))) ⟨m, fun _ => 0, g⟩ (fun r => (∀ c : Dev Cert.ProjDecRefIdeal.nD,
      r.2.mem ((c.tc : Thread Cert.ProjDecRefIdeal.nD Cert.ProjDecRefIdeal.τ).loc Cert.ProjDecRefIdeal.main_arg0) = m ((c.tc : Thread Cert.ProjDecRefIdeal.nD Cert.ProjDecRefIdeal.τ).loc Cert.ProjDecRefIdeal.main_arg0)
      ∧ r.2.mem ((c.tc : Thread Cert.ProjDecRefIdeal.nD Cert.ProjDecRefIdeal.τ).loc Cert.ProjDecRefIdeal.main_arg1) = m ((c.tc : Thread Cert.ProjDecRefIdeal.nD Cert.ProjDecRefIdeal.τ).loc Cert.ProjDecRefIdeal.main_arg1)
      ∧ r.2.mem ((c.tc : Thread Cert.ProjDecRefIdeal.nD Cert.ProjDecRefIdeal.τ).loc Cert.ProjDecRefIdeal.main_arg2) = m ((c.tc : Thread Cert.ProjDecRefIdeal.nD Cert.ProjDecRefIdeal.τ).loc Cert.ProjDecRefIdeal.main_arg2))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2)
      ∧ r.2.mem ((c.tc : Thread Cert.MemKv.nD Cert.MemKv.τ).loc Cert.MemKv.main_arg3) = m ((c.tc : Thread Cert.MemKv.nD Cert.MemKv.τ).loc Cert.MemKv.main_arg3))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
      ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2)
      ∧ r.2.mem ((c.tc : Thread Cert.MemKvRefIdeal.nD Cert.MemKvRefIdeal.τ).loc Cert.MemKvRefIdeal.main_arg3) = m ((c.tc : Thread Cert.MemKvRefIdeal.nD Cert.MemKvRefIdeal.τ).loc Cert.MemKvRefIdeal.main_arg3))
      ∧ r.2.sem = fun _ => 0)

def quiescent_ProjOut [hProjOut : Cert.ProjOut.Facts] : Prop :=
  ∀ (m : (ℓ : Loc Cert.ProjOut.nD Cert.ProjOut.τ Cert.ProjOut.sig) → Buf (Elt Bits) ℓ) (g : Dev Cert.ProjOut.nD → PrngReg), Pre_ProjOut m →
    θ_run (Cert.ProjOut.defs (F := Bits)) (onTc (τ := Cert.ProjOut.τ) (Cert.ProjOut.main (F := Bits))) ⟨m, fun _ => 0, g⟩ (fun r => (∀ c : Dev Cert.ProjOut.nD,
      r.2.mem ((c.tc : Thread Cert.ProjOut.nD Cert.ProjOut.τ).loc Cert.ProjOut.main_arg0) = m ((c.tc : Thread Cert.ProjOut.nD Cert.ProjOut.τ).loc Cert.ProjOut.main_arg0)
      ∧ r.2.mem ((c.tc : Thread Cert.ProjOut.nD Cert.ProjOut.τ).loc Cert.ProjOut.main_arg1) = m ((c.tc : Thread Cert.ProjOut.nD Cert.ProjOut.τ).loc Cert.ProjOut.main_arg1)
      ∧ r.2.mem ((c.tc : Thread Cert.ProjOut.nD Cert.ProjOut.τ).loc Cert.ProjOut.main_arg2) = m ((c.tc : Thread Cert.ProjOut.nD Cert.ProjOut.τ).loc Cert.ProjOut.main_arg2)
      ∧ r.2.mem ((c.tc : Thread Cert.ProjOut.nD Cert.ProjOut.τ).loc Cert.ProjOut.main_arg3) = m ((c.tc : Thread Cert.ProjOut.nD Cert.ProjOut.τ).loc Cert.ProjOut.main_arg3)
      ∧ r.2.mem ((c.tc : Thread Cert.ProjOut.nD Cert.ProjOut.τ).loc Cert.ProjOut.main_arg4) = m ((c.tc : Thread Cert.ProjOut.nD Cert.ProjOut.τ).loc Cert.ProjOut.main_arg4)
      ∧ r.2.mem ((c.tc : Thread Cert.ProjOut.nD Cert.ProjOut.τ).loc Cert.ProjOut.main_arg5) = m ((c.tc : Thread Cert.ProjOut.nD Cert.ProjOut.τ).loc Cert.ProjOut.main_arg5)
      ∧ r.2.mem ((c.tc : Thread Cert.ProjOut.nD Cert.ProjOut.τ).loc Cert.ProjOut.main_arg6) = m ((c.tc : Thread Cert.ProjOut.nD Cert.ProjOut.τ).loc Cert.ProjOut.main_arg6)
      ∧ r.2.mem ((c.tc : Thread Cert.ProjOut.nD Cert.ProjOut.τ).loc Cert.ProjOut.main_arg7) = m ((c.tc : Thread Cert.ProjOut.nD Cert.ProjOut.τ).loc Cert.ProjOut.main_arg7)
      ∧ r.2.mem ((c.tc : Thread Cert.ProjOut.nD Cert.ProjOut.τ).loc Cert.ProjOut.main_arg8) = m ((c.tc : Thread Cert.ProjOut.nD Cert.ProjOut.τ).loc Cert.ProjOut.main_arg8))
      ∧ r.2.sem = fun _ => 0)

def quiescent_ProjOutIdeal [hProjOutIdeal : Cert.ProjOutIdeal.Facts] : Prop :=
  ∀ (m : (ℓ : Loc Cert.ProjOutIdeal.nD Cert.ProjOutIdeal.τ Cert.ProjOutIdeal.sig) → Buf (Elt Ideal) ℓ) (g : Dev Cert.ProjOutIdeal.nD → PrngReg), Pre_ProjOutIdeal m →
    θ_run (Cert.ProjOutIdeal.defs (F := Ideal)) (onTc (τ := Cert.ProjOutIdeal.τ) (Cert.ProjOutIdeal.main (F := Ideal))) ⟨m, fun _ => 0, g⟩ (fun r => (∀ c : Dev Cert.ProjOutIdeal.nD,
      r.2.mem ((c.tc : Thread Cert.ProjOutIdeal.nD Cert.ProjOutIdeal.τ).loc Cert.ProjOutIdeal.main_arg0) = m ((c.tc : Thread Cert.ProjOutIdeal.nD Cert.ProjOutIdeal.τ).loc Cert.ProjOutIdeal.main_arg0)
      ∧ r.2.mem ((c.tc : Thread Cert.ProjOutIdeal.nD Cert.ProjOutIdeal.τ).loc Cert.ProjOutIdeal.main_arg1) = m ((c.tc : Thread Cert.ProjOutIdeal.nD Cert.ProjOutIdeal.τ).loc Cert.ProjOutIdeal.main_arg1)
      ∧ r.2.mem ((c.tc : Thread Cert.ProjOutIdeal.nD Cert.ProjOutIdeal.τ).loc Cert.ProjOutIdeal.main_arg2) = m ((c.tc : Thread Cert.ProjOutIdeal.nD Cert.ProjOutIdeal.τ).loc Cert.ProjOutIdeal.main_arg2)
      ∧ r.2.mem ((c.tc : Thread Cert.ProjOutIdeal.nD Cert.ProjOutIdeal.τ).loc Cert.ProjOutIdeal.main_arg3) = m ((c.tc : Thread Cert.ProjOutIdeal.nD Cert.ProjOutIdeal.τ).loc Cert.ProjOutIdeal.main_arg3)
      ∧ r.2.mem ((c.tc : Thread Cert.ProjOutIdeal.nD Cert.ProjOutIdeal.τ).loc Cert.ProjOutIdeal.main_arg4) = m ((c.tc : Thread Cert.ProjOutIdeal.nD Cert.ProjOutIdeal.τ).loc Cert.ProjOutIdeal.main_arg4)
      ∧ r.2.mem ((c.tc : Thread Cert.ProjOutIdeal.nD Cert.ProjOutIdeal.τ).loc Cert.ProjOutIdeal.main_arg5) = m ((c.tc : Thread Cert.ProjOutIdeal.nD Cert.ProjOutIdeal.τ).loc Cert.ProjOutIdeal.main_arg5)
      ∧ r.2.mem ((c.tc : Thread Cert.ProjOutIdeal.nD Cert.ProjOutIdeal.τ).loc Cert.ProjOutIdeal.main_arg6) = m ((c.tc : Thread Cert.ProjOutIdeal.nD Cert.ProjOutIdeal.τ).loc Cert.ProjOutIdeal.main_arg6)
      ∧ r.2.mem ((c.tc : Thread Cert.ProjOutIdeal.nD Cert.ProjOutIdeal.τ).loc Cert.ProjOutIdeal.main_arg7) = m ((c.tc : Thread Cert.ProjOutIdeal.nD Cert.ProjOutIdeal.τ).loc Cert.ProjOutIdeal.main_arg7)
      ∧ r.2.mem ((c.tc : Thread Cert.ProjOutIdeal.nD Cert.ProjOutIdeal.τ).loc Cert.ProjOutIdeal.main_arg8) = m ((c.tc : Thread Cert.ProjOutIdeal.nD Cert.ProjOutIdeal.τ).loc Cert.ProjOutIdeal.main_arg8))
      ∧ r.2.sem = fun _ => 0)

def quiescent_ProjOutRefIdeal [hProjOutRefIdeal : Cert.ProjOutRefIdeal.Facts] : Prop :=
  ∀ (m : (ℓ : Loc Cert.ProjOutRefIdeal.nD Cert.ProjOutRefIdeal.τ Cert.ProjOutRefIdeal.sig) → Buf (Elt Ideal) ℓ) (g : Dev Cert.ProjOutRefIdeal.nD → PrngReg), Pre_ProjOutRefIdeal m →
    θ_run (Cert.ProjOutRefIdeal.defs (F := Ideal)) (onTc (τ := Cert.ProjOutRefIdeal.τ) (Cert.ProjOutRefIdeal.main (F := Ideal))) ⟨m, fun _ => 0, g⟩ (fun r => (∀ c : Dev Cert.ProjOutRefIdeal.nD,
      r.2.mem ((c.tc : Thread Cert.ProjOutRefIdeal.nD Cert.ProjOutRefIdeal.τ).loc Cert.ProjOutRefIdeal.main_arg0) = m ((c.tc : Thread Cert.ProjOutRefIdeal.nD Cert.ProjOutRefIdeal.τ).loc Cert.ProjOutRefIdeal.main_arg0)
      ∧ r.2.mem ((c.tc : Thread Cert.ProjOutRefIdeal.nD Cert.ProjOutRefIdeal.τ).loc Cert.ProjOutRefIdeal.main_arg1) = m ((c.tc : Thread Cert.ProjOutRefIdeal.nD Cert.ProjOutRefIdeal.τ).loc Cert.ProjOutRefIdeal.main_arg1)
      ∧ r.2.mem ((c.tc : Thread Cert.ProjOutRefIdeal.nD Cert.ProjOutRefIdeal.τ).loc Cert.ProjOutRefIdeal.main_arg2) = m ((c.tc : Thread Cert.ProjOutRefIdeal.nD Cert.ProjOutRefIdeal.τ).loc Cert.ProjOutRefIdeal.main_arg2)
      ∧ r.2.mem ((c.tc : Thread Cert.ProjOutRefIdeal.nD Cert.ProjOutRefIdeal.τ).loc Cert.ProjOutRefIdeal.main_arg3) = m ((c.tc : Thread Cert.ProjOutRefIdeal.nD Cert.ProjOutRefIdeal.τ).loc Cert.ProjOutRefIdeal.main_arg3)
      ∧ r.2.mem ((c.tc : Thread Cert.ProjOutRefIdeal.nD Cert.ProjOutRefIdeal.τ).loc Cert.ProjOutRefIdeal.main_arg4) = m ((c.tc : Thread Cert.ProjOutRefIdeal.nD Cert.ProjOutRefIdeal.τ).loc Cert.ProjOutRefIdeal.main_arg4)
      ∧ r.2.mem ((c.tc : Thread Cert.ProjOutRefIdeal.nD Cert.ProjOutRefIdeal.τ).loc Cert.ProjOutRefIdeal.main_arg5) = m ((c.tc : Thread Cert.ProjOutRefIdeal.nD Cert.ProjOutRefIdeal.τ).loc Cert.ProjOutRefIdeal.main_arg5)
      ∧ r.2.mem ((c.tc : Thread Cert.ProjOutRefIdeal.nD Cert.ProjOutRefIdeal.τ).loc Cert.ProjOutRefIdeal.main_arg6) = m ((c.tc : Thread Cert.ProjOutRefIdeal.nD Cert.ProjOutRefIdeal.τ).loc Cert.ProjOutRefIdeal.main_arg6)
      ∧ r.2.mem ((c.tc : Thread Cert.ProjOutRefIdeal.nD Cert.ProjOutRefIdeal.τ).loc Cert.ProjOutRefIdeal.main_arg7) = m ((c.tc : Thread Cert.ProjOutRefIdeal.nD Cert.ProjOutRefIdeal.τ).loc Cert.ProjOutRefIdeal.main_arg7)
      ∧ r.2.mem ((c.tc : Thread Cert.ProjOutRefIdeal.nD Cert.ProjOutRefIdeal.τ).loc Cert.ProjOutRefIdeal.main_arg8) = m ((c.tc : Thread Cert.ProjOutRefIdeal.nD Cert.ProjOutRefIdeal.τ).loc Cert.ProjOutRefIdeal.main_arg8))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1))
      ∧ r.2.sem = fun _ => 0)

def quiescent_PrepIdeal_pre_prep_finite [hPrepIdeal : Cert.PrepIdeal.Facts] [hPre_prep_finite : Cert.Pre_prep_finite.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal_prep_finite m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1))
      ∧ r.2.sem = fun _ => 0)

def quiescent_PrepRefIdeal_pre_prep_finite [hPrepRefIdeal : Cert.PrepRefIdeal.Facts] [hPre_prep_finite : Cert.Pre_prep_finite.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal_prep_finite m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1))
      ∧ r.2.sem = fun _ => 0)

def preserves_Cmp_CmpIdeal : Prop :=
  True

def algebraic_CmpIdeal_CmpRefIdeal_pre_cmp_finite [hCmpIdeal : Cert.CmpIdeal.Facts] [hCmpRefIdeal : Cert.CmpRefIdeal.Facts] [hPre_cmp_finite : Cert.Pre_cmp_finite.Facts] : Prop :=
  ∀ (m : (ℓ : Loc Cert.CmpIdeal.nD Cert.CmpIdeal.τ Cert.CmpIdeal.sig) → Buf (Elt Ideal) ℓ) (g : Dev Cert.CmpIdeal.nD → PrngReg)
    (m' : (ℓ : Loc Cert.CmpRefIdeal.nD Cert.CmpRefIdeal.τ Cert.CmpRefIdeal.sig) → Buf (Elt Ideal) ℓ) (g' : Dev Cert.CmpRefIdeal.nD → PrngReg), Pre_CmpIdeal_cmp_finite m →
    (∀ c : Dev Cert.CmpIdeal.nD,
      m' ((c.tc : Thread Cert.CmpRefIdeal.nD Cert.CmpRefIdeal.τ).loc Cert.CmpRefIdeal.main_arg0) = m ((c.tc : Thread Cert.CmpIdeal.nD Cert.CmpIdeal.τ).loc Cert.CmpIdeal.main_arg0)
      ∧ m' ((c.tc : Thread Cert.CmpRefIdeal.nD Cert.CmpRefIdeal.τ).loc Cert.CmpRefIdeal.main_arg1) = m ((c.tc : Thread Cert.CmpIdeal.nD Cert.CmpIdeal.τ).loc Cert.CmpIdeal.main_arg1)) →
    ∃ (v0 : (c : Dev Cert.CmpIdeal.nD) → Buf (Elt Ideal) ((c.tc : Thread Cert.CmpIdeal.nD Cert.CmpIdeal.τ).loc Cert.CmpIdeal.main_v0_0)) (v1 : (c : Dev Cert.CmpIdeal.nD) → Buf (Elt Ideal) ((c.tc : Thread Cert.CmpIdeal.nD Cert.CmpIdeal.τ).loc Cert.CmpIdeal.main_v0_1)),
      θ_run (Cert.CmpIdeal.defs (F := Ideal)) (onTc (τ := Cert.CmpIdeal.τ) (Cert.CmpIdeal.main (F := Ideal))) ⟨m, fun _ => 0, g⟩ (fun r => ∀ c : Dev Cert.CmpIdeal.nD,
          r.2.mem ((c.tc : Thread Cert.CmpIdeal.nD Cert.CmpIdeal.τ).loc Cert.CmpIdeal.main_v0_0) = v0 c
          ∧ r.2.mem ((c.tc : Thread Cert.CmpIdeal.nD Cert.CmpIdeal.τ).loc Cert.CmpIdeal.main_v0_1) = v1 c
          ∧ r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
          ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1))
      ∧ θ_run (Cert.CmpRefIdeal.defs (F := Ideal)) (onTc (τ := Cert.CmpRefIdeal.τ) (Cert.CmpRefIdeal.main (F := Ideal))) ⟨m', fun _ => 0, g'⟩ (fun r => ∀ c : Dev Cert.CmpRefIdeal.nD,
          r.2.mem ((c.tc : Thread Cert.CmpRefIdeal.nD Cert.CmpRefIdeal.τ).loc Cert.CmpRefIdeal.main_v65) = v0 c
          ∧ r.2.mem ((c.tc : Thread Cert.CmpRefIdeal.nD Cert.CmpRefIdeal.τ).loc Cert.CmpRefIdeal.main_v66) = v1 c
          ∧ r.2.mem ((c.tc : Thread Cert.CmpRefIdeal.nD Cert.CmpRefIdeal.τ).loc Cert.CmpRefIdeal.main_arg0) = m' ((c.tc : Thread Cert.CmpRefIdeal.nD Cert.CmpRefIdeal.τ).loc Cert.CmpRefIdeal.main_arg0)
          ∧ r.2.mem ((c.tc : Thread Cert.CmpRefIdeal.nD Cert.CmpRefIdeal.τ).loc Cert.CmpRefIdeal.main_arg1) = m' ((c.tc : Thread Cert.CmpRefIdeal.nD Cert.CmpRefIdeal.τ).loc Cert.CmpRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v7)) (v1 : (c : Dev Cert.ProjIdeal.nD) → Buf (Elt Ideal) ((c.tc : Thread Cert.ProjIdeal.nD Cert.ProjIdeal.τ).loc Cert.ProjIdeal.main_v10)) (v2 : (c : Dev Cert.ProjIdeal.nD) → Buf (Elt Ideal) ((c.tc : Thread Cert.ProjIdeal.nD Cert.ProjIdeal.τ).loc Cert.ProjIdeal.main_v13)) (v3 : (c : Dev Cert.ProjIdeal.nD) → Buf (Elt Ideal) ((c.tc : Thread Cert.ProjIdeal.nD Cert.ProjIdeal.τ).loc Cert.ProjIdeal.main_v16)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v7) = v0 c
          ∧ r.2.mem ((c.tc : Thread Cert.ProjIdeal.nD Cert.ProjIdeal.τ).loc Cert.ProjIdeal.main_v10) = v1 c
          ∧ r.2.mem ((c.tc : Thread Cert.ProjIdeal.nD Cert.ProjIdeal.τ).loc Cert.ProjIdeal.main_v13) = v2 c
          ∧ r.2.mem ((c.tc : Thread Cert.ProjIdeal.nD Cert.ProjIdeal.τ).loc Cert.ProjIdeal.main_v16) = v3 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v64) = v0 c
          ∧ r.2.mem ((c.tc : Thread Cert.ProjRefIdeal.nD Cert.ProjRefIdeal.τ).loc Cert.ProjRefIdeal.main_v41) = v1 c
          ∧ r.2.mem ((c.tc : Thread Cert.ProjRefIdeal.nD Cert.ProjRefIdeal.τ).loc Cert.ProjRefIdeal.main_v61) = v2 c
          ∧ r.2.mem ((c.tc : Thread Cert.ProjRefIdeal.nD Cert.ProjRefIdeal.τ).loc Cert.ProjRefIdeal.main_v63) = v3 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_ProjDec_ProjDecIdeal : Prop :=
  True

def algebraic_ProjDecIdeal_ProjDecRefIdeal [hProjDecIdeal : Cert.ProjDecIdeal.Facts] [hProjDecRefIdeal : Cert.ProjDecRefIdeal.Facts] : Prop :=
  ∀ (m : (ℓ : Loc Cert.ProjDecIdeal.nD Cert.ProjDecIdeal.τ Cert.ProjDecIdeal.sig) → Buf (Elt Ideal) ℓ) (g : Dev Cert.ProjDecIdeal.nD → PrngReg)
    (m' : (ℓ : Loc Cert.ProjDecRefIdeal.nD Cert.ProjDecRefIdeal.τ Cert.ProjDecRefIdeal.sig) → Buf (Elt Ideal) ℓ) (g' : Dev Cert.ProjDecRefIdeal.nD → PrngReg), Pre_ProjDecIdeal m →
    (∀ c : Dev Cert.ProjDecIdeal.nD,
      m' ((c.tc : Thread Cert.ProjDecRefIdeal.nD Cert.ProjDecRefIdeal.τ).loc Cert.ProjDecRefIdeal.main_arg0) = m ((c.tc : Thread Cert.ProjDecIdeal.nD Cert.ProjDecIdeal.τ).loc Cert.ProjDecIdeal.main_arg0)
      ∧ m' ((c.tc : Thread Cert.ProjDecRefIdeal.nD Cert.ProjDecRefIdeal.τ).loc Cert.ProjDecRefIdeal.main_arg1) = m ((c.tc : Thread Cert.ProjDecIdeal.nD Cert.ProjDecIdeal.τ).loc Cert.ProjDecIdeal.main_arg1)
      ∧ m' ((c.tc : Thread Cert.ProjDecRefIdeal.nD Cert.ProjDecRefIdeal.τ).loc Cert.ProjDecRefIdeal.main_arg2) = m ((c.tc : Thread Cert.ProjDecIdeal.nD Cert.ProjDecIdeal.τ).loc Cert.ProjDecIdeal.main_arg2)) →
    ∃ (v0 : (c : Dev Cert.ProjDecIdeal.nD) → Buf (Elt Ideal) ((c.tc : Thread Cert.ProjDecIdeal.nD Cert.ProjDecIdeal.τ).loc Cert.ProjDecIdeal.main_v7)) (v1 : (c : Dev Cert.ProjDecIdeal.nD) → Buf (Elt Ideal) ((c.tc : Thread Cert.ProjDecIdeal.nD Cert.ProjDecIdeal.τ).loc Cert.ProjDecIdeal.main_v10)) (v2 : (c : Dev Cert.ProjDecIdeal.nD) → Buf (Elt Ideal) ((c.tc : Thread Cert.ProjDecIdeal.nD Cert.ProjDecIdeal.τ).loc Cert.ProjDecIdeal.main_v13)) (v3 : (c : Dev Cert.ProjDecIdeal.nD) → Buf (Elt Ideal) ((c.tc : Thread Cert.ProjDecIdeal.nD Cert.ProjDecIdeal.τ).loc Cert.ProjDecIdeal.main_v16)),
      θ_run (Cert.ProjDecIdeal.defs (F := Ideal)) (onTc (τ := Cert.ProjDecIdeal.τ) (Cert.ProjDecIdeal.main (F := Ideal))) ⟨m, fun _ => 0, g⟩ (fun r => ∀ c : Dev Cert.ProjDecIdeal.nD,
          r.2.mem ((c.tc : Thread Cert.ProjDecIdeal.nD Cert.ProjDecIdeal.τ).loc Cert.ProjDecIdeal.main_v7) = v0 c
          ∧ r.2.mem ((c.tc : Thread Cert.ProjDecIdeal.nD Cert.ProjDecIdeal.τ).loc Cert.ProjDecIdeal.main_v10) = v1 c
          ∧ r.2.mem ((c.tc : Thread Cert.ProjDecIdeal.nD Cert.ProjDecIdeal.τ).loc Cert.ProjDecIdeal.main_v13) = v2 c
          ∧ r.2.mem ((c.tc : Thread Cert.ProjDecIdeal.nD Cert.ProjDecIdeal.τ).loc Cert.ProjDecIdeal.main_v16) = v3 c
          ∧ r.2.mem ((c.tc : Thread Cert.ProjDecIdeal.nD Cert.ProjDecIdeal.τ).loc Cert.ProjDecIdeal.main_arg0) = m ((c.tc : Thread Cert.ProjDecIdeal.nD Cert.ProjDecIdeal.τ).loc Cert.ProjDecIdeal.main_arg0)
          ∧ r.2.mem ((c.tc : Thread Cert.ProjDecIdeal.nD Cert.ProjDecIdeal.τ).loc Cert.ProjDecIdeal.main_arg1) = m ((c.tc : Thread Cert.ProjDecIdeal.nD Cert.ProjDecIdeal.τ).loc Cert.ProjDecIdeal.main_arg1)
          ∧ r.2.mem ((c.tc : Thread Cert.ProjDecIdeal.nD Cert.ProjDecIdeal.τ).loc Cert.ProjDecIdeal.main_arg2) = m ((c.tc : Thread Cert.ProjDecIdeal.nD Cert.ProjDecIdeal.τ).loc Cert.ProjDecIdeal.main_arg2))
      ∧ θ_run (Cert.ProjDecRefIdeal.defs (F := Ideal)) (onTc (τ := Cert.ProjDecRefIdeal.τ) (Cert.ProjDecRefIdeal.main (F := Ideal))) ⟨m', fun _ => 0, g'⟩ (fun r => ∀ c : Dev Cert.ProjDecRefIdeal.nD,
          r.2.mem ((c.tc : Thread Cert.ProjDecRefIdeal.nD Cert.ProjDecRefIdeal.τ).loc Cert.ProjDecRefIdeal.main_v64) = v0 c
          ∧ r.2.mem ((c.tc : Thread Cert.ProjDecRefIdeal.nD Cert.ProjDecRefIdeal.τ).loc Cert.ProjDecRefIdeal.main_v41) = v1 c
          ∧ r.2.mem ((c.tc : Thread Cert.ProjDecRefIdeal.nD Cert.ProjDecRefIdeal.τ).loc Cert.ProjDecRefIdeal.main_v61) = v2 c
          ∧ r.2.mem ((c.tc : Thread Cert.ProjDecRefIdeal.nD Cert.ProjDecRefIdeal.τ).loc Cert.ProjDecRefIdeal.main_v63) = v3 c
          ∧ r.2.mem ((c.tc : Thread Cert.ProjDecRefIdeal.nD Cert.ProjDecRefIdeal.τ).loc Cert.ProjDecRefIdeal.main_arg0) = m' ((c.tc : Thread Cert.ProjDecRefIdeal.nD Cert.ProjDecRefIdeal.τ).loc Cert.ProjDecRefIdeal.main_arg0)
          ∧ r.2.mem ((c.tc : Thread Cert.ProjDecRefIdeal.nD Cert.ProjDecRefIdeal.τ).loc Cert.ProjDecRefIdeal.main_arg1) = m' ((c.tc : Thread Cert.ProjDecRefIdeal.nD Cert.ProjDecRefIdeal.τ).loc Cert.ProjDecRefIdeal.main_arg1)
          ∧ r.2.mem ((c.tc : Thread Cert.ProjDecRefIdeal.nD Cert.ProjDecRefIdeal.τ).loc Cert.ProjDecRefIdeal.main_arg2) = m' ((c.tc : Thread Cert.ProjDecRefIdeal.nD Cert.ProjDecRefIdeal.τ).loc Cert.ProjDecRefIdeal.main_arg2))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)
      ∧ m' ((c.tc : Thread Cert.MemKvRefIdeal.nD Cert.MemKvRefIdeal.τ).loc Cert.MemKvRefIdeal.main_arg3) = m ((c.tc : Thread Cert.MemKvIdeal.nD Cert.MemKvIdeal.τ).loc Cert.MemKvIdeal.main_arg3)) →
    ∃ (v0 : (c : Dev Cert.MemKvIdeal.nD) → Buf (Elt Ideal) ((c.tc : Thread Cert.MemKvIdeal.nD Cert.MemKvIdeal.τ).loc Cert.MemKvIdeal.main_v29)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v29) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
          ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v36) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2)
          ∧ r.2.mem ((c.tc : Thread Cert.MemKvRefIdeal.nD Cert.MemKvRefIdeal.τ).loc Cert.MemKvRefIdeal.main_arg3) = m' ((c.tc : Thread Cert.MemKvRefIdeal.nD Cert.MemKvRefIdeal.τ).loc Cert.MemKvRefIdeal.main_arg3))

def preserves_ProjOut_ProjOutIdeal : Prop :=
  True

def algebraic_ProjOutIdeal_ProjOutRefIdeal [hProjOutIdeal : Cert.ProjOutIdeal.Facts] [hProjOutRefIdeal : Cert.ProjOutRefIdeal.Facts] : Prop :=
  ∀ (m : (ℓ : Loc Cert.ProjOutIdeal.nD Cert.ProjOutIdeal.τ Cert.ProjOutIdeal.sig) → Buf (Elt Ideal) ℓ) (g : Dev Cert.ProjOutIdeal.nD → PrngReg)
    (m' : (ℓ : Loc Cert.ProjOutRefIdeal.nD Cert.ProjOutRefIdeal.τ Cert.ProjOutRefIdeal.sig) → Buf (Elt Ideal) ℓ) (g' : Dev Cert.ProjOutRefIdeal.nD → PrngReg), Pre_ProjOutIdeal m →
    (∀ c : Dev Cert.ProjOutIdeal.nD,
      m' ((c.tc : Thread Cert.ProjOutRefIdeal.nD Cert.ProjOutRefIdeal.τ).loc Cert.ProjOutRefIdeal.main_arg0) = m ((c.tc : Thread Cert.ProjOutIdeal.nD Cert.ProjOutIdeal.τ).loc Cert.ProjOutIdeal.main_arg0)
      ∧ m' ((c.tc : Thread Cert.ProjOutRefIdeal.nD Cert.ProjOutRefIdeal.τ).loc Cert.ProjOutRefIdeal.main_arg1) = m ((c.tc : Thread Cert.ProjOutIdeal.nD Cert.ProjOutIdeal.τ).loc Cert.ProjOutIdeal.main_arg1)
      ∧ m' ((c.tc : Thread Cert.ProjOutRefIdeal.nD Cert.ProjOutRefIdeal.τ).loc Cert.ProjOutRefIdeal.main_arg2) = m ((c.tc : Thread Cert.ProjOutIdeal.nD Cert.ProjOutIdeal.τ).loc Cert.ProjOutIdeal.main_arg2)
      ∧ m' ((c.tc : Thread Cert.ProjOutRefIdeal.nD Cert.ProjOutRefIdeal.τ).loc Cert.ProjOutRefIdeal.main_arg3) = m ((c.tc : Thread Cert.ProjOutIdeal.nD Cert.ProjOutIdeal.τ).loc Cert.ProjOutIdeal.main_arg3)
      ∧ m' ((c.tc : Thread Cert.ProjOutRefIdeal.nD Cert.ProjOutRefIdeal.τ).loc Cert.ProjOutRefIdeal.main_arg4) = m ((c.tc : Thread Cert.ProjOutIdeal.nD Cert.ProjOutIdeal.τ).loc Cert.ProjOutIdeal.main_arg4)
      ∧ m' ((c.tc : Thread Cert.ProjOutRefIdeal.nD Cert.ProjOutRefIdeal.τ).loc Cert.ProjOutRefIdeal.main_arg5) = m ((c.tc : Thread Cert.ProjOutIdeal.nD Cert.ProjOutIdeal.τ).loc Cert.ProjOutIdeal.main_arg5)
      ∧ m' ((c.tc : Thread Cert.ProjOutRefIdeal.nD Cert.ProjOutRefIdeal.τ).loc Cert.ProjOutRefIdeal.main_arg6) = m ((c.tc : Thread Cert.ProjOutIdeal.nD Cert.ProjOutIdeal.τ).loc Cert.ProjOutIdeal.main_arg6)
      ∧ m' ((c.tc : Thread Cert.ProjOutRefIdeal.nD Cert.ProjOutRefIdeal.τ).loc Cert.ProjOutRefIdeal.main_arg7) = m ((c.tc : Thread Cert.ProjOutIdeal.nD Cert.ProjOutIdeal.τ).loc Cert.ProjOutIdeal.main_arg7)
      ∧ m' ((c.tc : Thread Cert.ProjOutRefIdeal.nD Cert.ProjOutRefIdeal.τ).loc Cert.ProjOutRefIdeal.main_arg8) = m ((c.tc : Thread Cert.ProjOutIdeal.nD Cert.ProjOutIdeal.τ).loc Cert.ProjOutIdeal.main_arg8)) →
    ∃ (v0 : (c : Dev Cert.ProjOutIdeal.nD) → Buf (Elt Ideal) ((c.tc : Thread Cert.ProjOutIdeal.nD Cert.ProjOutIdeal.τ).loc Cert.ProjOutIdeal.main_v8)),
      θ_run (Cert.ProjOutIdeal.defs (F := Ideal)) (onTc (τ := Cert.ProjOutIdeal.τ) (Cert.ProjOutIdeal.main (F := Ideal))) ⟨m, fun _ => 0, g⟩ (fun r => ∀ c : Dev Cert.ProjOutIdeal.nD,
          r.2.mem ((c.tc : Thread Cert.ProjOutIdeal.nD Cert.ProjOutIdeal.τ).loc Cert.ProjOutIdeal.main_v8) = v0 c
          ∧ r.2.mem ((c.tc : Thread Cert.ProjOutIdeal.nD Cert.ProjOutIdeal.τ).loc Cert.ProjOutIdeal.main_arg0) = m ((c.tc : Thread Cert.ProjOutIdeal.nD Cert.ProjOutIdeal.τ).loc Cert.ProjOutIdeal.main_arg0)
          ∧ r.2.mem ((c.tc : Thread Cert.ProjOutIdeal.nD Cert.ProjOutIdeal.τ).loc Cert.ProjOutIdeal.main_arg1) = m ((c.tc : Thread Cert.ProjOutIdeal.nD Cert.ProjOutIdeal.τ).loc Cert.ProjOutIdeal.main_arg1)
          ∧ r.2.mem ((c.tc : Thread Cert.ProjOutIdeal.nD Cert.ProjOutIdeal.τ).loc Cert.ProjOutIdeal.main_arg2) = m ((c.tc : Thread Cert.ProjOutIdeal.nD Cert.ProjOutIdeal.τ).loc Cert.ProjOutIdeal.main_arg2)
          ∧ r.2.mem ((c.tc : Thread Cert.ProjOutIdeal.nD Cert.ProjOutIdeal.τ).loc Cert.ProjOutIdeal.main_arg3) = m ((c.tc : Thread Cert.ProjOutIdeal.nD Cert.ProjOutIdeal.τ).loc Cert.ProjOutIdeal.main_arg3)
          ∧ r.2.mem ((c.tc : Thread Cert.ProjOutIdeal.nD Cert.ProjOutIdeal.τ).loc Cert.ProjOutIdeal.main_arg4) = m ((c.tc : Thread Cert.ProjOutIdeal.nD Cert.ProjOutIdeal.τ).loc Cert.ProjOutIdeal.main_arg4)
          ∧ r.2.mem ((c.tc : Thread Cert.ProjOutIdeal.nD Cert.ProjOutIdeal.τ).loc Cert.ProjOutIdeal.main_arg5) = m ((c.tc : Thread Cert.ProjOutIdeal.nD Cert.ProjOutIdeal.τ).loc Cert.ProjOutIdeal.main_arg5)
          ∧ r.2.mem ((c.tc : Thread Cert.ProjOutIdeal.nD Cert.ProjOutIdeal.τ).loc Cert.ProjOutIdeal.main_arg6) = m ((c.tc : Thread Cert.ProjOutIdeal.nD Cert.ProjOutIdeal.τ).loc Cert.ProjOutIdeal.main_arg6)
          ∧ r.2.mem ((c.tc : Thread Cert.ProjOutIdeal.nD Cert.ProjOutIdeal.τ).loc Cert.ProjOutIdeal.main_arg7) = m ((c.tc : Thread Cert.ProjOutIdeal.nD Cert.ProjOutIdeal.τ).loc Cert.ProjOutIdeal.main_arg7)
          ∧ r.2.mem ((c.tc : Thread Cert.ProjOutIdeal.nD Cert.ProjOutIdeal.τ).loc Cert.ProjOutIdeal.main_arg8) = m ((c.tc : Thread Cert.ProjOutIdeal.nD Cert.ProjOutIdeal.τ).loc Cert.ProjOutIdeal.main_arg8))
      ∧ θ_run (Cert.ProjOutRefIdeal.defs (F := Ideal)) (onTc (τ := Cert.ProjOutRefIdeal.τ) (Cert.ProjOutRefIdeal.main (F := Ideal))) ⟨m', fun _ => 0, g'⟩ (fun r => ∀ c : Dev Cert.ProjOutRefIdeal.nD,
          r.2.mem ((c.tc : Thread Cert.ProjOutRefIdeal.nD Cert.ProjOutRefIdeal.τ).loc Cert.ProjOutRefIdeal.main_v36) = v0 c
          ∧ r.2.mem ((c.tc : Thread Cert.ProjOutRefIdeal.nD Cert.ProjOutRefIdeal.τ).loc Cert.ProjOutRefIdeal.main_arg0) = m' ((c.tc : Thread Cert.ProjOutRefIdeal.nD Cert.ProjOutRefIdeal.τ).loc Cert.ProjOutRefIdeal.main_arg0)
          ∧ r.2.mem ((c.tc : Thread Cert.ProjOutRefIdeal.nD Cert.ProjOutRefIdeal.τ).loc Cert.ProjOutRefIdeal.main_arg1) = m' ((c.tc : Thread Cert.ProjOutRefIdeal.nD Cert.ProjOutRefIdeal.τ).loc Cert.ProjOutRefIdeal.main_arg1)
          ∧ r.2.mem ((c.tc : Thread Cert.ProjOutRefIdeal.nD Cert.ProjOutRefIdeal.τ).loc Cert.ProjOutRefIdeal.main_arg2) = m' ((c.tc : Thread Cert.ProjOutRefIdeal.nD Cert.ProjOutRefIdeal.τ).loc Cert.ProjOutRefIdeal.main_arg2)
          ∧ r.2.mem ((c.tc : Thread Cert.ProjOutRefIdeal.nD Cert.ProjOutRefIdeal.τ).loc Cert.ProjOutRefIdeal.main_arg3) = m' ((c.tc : Thread Cert.ProjOutRefIdeal.nD Cert.ProjOutRefIdeal.τ).loc Cert.ProjOutRefIdeal.main_arg3)
          ∧ r.2.mem ((c.tc : Thread Cert.ProjOutRefIdeal.nD Cert.ProjOutRefIdeal.τ).loc Cert.ProjOutRefIdeal.main_arg4) = m' ((c.tc : Thread Cert.ProjOutRefIdeal.nD Cert.ProjOutRefIdeal.τ).loc Cert.ProjOutRefIdeal.main_arg4)
          ∧ r.2.mem ((c.tc : Thread Cert.ProjOutRefIdeal.nD Cert.ProjOutRefIdeal.τ).loc Cert.ProjOutRefIdeal.main_arg5) = m' ((c.tc : Thread Cert.ProjOutRefIdeal.nD Cert.ProjOutRefIdeal.τ).loc Cert.ProjOutRefIdeal.main_arg5)
          ∧ r.2.mem ((c.tc : Thread Cert.ProjOutRefIdeal.nD Cert.ProjOutRefIdeal.τ).loc Cert.ProjOutRefIdeal.main_arg6) = m' ((c.tc : Thread Cert.ProjOutRefIdeal.nD Cert.ProjOutRefIdeal.τ).loc Cert.ProjOutRefIdeal.main_arg6)
          ∧ r.2.mem ((c.tc : Thread Cert.ProjOutRefIdeal.nD Cert.ProjOutRefIdeal.τ).loc Cert.ProjOutRefIdeal.main_arg7) = m' ((c.tc : Thread Cert.ProjOutRefIdeal.nD Cert.ProjOutRefIdeal.τ).loc Cert.ProjOutRefIdeal.main_arg7)
          ∧ r.2.mem ((c.tc : Thread Cert.ProjOutRefIdeal.nD Cert.ProjOutRefIdeal.τ).loc Cert.ProjOutRefIdeal.main_arg8) = m' ((c.tc : Thread Cert.ProjOutRefIdeal.nD Cert.ProjOutRefIdeal.τ).loc Cert.ProjOutRefIdeal.main_arg8))

def preserves_Prep_PrepIdeal : Prop :=
  True

def algebraic_PrepIdeal_PrepRefIdeal_pre_prep_finite [hPrepIdeal : Cert.PrepIdeal.Facts] [hPrepRefIdeal : Cert.PrepRefIdeal.Facts] [hPre_prep_finite : Cert.Pre_prep_finite.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal_prep_finite m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)) →
    ∃ (v0 : (c : Dev Cert.PrepIdeal.nD) → Buf (Elt Ideal) ((c.tc : Thread Cert.PrepIdeal.nD Cert.PrepIdeal.τ).loc Cert.PrepIdeal.main_v51_0)) (v1 : (c : Dev Cert.PrepIdeal.nD) → Buf (Elt Ideal) ((c.tc : Thread Cert.PrepIdeal.nD Cert.PrepIdeal.τ).loc Cert.PrepIdeal.main_v51_1)) (v2 : (c : Dev Cert.PrepIdeal.nD) → Buf (Elt Ideal) ((c.tc : Thread Cert.PrepIdeal.nD Cert.PrepIdeal.τ).loc Cert.PrepIdeal.main_v52)) (v3 : (c : Dev Cert.PrepIdeal.nD) → Buf (Elt Ideal) ((c.tc : Thread Cert.PrepIdeal.nD Cert.PrepIdeal.τ).loc Cert.PrepIdeal.main_v54)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v51_0) = v0 c
          ∧ r.2.mem ((c.tc : Thread Cert.PrepIdeal.nD Cert.PrepIdeal.τ).loc Cert.PrepIdeal.main_v51_1) = v1 c
          ∧ r.2.mem ((c.tc : Thread Cert.PrepIdeal.nD Cert.PrepIdeal.τ).loc Cert.PrepIdeal.main_v52) = v2 c
          ∧ r.2.mem ((c.tc : Thread Cert.PrepIdeal.nD Cert.PrepIdeal.τ).loc Cert.PrepIdeal.main_v54) = v3 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v117) = v0 c
          ∧ r.2.mem ((c.tc : Thread Cert.PrepRefIdeal.nD Cert.PrepRefIdeal.τ).loc Cert.PrepRefIdeal.main_v135) = v1 c
          ∧ r.2.mem ((c.tc : Thread Cert.PrepRefIdeal.nD Cert.PrepRefIdeal.τ).loc Cert.PrepRefIdeal.main_v77) = v2 c
          ∧ r.2.mem ((c.tc : Thread Cert.PrepRefIdeal.nD Cert.PrepRefIdeal.τ).loc Cert.PrepRefIdeal.main_v136) = v3 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1))

def Claim : Prop :=
  ∃ (hCmp : Cert.Cmp.Facts) (hCmpIdeal : Cert.CmpIdeal.Facts) (hCmpRefIdeal : Cert.CmpRefIdeal.Facts) (hProj : Cert.Proj.Facts) (hProjIdeal : Cert.ProjIdeal.Facts) (hProjRefIdeal : Cert.ProjRefIdeal.Facts) (hProjDec : Cert.ProjDec.Facts) (hProjDecIdeal : Cert.ProjDecIdeal.Facts) (hProjDecRefIdeal : Cert.ProjDecRefIdeal.Facts) (hMemKv : Cert.MemKv.Facts) (hMemKvIdeal : Cert.MemKvIdeal.Facts) (hMemKvRefIdeal : Cert.MemKvRefIdeal.Facts) (hProjOut : Cert.ProjOut.Facts) (hProjOutIdeal : Cert.ProjOutIdeal.Facts) (hProjOutRefIdeal : Cert.ProjOutRefIdeal.Facts) (hPrep : Cert.Prep.Facts) (hPrepIdeal : Cert.PrepIdeal.Facts) (hPrepRefIdeal : Cert.PrepRefIdeal.Facts) (hPre_cmp_finite : Cert.Pre_cmp_finite.Facts) (hPre_prep_finite : Cert.Pre_prep_finite.Facts),
    quiescent_Cmp (hCmp := hCmp)
    ∧ quiescent_CmpIdeal (hCmpIdeal := hCmpIdeal)
    ∧ quiescent_CmpIdeal_pre_cmp_finite (hCmpIdeal := hCmpIdeal) (hPre_cmp_finite := hPre_cmp_finite)
    ∧ quiescent_CmpRefIdeal (hCmpRefIdeal := hCmpRefIdeal)
    ∧ quiescent_CmpRefIdeal_pre_cmp_finite (hCmpRefIdeal := hCmpRefIdeal) (hPre_cmp_finite := hPre_cmp_finite)
    ∧ quiescent_Proj (hProj := hProj)
    ∧ quiescent_ProjIdeal (hProjIdeal := hProjIdeal)
    ∧ quiescent_ProjRefIdeal (hProjRefIdeal := hProjRefIdeal)
    ∧ quiescent_ProjDec (hProjDec := hProjDec)
    ∧ quiescent_ProjDecIdeal (hProjDecIdeal := hProjDecIdeal)
    ∧ quiescent_ProjDecRefIdeal (hProjDecRefIdeal := hProjDecRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_ProjOut (hProjOut := hProjOut)
    ∧ quiescent_ProjOutIdeal (hProjOutIdeal := hProjOutIdeal)
    ∧ quiescent_ProjOutRefIdeal (hProjOutRefIdeal := hProjOutRefIdeal)
    ∧ quiescent_Prep (hPrep := hPrep)
    ∧ quiescent_PrepIdeal (hPrepIdeal := hPrepIdeal)
    ∧ quiescent_PrepIdeal_pre_prep_finite (hPrepIdeal := hPrepIdeal) (hPre_prep_finite := hPre_prep_finite)
    ∧ quiescent_PrepRefIdeal (hPrepRefIdeal := hPrepRefIdeal)
    ∧ quiescent_PrepRefIdeal_pre_prep_finite (hPrepRefIdeal := hPrepRefIdeal) (hPre_prep_finite := hPre_prep_finite)
    ∧ preserves_Cmp_CmpIdeal
    ∧ algebraic_CmpIdeal_CmpRefIdeal_pre_cmp_finite (hCmpIdeal := hCmpIdeal) (hCmpRefIdeal := hCmpRefIdeal) (hPre_cmp_finite := hPre_cmp_finite)
    ∧ preserves_Proj_ProjIdeal
    ∧ algebraic_ProjIdeal_ProjRefIdeal (hProjIdeal := hProjIdeal) (hProjRefIdeal := hProjRefIdeal)
    ∧ preserves_ProjDec_ProjDecIdeal
    ∧ algebraic_ProjDecIdeal_ProjDecRefIdeal (hProjDecIdeal := hProjDecIdeal) (hProjDecRefIdeal := hProjDecRefIdeal)
    ∧ preserves_MemKv_MemKvIdeal
    ∧ algebraic_MemKvIdeal_MemKvRefIdeal (hMemKvIdeal := hMemKvIdeal) (hMemKvRefIdeal := hMemKvRefIdeal)
    ∧ preserves_ProjOut_ProjOutIdeal
    ∧ algebraic_ProjOutIdeal_ProjOutRefIdeal (hProjOutIdeal := hProjOutIdeal) (hProjOutRefIdeal := hProjOutRefIdeal)
    ∧ preserves_Prep_PrepIdeal
    ∧ algebraic_PrepIdeal_PrepRefIdeal_pre_prep_finite (hPrepIdeal := hPrepIdeal) (hPrepRefIdeal := hPrepRefIdeal) (hPre_prep_finite := hPre_prep_finite)
-- ==== Pre_cmp_finite.lean ====
abbrev S4x4096x256 : Shape := ⟨3, ![4, 4096, 256]⟩
abbrev S4x256x256 : Shape := ⟨3, ![4, 256, 256]⟩
abbrev S_ : Shape := ⟨0, ![]⟩

class Facts : Prop where
  bcast_S_S4x4096x256 : S_.BroadcastsInDim S4x4096x256 (![] : Fin 0 → Fin S4x4096x256.rank)
  reducesTo_S4x4096x256_S_d0_1_2 : S4x4096x256.ReducesTo [0, 1, 2] S_
  h_S_ : 0 < S_.numel
  bcast_S_S4x256x256 : S_.BroadcastsInDim S4x256x256 (![] : Fin 0 → Fin S4x256x256.rank)
  reducesTo_S4x256x256_S_d0_1_2 : S4x256x256.ReducesTo [0, 1, 2] S_

variable [Facts]

def fn {F : FTy → Type} [FloatOps F] (main_arg0 : FVec F S4x4096x256 .f32) (main_arg1 : FVec F S4x256x256 .f32) : IVec S_ 1 :=
  let main_v0 : FVec F S4x4096x256 .f32 := Host.absf main_arg0
  let main_cst : FVec F S_ .f32 := constant S_ .f32 0x7F800000#32
  let main_v1 : FVec F S4x4096x256 .f32 := broadcastInDim S4x4096x256 ![] bcast_S_S4x4096x256 main_cst
  let main_v2 : IVec S4x4096x256 1 := cmpf .olt main_v0 main_v1
  let main_c : IVec S_ 1 := constantI S_ 1 1#1
  let main_v3 : IVec S_ 1 := (fun x v => Host.reduce IntOp.andi x v reducesTo_S4x4096x256_S_d0_1_2 h_S_) main_v2 main_c
  let main_v4 : FVec F S4x256x256 .f32 := Host.absf main_arg1
  let main_cst_0 : FVec F S_ .f32 := constant S_ .f32 0x7F800000#32
  let main_v5 : FVec F S4x256x256 .f32 := broadcastInDim S4x256x256 ![] bcast_S_S4x256x256 main_cst_0
  let main_v6 : IVec S4x256x256 1 := cmpf .olt main_v4 main_v5
  let main_c_1 : IVec S_ 1 := constantI S_ 1 1#1
  let main_v7 : IVec S_ 1 := (fun x v => Host.reduce IntOp.andi x v reducesTo_S4x256x256_S_d0_1_2 h_S_) main_v6 main_c_1
  let main_v8 : IVec S_ 1 := andi main_v3 main_v7
  main_v8
-- ==== Pre_prep_finite.lean ====
abbrev S16384x4480 : Shape := ⟨2, ![16384, 4480]⟩
abbrev S4x64 : Shape := ⟨2, ![4, 64]⟩
abbrev S_ : Shape := ⟨0, ![]⟩

class Facts : Prop where
  bcast_S_S16384x4480 : S_.BroadcastsInDim S16384x4480 (![] : Fin 0 → Fin S16384x4480.rank)
  reducesTo_S16384x4480_S_d0_1 : S16384x4480.ReducesTo [0, 1] S_
  h_S_ : 0 < S_.numel

variable [Facts]

def fn {F : FTy → Type} [FloatOps F] (main_arg0 : FVec F S16384x4480 .f32) (main_arg1 : FVec F S4x64 .f32) : IVec S_ 1 :=
  let main_v0 : FVec F S16384x4480 .f32 := Host.absf main_arg0
  let main_cst : FVec F S_ .f32 := constant S_ .f32 0x7F800000#32
  let main_v1 : FVec F S16384x4480 .f32 := broadcastInDim S16384x4480 ![] bcast_S_S16384x4480 main_cst
  let main_v2 : IVec S16384x4480 1 := cmpf .olt main_v0 main_v1
  let main_c : IVec S_ 1 := constantI S_ 1 1#1
  let main_v3 : IVec S_ 1 := (fun x v => Host.reduce IntOp.andi x v reducesTo_S16384x4480_S_d0_1 h_S_) main_v2 main_c
  main_v3
-- ==== Cmp.lean ====
abbrev S4x4096x256 : Shape := ⟨3, ![4, 4096, 256]⟩
abbrev S4x256x256 : Shape := ⟨3, ![4, 256, 256]⟩
abbrev S256x128 : Shape := ⟨2, ![256, 128]⟩
abbrev S4x2x4096x128 : Shape := ⟨4, ![4, 2, 4096, 128]⟩
abbrev S1x512x128 : Shape := ⟨3, ![1, 512, 128]⟩
abbrev S1x256x128 : Shape := ⟨3, ![1, 256, 128]⟩
abbrev S1x1x512x128 : Shape := ⟨4, ![1, 1, 512, 128]⟩
abbrev S256x64 : Shape := ⟨2, ![256, 64]⟩
abbrev S512x128 : Shape := ⟨2, ![512, 128]⟩
abbrev S512x1 : Shape := ⟨2, ![512, 1]⟩
abbrev S1x256 : Shape := ⟨2, ![1, 256]⟩
abbrev S512x256 : Shape := ⟨2, ![512, 256]⟩
abbrev S512x64 : Shape := ⟨2, ![512, 64]⟩
abbrev S512 : Shape := ⟨1, ![512]⟩

abbrev nBuf : Space → Nat
  | .hbm => 5
  | .vmem => 9
  | .smem => 0
  | _ => 0

abbrev bufTy : (tb : Table) → Fin (tcTables nBuf tb) → BufTy
  | .hbm, ⟨0, _⟩ => ⟨S4x4096x256, .f32⟩
  | .hbm, ⟨1, _⟩ => ⟨S4x256x256, .f32⟩
  | .hbm, ⟨2, _⟩ => ⟨S256x128, .bf16⟩
  | .hbm, ⟨3, _⟩ => ⟨S4x4096x256, .f32⟩
  | .hbm, ⟨4, _⟩ => ⟨S4x2x4096x128, .f32⟩
  | .local _ .vmem, ⟨0, _⟩ => ⟨S1x512x128, .f32⟩
  | .local _ .vmem, ⟨1, _⟩ => ⟨S1x512x128, .f32⟩
  | .local _ .vmem, ⟨2, _⟩ => ⟨S1x256x128, .f32⟩
  | .local _ .vmem, ⟨3, _⟩ => ⟨S1x256x128, .f32⟩
  | .local _ .vmem, ⟨4, _⟩ => ⟨S256x128, .bf16⟩
  | .local _ .vmem, ⟨5, _⟩ => ⟨S1x512x128, .f32⟩
  | .local _ .vmem, ⟨6, _⟩ => ⟨S1x512x128, .f32⟩
  | .local _ .vmem, ⟨7, _⟩ => ⟨S1x1x512x128, .f32⟩
  | .local _ .vmem, ⟨8, _⟩ => ⟨S1x1x512x128, .f32⟩
  | _, _ => ⟨S4x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 2, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 1 → Memref sig .tc .vmem S256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== CmpRefIdeal.lean ====
abbrev S4x4096x256 : Shape := ⟨3, ![4, 4096, 256]⟩
abbrev S4x256x256 : Shape := ⟨3, ![4, 256, 256]⟩
abbrev S4x256x2x2x64 : Shape := ⟨5, ![4, 256, 2, 2, 64]⟩
abbrev S4x255x2x2x64 : Shape := ⟨5, ![4, 255, 2, 2, 64]⟩
abbrev S4x4096x2x2x64 : Shape := ⟨5, ![4, 4096, 2, 2, 64]⟩
abbrev S4x255x2x1x64 : Shape := ⟨5, ![4, 255, 2, 1, 64]⟩
abbrev S4x255x2x64 : Shape := ⟨4, ![4, 255, 2, 64]⟩
abbrev S4x2x255x4096x2 : Shape := ⟨5, ![4, 2, 255, 4096, 2]⟩
abbrev S4x2x2x4096x255 : Shape := ⟨5, ![4, 2, 2, 4096, 255]⟩
abbrev S_ : Shape := ⟨0, ![]⟩
abbrev S4096 : Shape := ⟨1, ![4096]⟩
abbrev S255 : Shape := ⟨1, ![255]⟩
abbrev S1x255 : Shape := ⟨2, ![1, 255]⟩
abbrev S4096x1 : Shape := ⟨2, ![4096, 1]⟩
abbrev S4096x255 : Shape := ⟨2, ![4096, 255]⟩
abbrev S4x2x2x4096 : Shape := ⟨4, ![4, 2, 2, 4096]⟩
abbrev S4x2x2x4096x1 : Shape := ⟨5, ![4, 2, 2, 4096, 1]⟩
abbrev S4x2x64x2x4096 : Shape := ⟨5, ![4, 2, 64, 2, 4096]⟩
abbrev S4x2x4096x255 : Shape := ⟨4, ![4, 2, 4096, 255]⟩
abbrev S255x1 : Shape := ⟨2, ![255, 1]⟩
abbrev S64 : Shape := ⟨1, ![64]⟩
abbrev S1x64 : Shape := ⟨2, ![1, 64]⟩
abbrev S255x64 : Shape := ⟨2, ![255, 64]⟩
abbrev S4x2x4096x64 : Shape := ⟨4, ![4, 2, 4096, 64]⟩
abbrev S4x2x4096x128 : Shape := ⟨4, ![4, 2, 4096, 128]⟩

abbrev nBuf : Space → Nat
  | .hbm => 91
  | .vmem => 0
  | .smem => 0
  | _ => 0

abbrev bufTy : (tb : Table) → Fin (tcTables nBuf tb) → BufTy
  | .hbm, ⟨0, _⟩ => ⟨S4x4096x256, .f32⟩
  | .hbm, ⟨1, _⟩ => ⟨S4x256x256, .f32⟩
  | .hbm, ⟨2, _⟩ => ⟨S4x256x2x2x64, .f32⟩
  | .hbm, ⟨3, _⟩ => ⟨S4x255x2x2x64, .f32⟩
  | .hbm, ⟨4, _⟩ => ⟨S4x4096x2x2x64, .f32⟩
  | .hbm, ⟨5, _⟩ => ⟨S4x255x2x1x64, .f32⟩
  | .hbm, ⟨6, _⟩ => ⟨S4x255x2x64, .f32⟩
  | .hbm, ⟨7, _⟩ => ⟨S4x2x255x4096x2, .f32⟩
  | .hbm, ⟨8, _⟩ => ⟨S4x2x2x4096x255, .f32⟩
  | .hbm, ⟨9, _⟩ => ⟨S_, .f32⟩
  | .hbm, ⟨10, _⟩ => ⟨S4x2x2x4096x255, .f32⟩
  | .hbm, ⟨11, _⟩ => ⟨S4x2x2x4096x255, .f32⟩
  | .hbm, ⟨12, _⟩ => ⟨S4096, .i32⟩
  | .hbm, ⟨13, _⟩ => ⟨S255, .i32⟩
  | .hbm, ⟨14, _⟩ => ⟨S_, .i32⟩
  | .hbm, ⟨15, _⟩ => ⟨S255, .i32⟩
  | .hbm, ⟨16, _⟩ => ⟨S255, .i32⟩
  | .hbm, ⟨17, _⟩ => ⟨S_, .i32⟩
  | .hbm, ⟨18, _⟩ => ⟨S255, .i32⟩
  | .hbm, ⟨19, _⟩ => ⟨S255, .i32⟩
  | .hbm, ⟨20, _⟩ => ⟨S1x255, .i32⟩
  | .hbm, ⟨21, _⟩ => ⟨S4096x1, .i32⟩
  | .hbm, ⟨22, _⟩ => ⟨S4096x255, .i32⟩
  | .hbm, ⟨23, _⟩ => ⟨S4096x255, .i32⟩
  | .hbm, ⟨24, _⟩ => ⟨S4096x255, .i1⟩
  | .hbm, ⟨25, _⟩ => ⟨S_, .f32⟩
  | .hbm, ⟨26, _⟩ => ⟨S_, .f32⟩
  | .hbm, ⟨27, _⟩ => ⟨S4x2x2x4096x255, .i1⟩
  | .hbm, ⟨28, _⟩ => ⟨S4x2x2x4096x255, .f32⟩
  | .hbm, ⟨29, _⟩ => ⟨S4x2x2x4096x255, .f32⟩
  | .hbm, ⟨30, _⟩ => ⟨S_, .f32⟩
  | .hbm, ⟨31, _⟩ => ⟨S4x2x2x4096, .f32⟩
  | .hbm, ⟨32, _⟩ => ⟨S4x2x2x4096x1, .f32⟩
  | .hbm, ⟨33, _⟩ => ⟨S4x2x2x4096x1, .f32⟩
  | .hbm, ⟨34, _⟩ => ⟨S_, .f32⟩
  | .hbm, ⟨35, _⟩ => ⟨S4x2x2x4096x1, .f32⟩
  | .hbm, ⟨36, _⟩ => ⟨S4x2x2x4096x1, .i1⟩
  | .hbm, ⟨37, _⟩ => ⟨S_, .f32⟩
  | .hbm, ⟨38, _⟩ => ⟨S_, .f32⟩
  | .hbm, ⟨39, _⟩ => ⟨S4x2x2x4096x1, .f32⟩
  | .hbm, ⟨40, _⟩ => ⟨S4x2x2x4096x1, .f32⟩
  | .hbm, ⟨41, _⟩ => ⟨S4x2x2x4096x255, .f32⟩
  | .hbm, ⟨42, _⟩ => ⟨S4x2x2x4096x255, .f32⟩
  | .hbm, ⟨43, _⟩ => ⟨S4x2x2x4096x255, .f32⟩
  | .hbm, ⟨44, _⟩ => ⟨S_, .f32⟩
  | .hbm, ⟨45, _⟩ => ⟨S4x2x2x4096, .f32⟩
  | .hbm, ⟨46, _⟩ => ⟨S4x2x2x4096x1, .f32⟩
  | .hbm, ⟨47, _⟩ => ⟨S_, .f32⟩
  | .hbm, ⟨48, _⟩ => ⟨S4x2x2x4096x1, .f32⟩
  | .hbm, ⟨49, _⟩ => ⟨S4x2x2x4096x1, .f32⟩
  | .hbm, ⟨50, _⟩ => ⟨S4x2x2x4096x255, .f32⟩
  | .hbm, ⟨51, _⟩ => ⟨S4x2x2x4096x255, .f32⟩
  | .hbm, ⟨52, _⟩ => ⟨S4x255x2x1x64, .f32⟩
  | .hbm, ⟨53, _⟩ => ⟨S4x255x2x64, .f32⟩
  | .hbm, ⟨54, _⟩ => ⟨S4x2x64x2x4096, .f32⟩
  | .hbm, ⟨55, _⟩ => ⟨S4x4096x2x2x64, .f32⟩
  | .hbm, ⟨56, _⟩ => ⟨S_, .f32⟩
  | .hbm, ⟨57, _⟩ => ⟨S4x2x4096x255, .f32⟩
  | .hbm, ⟨58, _⟩ => ⟨S255, .i32⟩
  | .hbm, ⟨59, _⟩ => ⟨S255x1, .i32⟩
  | .hbm, ⟨60, _⟩ => ⟨S_, .i32⟩
  | .hbm, ⟨61, _⟩ => ⟨S255x1, .i32⟩
  | .hbm, ⟨62, _⟩ => ⟨S255x1, .i32⟩
  | .hbm, ⟨63, _⟩ => ⟨S64, .i32⟩
  | .hbm, ⟨64, _⟩ => ⟨S_, .i32⟩
  | .hbm, ⟨65, _⟩ => ⟨S64, .i32⟩
  | .hbm, ⟨66, _⟩ => ⟨S64, .i32⟩
  | .hbm, ⟨67, _⟩ => ⟨S_, .i32⟩
  | .hbm, ⟨68, _⟩ => ⟨S64, .i32⟩
  | .hbm, ⟨69, _⟩ => ⟨S64, .i32⟩
  | .hbm, ⟨70, _⟩ => ⟨S1x64, .i32⟩
  | .hbm, ⟨71, _⟩ => ⟨S255x64, .i32⟩
  | .hbm, ⟨72, _⟩ => ⟨S255x64, .i32⟩
  | .hbm, ⟨73, _⟩ => ⟨S255x64, .i1⟩
  | .hbm, ⟨74, _⟩ => ⟨S_, .i32⟩
  | .hbm, ⟨75, _⟩ => ⟨S255x1, .i32⟩
  | .hbm, ⟨76, _⟩ => ⟨S255x1, .i32⟩
  | .hbm, ⟨77, _⟩ => ⟨S_, .i32⟩
  | .hbm, ⟨78, _⟩ => ⟨S64, .i32⟩
  | .hbm, ⟨79, _⟩ => ⟨S64, .i32⟩
  | .hbm, ⟨80, _⟩ => ⟨S1x64, .i32⟩
  | .hbm, ⟨81, _⟩ => ⟨S255x64, .i32⟩
  | .hbm, ⟨82, _⟩ => ⟨S255x64, .i32⟩
  | .hbm, ⟨83, _⟩ => ⟨S255x64, .i1⟩
  | .hbm, ⟨84, _⟩ => ⟨S255x64, .i1⟩
  | .hbm, ⟨85, _⟩ => ⟨S255x64, .f32⟩
  | .hbm, ⟨86, _⟩ => ⟨S4x2x4096x64, .f32⟩
  | .hbm, ⟨87, _⟩ => ⟨S4x4096x256, .f32⟩
  | .hbm, ⟨88, _⟩ => ⟨S_, .i32⟩
  | .hbm, ⟨89, _⟩ => ⟨S_, .f32⟩
  | .hbm, ⟨90, _⟩ => ⟨S4x2x4096x128, .f32⟩
  | _, _ => ⟨S4x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c : Ref sig .tc := ⟨.hbm, 14, rfl⟩
abbrev main_v11 : Ref sig .tc := ⟨.hbm, 15, rfl⟩
abbrev main_v12 : Ref sig .tc := ⟨.hbm, 16, rfl⟩
abbrev main_c_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_call1_v0 : Ref sig .tc := ⟨.hbm, 38, rfl⟩
abbrev main_call1_v1 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_c_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_c_9 : Ref sig .tc := ⟨.hbm, 64, rfl⟩
abbrev main_v46 : Ref sig .tc := ⟨.hbm, 65, rfl⟩
abbrev main_v47 : Ref sig .tc := ⟨.hbm, 66, rfl⟩
abbrev main_c_10 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_c_11 : Ref sig .tc := ⟨.hbm, 74, rfl⟩
abbrev main_v54 : Ref sig .tc := ⟨.hbm, 75, rfl⟩
abbrev main_v55 : Ref sig .tc := ⟨.hbm, 76, rfl⟩
abbrev main_c_12 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_c_13 : Ref sig .tc := ⟨.hbm, 88, rfl⟩
abbrev main_call2_v0 : Ref sig .tc := ⟨.hbm, 89, rfl⟩
abbrev main_v66 : Ref sig .tc := ⟨.hbm, 90, rfl⟩

abbrev nD : Nat := 1
abbrev τ : Topo := Topo.v7x

variable {F : FTy → Type} [FloatOps F]
-- ==== Proj.lean ====
abbrev S4x4096x1024 : Shape := ⟨3, ![4, 4096, 1024]⟩
abbrev S1024 : Shape := ⟨1, ![1024]⟩
abbrev S1024x4244 : Shape := ⟨2, ![1024, 4244]⟩
abbrev S4480 : Shape := ⟨1, ![4480]⟩
abbrev S_ : Shape := ⟨0, ![]⟩
abbrev S4480x1 : Shape := ⟨2, ![4480, 1]⟩
abbrev S1 : Shape := ⟨1, ![1]⟩
abbrev S1x1 : Shape := ⟨2, ![1, 1]⟩
abbrev S1024x4480 : Shape := ⟨2, ![1024, 4480]⟩
abbrev S1x4480 : Shape := ⟨2, ![1, 4480]⟩
abbrev S16384x1024 : Shape := ⟨2, ![16384, 1024]⟩
abbrev S1x1024 : Shape := ⟨2, ![1, 1024]⟩
abbrev S16384x4480 : Shape := ⟨2, ![16384, 4480]⟩
abbrev S512x1024 : Shape := ⟨2, ![512, 1024]⟩
abbrev S512x4480 : Shape := ⟨2, ![512, 4480]⟩
abbrev S512 : Shape := ⟨1, ![512]⟩
abbrev S512x1 : Shape := ⟨2, ![512, 1]⟩
abbrev S1024x640 : Shape := ⟨2, ![1024, 640]⟩
abbrev S512x640 : Shape := ⟨2, ![512, 640]⟩
abbrev S4x4096x4480 : Shape := ⟨3, ![4, 4096, 4480]⟩
abbrev S4x4096x256 : Shape := ⟨3, ![4, 4096, 256]⟩
abbrev S4x4096x2x2x64 : Shape := ⟨5, ![4, 4096, 2, 2, 64]⟩
abbrev S4x3x256 : Shape := ⟨3, ![4, 3, 256]⟩
abbrev S4x3x512 : Shape := ⟨3, ![4, 3, 512]⟩
abbrev S4x1x768 : Shape := ⟨3, ![4, 1, 768]⟩
abbrev S4x1x128 : Shape := ⟨3, ![4, 1, 128]⟩
abbrev S4x1x896 : Shape := ⟨3, ![4, 1, 896]⟩

abbrev nBuf : Space → Nat
  | .hbm => 44
  | .vmem => 6
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x4244, .f32⟩
  | .hbm, ⟨3, _⟩ => ⟨S4480, .i32⟩
  | .hbm, ⟨4, _⟩ => ⟨S4480, .f32⟩
  | .hbm, ⟨5, _⟩ => ⟨S_, .i32⟩
  | .hbm, ⟨6, _⟩ => ⟨S4480, .i32⟩
  | .hbm, ⟨7, _⟩ => ⟨S4480, .i1⟩
  | .hbm, ⟨8, _⟩ => ⟨S_, .i32⟩
  | .hbm, ⟨9, _⟩ => ⟨S4480, .i32⟩
  | .hbm, ⟨10, _⟩ => ⟨S4480, .i32⟩
  | .hbm, ⟨11, _⟩ => ⟨S4480, .i32⟩
  | .hbm, ⟨12, _⟩ => ⟨S4480x1, .i32⟩
  | .hbm, ⟨13, _⟩ => ⟨S1, .i32⟩
  | .hbm, ⟨14, _⟩ => ⟨S_, .i32⟩
  | .hbm, ⟨15, _⟩ => ⟨S4480x1, .i32⟩
  | .hbm, ⟨16, _⟩ => ⟨S4480x1, .i1⟩
  | .hbm, ⟨17, _⟩ => ⟨S1x1, .i32⟩
  | .hbm, ⟨18, _⟩ => ⟨S4480x1, .i32⟩
  | .hbm, ⟨19, _⟩ => ⟨S4480x1, .i1⟩
  | .hbm, ⟨20, _⟩ => ⟨S4480x1, .i1⟩
  | .hbm, ⟨21, _⟩ => ⟨S_, .i1⟩
  | .hbm, ⟨22, _⟩ => ⟨S4480, .i1⟩
  | .hbm, ⟨23, _⟩ => ⟨S1024x4480, .f32⟩
  | .hbm, ⟨24, _⟩ => ⟨S1024x4480, .i1⟩
  | .hbm, ⟨25, _⟩ => ⟨S_, .f32⟩
  | .hbm, ⟨26, _⟩ => ⟨S1024x4480, .f32⟩
  | .hbm, ⟨27, _⟩ => ⟨S1024x4480, .f32⟩
  | .hbm, ⟨28, _⟩ => ⟨S1x4480, .f32⟩
  | .hbm, ⟨29, _⟩ => ⟨S1024x4480, .f32⟩
  | .hbm, ⟨30, _⟩ => ⟨S1024x4480, .f32⟩
  | .hbm, ⟨31, _⟩ => ⟨S1024x4480, .bf16⟩
  | .hbm, ⟨32, _⟩ => ⟨S16384x1024, .f32⟩
  | .hbm, ⟨33, _⟩ => ⟨S1x1024, .f32⟩
  | .hbm, ⟨34, _⟩ => ⟨S16384x4480, .f32⟩
  | .hbm, ⟨35, _⟩ => ⟨S4x4096x4480, .f32⟩
  | .hbm, ⟨36, _⟩ => ⟨S4x4096x256, .f32⟩
  | .hbm, ⟨37, _⟩ => ⟨S4x4096x2x2x64, .f32⟩
  | .hbm, ⟨38, _⟩ => ⟨S4x3x256, .f32⟩
  | .hbm, ⟨39, _⟩ => ⟨S4x3x256, .f32⟩
  | .hbm, ⟨40, _⟩ => ⟨S4x3x512, .f32⟩
  | .hbm, ⟨41, _⟩ => ⟨S4x1x768, .f32⟩
  | .hbm, ⟨42, _⟩ => ⟨S4x1x128, .f32⟩
  | .hbm, ⟨43, _⟩ => ⟨S4x1x896, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4480, .bf16⟩
  | .local _ .vmem, ⟨4, _⟩ => ⟨S512x4480, .f32⟩
  | .local _ .vmem, ⟨5, _⟩ => ⟨S512x4480, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_cst : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4480 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4480 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ProjRefIdeal.lean ====
abbrev S4x4096x1024 : Shape := ⟨3, ![4, 4096, 1024]⟩
abbrev S1024 : Shape := ⟨1, ![1024]⟩
abbrev S1024x4244 : Shape := ⟨2, ![1024, 4244]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x4244 : Shape := ⟨3, ![4, 4096, 4244]⟩
abbrev S4x4096x256 : Shape := ⟨3, ![4, 4096, 256]⟩
abbrev S4x4096x4 : Shape := ⟨3, ![4, 4096, 4]⟩
abbrev S4x4096x128 : Shape := ⟨3, ![4, 4096, 128]⟩
abbrev S4x4096x12 : Shape := ⟨3, ![4, 4096, 12]⟩
abbrev S4x4096x2x64 : Shape := ⟨4, ![4, 4096, 2, 64]⟩
abbrev S4x4096x2x1x64 : Shape := ⟨5, ![4, 4096, 2, 1, 64]⟩
abbrev S4x4096x2x2x64 : Shape := ⟨5, ![4, 4096, 2, 2, 64]⟩
abbrev S4x4096x120 : Shape := ⟨3, ![4, 4096, 120]⟩
abbrev S4x4096x116 : Shape := ⟨3, ![4, 4096, 116]⟩
abbrev S4x4096x4096 : Shape := ⟨3, ![4, 4096, 4096]⟩
abbrev S4x4096x384 : Shape := ⟨3, ![4, 4096, 384]⟩
abbrev S4x4096x4480 : Shape := ⟨3, ![4, 4096, 4480]⟩
abbrev S4x4096x512 : Shape := ⟨3, ![4, 4096, 512]⟩
abbrev S4x3x512 : Shape := ⟨3, ![4, 3, 512]⟩
abbrev S4x4096x896 : Shape := ⟨3, ![4, 4096, 896]⟩
abbrev S4x1x896 : Shape := ⟨3, ![4, 1, 896]⟩
abbrev S16384x4480 : Shape := ⟨2, ![16384, 4480]⟩

abbrev nBuf : Space → Nat
  | .hbm => 73
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x4244, .f32⟩
  | .hbm, ⟨3, _⟩ => ⟨S4x4096x1024, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x1, .f32⟩
  | .hbm, ⟨14, _⟩ => ⟨S4x4096x1024, .f32⟩
  | .hbm, ⟨15, _⟩ => ⟨S4x4096x1024, .f32⟩
  | .hbm, ⟨16, _⟩ => ⟨S1x1x1024, .f32⟩
  | .hbm, ⟨17, _⟩ => ⟨S4x4096x1024, .f32⟩
  | .hbm, ⟨18, _⟩ => ⟨S4x4096x1024, .f32⟩
  | .hbm, ⟨19, _⟩ => ⟨S4x4096x4244, .f32⟩
  | .hbm, ⟨20, _⟩ => ⟨S4x4096x256, .f32⟩
  | .hbm, ⟨21, _⟩ => ⟨S4x4096x256, .f32⟩
  | .hbm, ⟨22, _⟩ => ⟨S4x4096x256, .f32⟩
  | .hbm, ⟨23, _⟩ => ⟨S4x4096x4, .f32⟩
  | .hbm, ⟨24, _⟩ => ⟨S4x4096x4, .f32⟩
  | .hbm, ⟨25, _⟩ => ⟨S4x4096x256, .f32⟩
  | .hbm, ⟨26, _⟩ => ⟨S4x4096x256, .f32⟩
  | .hbm, ⟨27, _⟩ => ⟨S4x4096x256, .f32⟩
  | .hbm, ⟨28, _⟩ => ⟨S4x4096x128, .f32⟩
  | .hbm, ⟨29, _⟩ => ⟨S4x4096x128, .f32⟩
  | .hbm, ⟨30, _⟩ => ⟨S4x4096x128, .f32⟩
  | .hbm, ⟨31, _⟩ => ⟨S4x4096x128, .f32⟩
  | .hbm, ⟨32, _⟩ => ⟨S4x4096x128, .f32⟩
  | .hbm, ⟨33, _⟩ => ⟨S4x4096x128, .f32⟩
  | .hbm, ⟨34, _⟩ => ⟨S4x4096x12, .f32⟩
  | .hbm, ⟨35, _⟩ => ⟨S4x4096x256, .f32⟩
  | .hbm, ⟨36, _⟩ => ⟨S4x4096x256, .f32⟩
  | .hbm, ⟨37, _⟩ => ⟨S4x4096x256, .f32⟩
  | .hbm, ⟨38, _⟩ => ⟨S4x4096x256, .f32⟩
  | .hbm, ⟨39, _⟩ => ⟨S4x4096x128, .f32⟩
  | .hbm, ⟨40, _⟩ => ⟨S4x4096x256, .f32⟩
  | .hbm, ⟨41, _⟩ => ⟨S4x4096x256, .f32⟩
  | .hbm, ⟨42, _⟩ => ⟨S4x4096x256, .f32⟩
  | .hbm, ⟨43, _⟩ => ⟨S4x4096x2x64, .f32⟩
  | .hbm, ⟨44, _⟩ => ⟨S4x4096x2x64, .f32⟩
  | .hbm, ⟨45, _⟩ => ⟨S4x4096x2x1x64, .f32⟩
  | .hbm, ⟨46, _⟩ => ⟨S4x4096x2x1x64, .f32⟩
  | .hbm, ⟨47, _⟩ => ⟨S4x4096x2x2x64, .f32⟩
  | .hbm, ⟨48, _⟩ => ⟨S4x4096x256, .f32⟩
  | .hbm, ⟨49, _⟩ => ⟨S4x4096x2x64, .f32⟩
  | .hbm, ⟨50, _⟩ => ⟨S4x4096x2x64, .f32⟩
  | .hbm, ⟨51, _⟩ => ⟨S4x4096x2x1x64, .f32⟩
  | .hbm, ⟨52, _⟩ => ⟨S4x4096x2x1x64, .f32⟩
  | .hbm, ⟨53, _⟩ => ⟨S4x4096x2x2x64, .f32⟩
  | .hbm, ⟨54, _⟩ => ⟨S4x4096x256, .f32⟩
  | .hbm, ⟨55, _⟩ => ⟨S4x4096x2x64, .f32⟩
  | .hbm, ⟨56, _⟩ => ⟨S4x4096x2x64, .f32⟩
  | .hbm, ⟨57, _⟩ => ⟨S4x4096x2x1x64, .f32⟩
  | .hbm, ⟨58, _⟩ => ⟨S4x4096x2x1x64, .f32⟩
  | .hbm, ⟨59, _⟩ => ⟨S4x4096x2x2x64, .f32⟩
  | .hbm, ⟨60, _⟩ => ⟨S4x4096x256, .f32⟩
  | .hbm, ⟨61, _⟩ => ⟨S_, .f32⟩
  | .hbm, ⟨62, _⟩ => ⟨S4x4096x120, .f32⟩
  | .hbm, ⟨63, _⟩ => ⟨S_, .f32⟩
  | .hbm, ⟨64, _⟩ => ⟨S4x4096x116, .f32⟩
  | .hbm, ⟨65, _⟩ => ⟨S4x4096x4096, .f32⟩
  | .hbm, ⟨66, _⟩ => ⟨S4x4096x384, .f32⟩
  | .hbm, ⟨67, _⟩ => ⟨S4x4096x4480, .f32⟩
  | .hbm, ⟨68, _⟩ => ⟨S4x4096x512, .f32⟩
  | .hbm, ⟨69, _⟩ => ⟨S4x3x512, .f32⟩
  | .hbm, ⟨70, _⟩ => ⟨S4x4096x896, .f32⟩
  | .hbm, ⟨71, _⟩ => ⟨S4x1x896, .f32⟩
  | .hbm, ⟨72, _⟩ => ⟨S16384x4480, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_cst_2 : Ref sig .tc := ⟨.hbm, 61, rfl⟩
abbrev main_v55 : Ref sig .tc := ⟨.hbm, 62, rfl⟩
abbrev main_cst_3 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩

abbrev nD : Nat := 1
abbrev τ : Topo := Topo.v7x

variable {F : FTy → Type} [FloatOps F]
-- ==== ProjDec.lean ====
abbrev S32x4x1024 : Shape := ⟨3, ![32, 4, 1024]⟩
abbrev S1024 : Shape := ⟨1, ![1024]⟩
abbrev S1024x4244 : Shape := ⟨2, ![1024, 4244]⟩
abbrev S4480 : Shape := ⟨1, ![4480]⟩
abbrev S_ : Shape := ⟨0, ![]⟩
abbrev S4480x1 : Shape := ⟨2, ![4480, 1]⟩
abbrev S1 : Shape := ⟨1, ![1]⟩
abbrev S1x1 : Shape := ⟨2, ![1, 1]⟩
abbrev S1024x4480 : Shape := ⟨2, ![1024, 4480]⟩
abbrev S1x4480 : Shape := ⟨2, ![1, 4480]⟩
abbrev S128x1024 : Shape := ⟨2, ![128, 1024]⟩
abbrev S1x1024 : Shape := ⟨2, ![1, 1024]⟩
abbrev S128x4480 : Shape := ⟨2, ![128, 4480]⟩
abbrev S128 : Shape := ⟨1, ![128]⟩
abbrev S128x1 : Shape := ⟨2, ![128, 1]⟩
abbrev S1024x640 : Shape := ⟨2, ![1024, 640]⟩
abbrev S128x640 : Shape := ⟨2, ![128, 640]⟩
abbrev S32x4x4480 : Shape := ⟨3, ![32, 4, 4480]⟩
abbrev S32x4x256 : Shape := ⟨3, ![32, 4, 256]⟩
abbrev S32x4x2x2x64 : Shape := ⟨5, ![32, 4, 2, 2, 64]⟩
abbrev S32x3x256 : Shape := ⟨3, ![32, 3, 256]⟩
abbrev S32x3x512 : Shape := ⟨3, ![32, 3, 512]⟩
abbrev S32x1x768 : Shape := ⟨3, ![32, 1, 768]⟩
abbrev S32x1x128 : Shape := ⟨3, ![32, 1, 128]⟩
abbrev S32x1x896 : Shape := ⟨3, ![32, 1, 896]⟩

abbrev nBuf : Space → Nat
  | .hbm => 44
  | .vmem => 4
  | .smem => 0
  | _ => 0

abbrev bufTy : (tb : Table) → Fin (tcTables nBuf tb) → BufTy
  | .hbm, ⟨0, _⟩ => ⟨S32x4x1024, .f32⟩
  | .hbm, ⟨1, _⟩ => ⟨S1024, .f32⟩
  | .hbm, ⟨2, _⟩ => ⟨S1024x4244, .f32⟩
  | .hbm, ⟨3, _⟩ => ⟨S4480, .i32⟩
  | .hbm, ⟨4, _⟩ => ⟨S4480, .f32⟩
  | .hbm, ⟨5, _⟩ => ⟨S_, .i32⟩
  | .hbm, ⟨6, _⟩ => ⟨S4480, .i32⟩
  | .hbm, ⟨7, _⟩ => ⟨S4480, .i1⟩
  | .hbm, ⟨8, _⟩ => ⟨S_, .i32⟩
  | .hbm, ⟨9, _⟩ => ⟨S4480, .i32⟩
  | .hbm, ⟨10, _⟩ => ⟨S4480, .i32⟩
  | .hbm, ⟨11, _⟩ => ⟨S4480, .i32⟩
  | .hbm, ⟨12, _⟩ => ⟨S4480x1, .i32⟩
  | .hbm, ⟨13, _⟩ => ⟨S1, .i32⟩
  | .hbm, ⟨14, _⟩ => ⟨S_, .i32⟩
  | .hbm, ⟨15, _⟩ => ⟨S4480x1, .i32⟩
  | .hbm, ⟨16, _⟩ => ⟨S4480x1, .i1⟩
  | .hbm, ⟨17, _⟩ => ⟨S1x1, .i32⟩
  | .hbm, ⟨18, _⟩ => ⟨S4480x1, .i32⟩
  | .hbm, ⟨19, _⟩ => ⟨S4480x1, .i1⟩
  | .hbm, ⟨20, _⟩ => ⟨S4480x1, .i1⟩
  | .hbm, ⟨21, _⟩ => ⟨S_, .i1⟩
  | .hbm, ⟨22, _⟩ => ⟨S4480, .i1⟩
  | .hbm, ⟨23, _⟩ => ⟨S1024x4480, .f32⟩
  | .hbm, ⟨24, _⟩ => ⟨S1024x4480, .i1⟩
  | .hbm, ⟨25, _⟩ => ⟨S_, .f32⟩
  | .hbm, ⟨26, _⟩ => ⟨S1024x4480, .f32⟩
  | .hbm, ⟨27, _⟩ => ⟨S1024x4480, .f32⟩
  | .hbm, ⟨28, _⟩ => ⟨S1x4480, .f32⟩
  | .hbm, ⟨29, _⟩ => ⟨S1024x4480, .f32⟩
  | .hbm, ⟨30, _⟩ => ⟨S1024x4480, .f32⟩
  | .hbm, ⟨31, _⟩ => ⟨S1024x4480, .bf16⟩
  | .hbm, ⟨32, _⟩ => ⟨S128x1024, .f32⟩
  | .hbm, ⟨33, _⟩ => ⟨S1x1024, .f32⟩
  | .hbm, ⟨34, _⟩ => ⟨S128x4480, .f32⟩
  | .hbm, ⟨35, _⟩ => ⟨S32x4x4480, .f32⟩
  | .hbm, ⟨36, _⟩ => ⟨S32x4x256, .f32⟩
  | .hbm, ⟨37, _⟩ => ⟨S32x4x2x2x64, .f32⟩
  | .hbm, ⟨38, _⟩ => ⟨S32x3x256, .f32⟩
  | .hbm, ⟨39, _⟩ => ⟨S32x3x256, .f32⟩
  | .hbm, ⟨40, _⟩ => ⟨S32x3x512, .f32⟩
  | .hbm, ⟨41, _⟩ => ⟨S32x1x768, .f32⟩
  | .hbm, ⟨42, _⟩ => ⟨S32x1x128, .f32⟩
  | .hbm, ⟨43, _⟩ => ⟨S32x1x896, .f32⟩
  | .local _ .vmem, ⟨0, _⟩ => ⟨S128x1024, .f32⟩
  | .local _ .vmem, ⟨1, _⟩ => ⟨S1x1024, .f32⟩
  | .local _ .vmem, ⟨2, _⟩ => ⟨S1024x4480, .bf16⟩
  | .local _ .vmem, ⟨3, _⟩ => ⟨S128x4480, .f32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_cst : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4480 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x4480 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== ProjDecRefIdeal.lean ====
abbrev S32x4x1024 : Shape := ⟨3, ![32, 4, 1024]⟩
abbrev S1024 : Shape := ⟨1, ![1024]⟩
abbrev S1024x4244 : Shape := ⟨2, ![1024, 4244]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S32x4x4244 : Shape := ⟨3, ![32, 4, 4244]⟩
abbrev S32x4x256 : Shape := ⟨3, ![32, 4, 256]⟩
abbrev S32x4x4 : Shape := ⟨3, ![32, 4, 4]⟩
abbrev S32x4x128 : Shape := ⟨3, ![32, 4, 128]⟩
abbrev S32x4x12 : Shape := ⟨3, ![32, 4, 12]⟩
abbrev S32x4x2x64 : Shape := ⟨4, ![32, 4, 2, 64]⟩
abbrev S32x4x2x1x64 : Shape := ⟨5, ![32, 4, 2, 1, 64]⟩
abbrev S32x4x2x2x64 : Shape := ⟨5, ![32, 4, 2, 2, 64]⟩
abbrev S32x4x120 : Shape := ⟨3, ![32, 4, 120]⟩
abbrev S32x4x116 : Shape := ⟨3, ![32, 4, 116]⟩
abbrev S32x4x4096 : Shape := ⟨3, ![32, 4, 4096]⟩
abbrev S32x4x384 : Shape := ⟨3, ![32, 4, 384]⟩
abbrev S32x4x4480 : Shape := ⟨3, ![32, 4, 4480]⟩
abbrev S32x4x512 : Shape := ⟨3, ![32, 4, 512]⟩
abbrev S32x3x512 : Shape := ⟨3, ![32, 3, 512]⟩
abbrev S32x4x896 : Shape := ⟨3, ![32, 4, 896]⟩
abbrev S32x1x896 : Shape := ⟨3, ![32, 1, 896]⟩
abbrev S128x4480 : Shape := ⟨2, ![128, 4480]⟩

abbrev nBuf : Space → Nat
  | .hbm => 73
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S1024, .f32⟩
  | .hbm, ⟨2, _⟩ => ⟨S1024x4244, .f32⟩
  | .hbm, ⟨3, _⟩ => ⟨S32x4x1024, .f32⟩
  | .hbm, ⟨4, _⟩ => ⟨S_, .f32⟩
  | .hbm, ⟨5, _⟩ => ⟨S32x4, .f32⟩
  | .hbm, ⟨6, _⟩ => ⟨S32x4x1, .f32⟩
  | .hbm, ⟨7, _⟩ => ⟨S_, .f32⟩
  | .hbm, ⟨8, _⟩ => ⟨S32x4x1, .f32⟩
  | .hbm, ⟨9, _⟩ => ⟨S32x4x1, .f32⟩
  | .hbm, ⟨10, _⟩ => ⟨S_, .f32⟩
  | .hbm, ⟨11, _⟩ => ⟨S32x4x1, .f32⟩
  | .hbm, ⟨12, _⟩ => ⟨S32x4x1, .f32⟩
  | .hbm, ⟨13, _⟩ => ⟨S32x4x1, .f32⟩
  | .hbm, ⟨14, _⟩ => ⟨S32x4x1024, .f32⟩
  | .hbm, ⟨15, _⟩ => ⟨S32x4x1024, .f32⟩
  | .hbm, ⟨16, _⟩ => ⟨S1x1x1024, .f32⟩
  | .hbm, ⟨17, _⟩ => ⟨S32x4x1024, .f32⟩
  | .hbm, ⟨18, _⟩ => ⟨S32x4x1024, .f32⟩
  | .hbm, ⟨19, _⟩ => ⟨S32x4x4244, .f32⟩
  | .hbm, ⟨20, _⟩ => ⟨S32x4x256, .f32⟩
  | .hbm, ⟨21, _⟩ => ⟨S32x4x256, .f32⟩
  | .hbm, ⟨22, _⟩ => ⟨S32x4x256, .f32⟩
  | .hbm, ⟨23, _⟩ => ⟨S32x4x4, .f32⟩
  | .hbm, ⟨24, _⟩ => ⟨S32x4x4, .f32⟩
  | .hbm, ⟨25, _⟩ => ⟨S32x4x256, .f32⟩
  | .hbm, ⟨26, _⟩ => ⟨S32x4x256, .f32⟩
  | .hbm, ⟨27, _⟩ => ⟨S32x4x256, .f32⟩
  | .hbm, ⟨28, _⟩ => ⟨S32x4x128, .f32⟩
  | .hbm, ⟨29, _⟩ => ⟨S32x4x128, .f32⟩
  | .hbm, ⟨30, _⟩ => ⟨S32x4x128, .f32⟩
  | .hbm, ⟨31, _⟩ => ⟨S32x4x128, .f32⟩
  | .hbm, ⟨32, _⟩ => ⟨S32x4x128, .f32⟩
  | .hbm, ⟨33, _⟩ => ⟨S32x4x128, .f32⟩
  | .hbm, ⟨34, _⟩ => ⟨S32x4x12, .f32⟩
  | .hbm, ⟨35, _⟩ => ⟨S32x4x256, .f32⟩
  | .hbm, ⟨36, _⟩ => ⟨S32x4x256, .f32⟩
  | .hbm, ⟨37, _⟩ => ⟨S32x4x256, .f32⟩
  | .hbm, ⟨38, _⟩ => ⟨S32x4x256, .f32⟩
  | .hbm, ⟨39, _⟩ => ⟨S32x4x128, .f32⟩
  | .hbm, ⟨40, _⟩ => ⟨S32x4x256, .f32⟩
  | .hbm, ⟨41, _⟩ => ⟨S32x4x256, .f32⟩
  | .hbm, ⟨42, _⟩ => ⟨S32x4x256, .f32⟩
  | .hbm, ⟨43, _⟩ => ⟨S32x4x2x64, .f32⟩
  | .hbm, ⟨44, _⟩ => ⟨S32x4x2x64, .f32⟩
  | .hbm, ⟨45, _⟩ => ⟨S32x4x2x1x64, .f32⟩
  | .hbm, ⟨46, _⟩ => ⟨S32x4x2x1x64, .f32⟩
  | .hbm, ⟨47, _⟩ => ⟨S32x4x2x2x64, .f32⟩
  | .hbm, ⟨48, _⟩ => ⟨S32x4x256, .f32⟩
  | .hbm, ⟨49, _⟩ => ⟨S32x4x2x64, .f32⟩
  | .hbm, ⟨50, _⟩ => ⟨S32x4x2x64, .f32⟩
  | .hbm, ⟨51, _⟩ => ⟨S32x4x2x1x64, .f32⟩
  | .hbm, ⟨52, _⟩ => ⟨S32x4x2x1x64, .f32⟩
  | .hbm, ⟨53, _⟩ => ⟨S32x4x2x2x64, .f32⟩
  | .hbm, ⟨54, _⟩ => ⟨S32x4x256, .f32⟩
  | .hbm, ⟨55, _⟩ => ⟨S32x4x2x64, .f32⟩
  | .hbm, ⟨56, _⟩ => ⟨S32x4x2x64, .f32⟩
  | .hbm, ⟨57, _⟩ => ⟨S32x4x2x1x64, .f32⟩
  | .hbm, ⟨58, _⟩ => ⟨S32x4x2x1x64, .f32⟩
  | .hbm, ⟨59, _⟩ => ⟨S32x4x2x2x64, .f32⟩
  | .hbm, ⟨60, _⟩ => ⟨S32x4x256, .f32⟩
  | .hbm, ⟨61, _⟩ => ⟨S_, .f32⟩
  | .hbm, ⟨62, _⟩ => ⟨S32x4x120, .f32⟩
  | .hbm, ⟨63, _⟩ => ⟨S_, .f32⟩
  | .hbm, ⟨64, _⟩ => ⟨S32x4x116, .f32⟩
  | .hbm, ⟨65, _⟩ => ⟨S32x4x4096, .f32⟩
  | .hbm, ⟨66, _⟩ => ⟨S32x4x384, .f32⟩
  | .hbm, ⟨67, _⟩ => ⟨S32x4x4480, .f32⟩
  | .hbm, ⟨68, _⟩ => ⟨S32x4x512, .f32⟩
  | .hbm, ⟨69, _⟩ => ⟨S32x3x512, .f32⟩
  | .hbm, ⟨70, _⟩ => ⟨S32x4x896, .f32⟩
  | .hbm, ⟨71, _⟩ => ⟨S32x1x896, .f32⟩
  | .hbm, ⟨72, _⟩ => ⟨S128x4480, .f32⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_cst_2 : Ref sig .tc := ⟨.hbm, 61, rfl⟩
abbrev main_v55 : Ref sig .tc := ⟨.hbm, 62, rfl⟩
abbrev main_cst_3 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩

abbrev nD : Nat := 1
abbrev τ : Topo := Topo.v7x

variable {F : FTy → Type} [FloatOps F]
-- ==== MemKv.lean ====
abbrev S4x256x1024 : Shape := ⟨3, ![4, 256, 1024]⟩
abbrev S1024 : Shape := ⟨1, ![1024]⟩
abbrev S1024x512 : Shape := ⟨2, ![1024, 512]⟩
abbrev S2x64 : Shape := ⟨2, ![2, 64]⟩
abbrev S1024x2x4x64 : Shape := ⟨4, ![1024, 2, 4, 64]⟩
abbrev S1024x4x2x64 : Shape := ⟨4, ![1024, 4, 2, 64]⟩
abbrev S1024x1024 : Shape := ⟨2, ![1024, 1024]⟩
abbrev S1x1024 : Shape := ⟨2, ![1, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S4x256x4x2x64 : Shape := ⟨5, ![4, 256, 4, 2, 64]⟩
abbrev S4x256x4x1x64 : Shape := ⟨5, ![4, 256, 4, 1, 64]⟩
abbrev S4x256x4x64 : Shape := ⟨4, ![4, 256, 4, 64]⟩
abbrev S1x64 : Shape := ⟨2, ![1, 64]⟩
abbrev S64 : Shape := ⟨1, ![64]⟩
abbrev S_ : Shape := ⟨0, ![]⟩
abbrev S4x256x4 : Shape := ⟨3, ![4, 256, 4]⟩
abbrev S4x256x4x1 : Shape := ⟨4, ![4, 256, 4, 1]⟩
abbrev S1x1x1x64 : Shape := ⟨4, ![1, 1, 1, 64]⟩

abbrev nBuf : Space → Nat
  | .hbm => 37
  | .vmem => 6
  | .smem => 0
  | _ => 0

abbrev bufTy : (tb : Table) → Fin (tcTables nBuf tb) → BufTy
  | .hbm, ⟨0, _⟩ => ⟨S4x256x1024, .f32⟩
  | .hbm, ⟨1, _⟩ => ⟨S1024, .f32⟩
  | .hbm, ⟨2, _⟩ => ⟨S1024x512, .f32⟩
  | .hbm, ⟨3, _⟩ => ⟨S2x64, .f32⟩
  | .hbm, ⟨4, _⟩ => ⟨S1024x2x4x64, .f32⟩
  | .hbm, ⟨5, _⟩ => ⟨S1024x4x2x64, .f32⟩
  | .hbm, ⟨6, _⟩ => ⟨S1024x512, .f32⟩
  | .hbm, ⟨7, _⟩ => ⟨S1024x512, .bf16⟩
  | .hbm, ⟨8, _⟩ => ⟨S1024x1024, .f32⟩
  | .hbm, ⟨9, _⟩ => ⟨S1x1024, .f32⟩
  | .hbm, ⟨10, _⟩ => ⟨S1024x512, .f32⟩
  | .hbm, ⟨11, _⟩ => ⟨S4x256x4x2x64, .f32⟩
  | .hbm, ⟨12, _⟩ => ⟨S4x256x4x1x64, .f32⟩
  | .hbm, ⟨13, _⟩ => ⟨S4x256x4x64, .f32⟩
  | .hbm, ⟨14, _⟩ => ⟨S1x64, .f32⟩
  | .hbm, ⟨15, _⟩ => ⟨S64, .f32⟩
  | .hbm, ⟨16, _⟩ => ⟨S4x256x4x64, .f32⟩
  | .hbm, ⟨17, _⟩ => ⟨S_, .f32⟩
  | .hbm, ⟨18, _⟩ => ⟨S4x256x4, .f32⟩
  | .hbm, ⟨19, _⟩ => ⟨S4x256x4x1, .f32⟩
  | .hbm, ⟨20, _⟩ => ⟨S_, .f32⟩
  | .hbm, ⟨21, _⟩ => ⟨S4x256x4x1, .f32⟩
  | .hbm, ⟨22, _⟩ => ⟨S4x256x4x1, .f32⟩
  | .hbm, ⟨23, _⟩ => ⟨S_, .f32⟩
  | .hbm, ⟨24, _⟩ => ⟨S4x256x4x1, .f32⟩
  | .hbm, ⟨25, _⟩ => ⟨S4x256x4x1, .f32⟩
  | .hbm, ⟨26, _⟩ => ⟨S4x256x4x1, .f32⟩
  | .hbm, ⟨27, _⟩ => ⟨S4x256x4x64, .f32⟩
  | .hbm, ⟨28, _⟩ => ⟨S4x256x4x64, .f32⟩
  | .hbm, ⟨29, _⟩ => ⟨S1x1x1x64, .f32⟩
  | .hbm, ⟨30, _⟩ => ⟨S4x256x4x64, .f32⟩
  | .hbm, ⟨31, _⟩ => ⟨S4x256x4x64, .f32⟩
  | .hbm, ⟨32, _⟩ => ⟨S4x256x4x1x64, .f32⟩
  | .hbm, ⟨33, _⟩ => ⟨S4x256x4x64, .f32⟩
  | .hbm, ⟨34, _⟩ => ⟨S4x256x4x1x64, .f32⟩
  | .hbm, ⟨35, _⟩ => ⟨S4x256x4x1x64, .f32⟩
  | .hbm, ⟨36, _⟩ => ⟨S4x256x4x2x64, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S512x512, .f32⟩
  | .local _ .vmem, ⟨5, _⟩ => ⟨S512x512, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MemKvRefIdeal.lean ====
abbrev S4x256x1024 : Shape := ⟨3, ![4, 256, 1024]⟩
abbrev S1024 : Shape := ⟨1, ![1024]⟩
abbrev S1024x512 : Shape := ⟨2, ![1024, 512]⟩
abbrev S2x64 : Shape := ⟨2, ![2, 64]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S4x256x512 : Shape := ⟨3, ![4, 256, 512]⟩
abbrev S4x256x2x4x64 : Shape := ⟨5, ![4, 256, 2, 4, 64]⟩
abbrev S4x256x1x4x64 : Shape := ⟨5, ![4, 256, 1, 4, 64]⟩
abbrev S4x256x4x64 : Shape := ⟨4, ![4, 256, 4, 64]⟩
abbrev S4x256x4 : Shape := ⟨3, ![4, 256, 4]⟩
abbrev S4x256x4x1 : Shape := ⟨4, ![4, 256, 4, 1]⟩
abbrev S1x64 : Shape := ⟨2, ![1, 64]⟩
abbrev S64 : Shape := ⟨1, ![64]⟩
abbrev S1x1x1x64 : Shape := ⟨4, ![1, 1, 1, 64]⟩
abbrev S4x256x4x1x64 : Shape := ⟨5, ![4, 256, 4, 1, 64]⟩
abbrev S4x256x4x2x64 : Shape := ⟨5, ![4, 256, 4, 2, 64]⟩

abbrev nBuf : Space → Nat
  | .hbm => 47
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024, .f32⟩
  | .hbm, ⟨2, _⟩ => ⟨S1024x512, .f32⟩
  | .hbm, ⟨3, _⟩ => ⟨S2x64, .f32⟩
  | .hbm, ⟨4, _⟩ => ⟨S4x256x1024, .f32⟩
  | .hbm, ⟨5, _⟩ => ⟨S_, .f32⟩
  | .hbm, ⟨6, _⟩ => ⟨S4x256, .f32⟩
  | .hbm, ⟨7, _⟩ => ⟨S4x256x1, .f32⟩
  | .hbm, ⟨8, _⟩ => ⟨S_, .f32⟩
  | .hbm, ⟨9, _⟩ => ⟨S4x256x1, .f32⟩
  | .hbm, ⟨10, _⟩ => ⟨S4x256x1, .f32⟩
  | .hbm, ⟨11, _⟩ => ⟨S_, .f32⟩
  | .hbm, ⟨12, _⟩ => ⟨S4x256x1, .f32⟩
  | .hbm, ⟨13, _⟩ => ⟨S4x256x1, .f32⟩
  | .hbm, ⟨14, _⟩ => ⟨S4x256x1, .f32⟩
  | .hbm, ⟨15, _⟩ => ⟨S4x256x1024, .f32⟩
  | .hbm, ⟨16, _⟩ => ⟨S4x256x1024, .f32⟩
  | .hbm, ⟨17, _⟩ => ⟨S1x1x1024, .f32⟩
  | .hbm, ⟨18, _⟩ => ⟨S4x256x1024, .f32⟩
  | .hbm, ⟨19, _⟩ => ⟨S4x256x1024, .f32⟩
  | .hbm, ⟨20, _⟩ => ⟨S4x256x512, .f32⟩
  | .hbm, ⟨21, _⟩ => ⟨S4x256x2x4x64, .f32⟩
  | .hbm, ⟨22, _⟩ => ⟨S4x256x1x4x64, .f32⟩
  | .hbm, ⟨23, _⟩ => ⟨S4x256x4x64, .f32⟩
  | .hbm, ⟨24, _⟩ => ⟨S4x256x4x64, .f32⟩
  | .hbm, ⟨25, _⟩ => ⟨S_, .f32⟩
  | .hbm, ⟨26, _⟩ => ⟨S4x256x4, .f32⟩
  | .hbm, ⟨27, _⟩ => ⟨S4x256x4x1, .f32⟩
  | .hbm, ⟨28, _⟩ => ⟨S_, .f32⟩
  | .hbm, ⟨29, _⟩ => ⟨S4x256x4x1, .f32⟩
  | .hbm, ⟨30, _⟩ => ⟨S4x256x4x1, .f32⟩
  | .hbm, ⟨31, _⟩ => ⟨S_, .f32⟩
  | .hbm, ⟨32, _⟩ => ⟨S4x256x4x1, .f32⟩
  | .hbm, ⟨33, _⟩ => ⟨S4x256x4x1, .f32⟩
  | .hbm, ⟨34, _⟩ => ⟨S4x256x4x1, .f32⟩
  | .hbm, ⟨35, _⟩ => ⟨S4x256x4x64, .f32⟩
  | .hbm, ⟨36, _⟩ => ⟨S4x256x4x64, .f32⟩
  | .hbm, ⟨37, _⟩ => ⟨S1x64, .f32⟩
  | .hbm, ⟨38, _⟩ => ⟨S64, .f32⟩
  | .hbm, ⟨39, _⟩ => ⟨S1x1x1x64, .f32⟩
  | .hbm, ⟨40, _⟩ => ⟨S4x256x4x64, .f32⟩
  | .hbm, ⟨41, _⟩ => ⟨S4x256x4x64, .f32⟩
  | .hbm, ⟨42, _⟩ => ⟨S4x256x1x4x64, .f32⟩
  | .hbm, ⟨43, _⟩ => ⟨S4x256x4x64, .f32⟩
  | .hbm, ⟨44, _⟩ => ⟨S4x256x4x1x64, .f32⟩
  | .hbm, ⟨45, _⟩ => ⟨S4x256x4x1x64, .f32⟩
  | .hbm, ⟨46, _⟩ => ⟨S4x256x4x2x64, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== ProjOut.lean ====
abbrev S4x4096x1024 : Shape := ⟨3, ![4, 4096, 1024]⟩
abbrev S16384x4480 : Shape := ⟨2, ![16384, 4480]⟩
abbrev S4x4096x256 : Shape := ⟨3, ![4, 4096, 256]⟩
abbrev S1024x1024 : Shape := ⟨2, ![1024, 1024]⟩
abbrev S128x768 : Shape := ⟨2, ![128, 768]⟩
abbrev S16384x1024 : Shape := ⟨2, ![16384, 1024]⟩
abbrev S16384x256 : Shape := ⟨2, ![16384, 256]⟩
abbrev S512x1024 : Shape := ⟨2, ![512, 1024]⟩
abbrev S512x256 : Shape := ⟨2, ![512, 256]⟩
abbrev S512x128 : Shape := ⟨2, ![512, 128]⟩
abbrev S512x768 : Shape := ⟨2, ![512, 768]⟩
abbrev S256x1024 : Shape := ⟨2, ![256, 1024]⟩

abbrev nBuf : Space → Nat
  | .hbm => 19
  | .vmem => 24
  | .smem => 0
  | _ => 0

abbrev bufTy : (tb : Table) → Fin (tcTables nBuf tb) → BufTy
  | .hbm, ⟨0, _⟩ => ⟨S4x4096x1024, .f32⟩
  | .hbm, ⟨1, _⟩ => ⟨S16384x4480, .f32⟩
  | .hbm, ⟨2, _⟩ => ⟨S4x4096x256, .f32⟩
  | .hbm, ⟨3, _⟩ => ⟨S4x4096x256, .f32⟩
  | .hbm, ⟨4, _⟩ => ⟨S4x4096x256, .f32⟩
  | .hbm, ⟨5, _⟩ => ⟨S4x4096x256, .f32⟩
  | .hbm, ⟨6, _⟩ => ⟨S4x4096x256, .f32⟩
  | .hbm, ⟨7, _⟩ => ⟨S4x4096x256, .f32⟩
  | .hbm, ⟨8, _⟩ => ⟨S1024x1024, .f32⟩
  | .hbm, ⟨9, _⟩ => ⟨S128x768, .bf16⟩
  | .hbm, ⟨10, _⟩ => ⟨S16384x1024, .f32⟩
  | .hbm, ⟨11, _⟩ => ⟨S16384x256, .f32⟩
  | .hbm, ⟨12, _⟩ => ⟨S16384x256, .f32⟩
  | .hbm, ⟨13, _⟩ => ⟨S16384x256, .f32⟩
  | .hbm, ⟨14, _⟩ => ⟨S16384x256, .f32⟩
  | .hbm, ⟨15, _⟩ => ⟨S16384x256, .f32⟩
  | .hbm, ⟨16, _⟩ => ⟨S16384x256, .f32⟩
  | .hbm, ⟨17, _⟩ => ⟨S1024x1024, .bf16⟩
  | .hbm, ⟨18, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x128, .f32⟩
  | .local _ .vmem, ⟨15, _⟩ => ⟨S512x128, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S128x768, .bf16⟩
  | .local _ .vmem, ⟨21, _⟩ => ⟨S1024x1024, .bf16⟩
  | .local _ .vmem, ⟨22, _⟩ => ⟨S512x1024, .f32⟩
  | .local _ .vmem, ⟨23, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c34_i32 : BitVec 32 := 34#32
  let c0_i32 : BitVec 32 := 0#32
  ![arg0.toNat, c34_i32.toNat]

def cc0_transform_8 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_9 (i : grid0.Coords) : Fin 2 → Nat :=
  let arg0 : BitVec 32 := BitVec.ofNat 32 (i 0).val
  let c15_i32 : BitVec 32 := 15#32
  let c0_i32 : BitVec 32 := 0#32
  ![arg0.toNat, c15_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S128x768 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ProjOutRefIdeal.lean ====
abbrev S4x4096x1024 : Shape := ⟨3, ![4, 4096, 1024]⟩
abbrev S16384x4480 : Shape := ⟨2, ![16384, 4480]⟩
abbrev S4x4096x256 : Shape := ⟨3, ![4, 4096, 256]⟩
abbrev S1024x1024 : Shape := ⟨2, ![1024, 1024]⟩
abbrev S4x4096x4480 : Shape := ⟨3, ![4, 4096, 4480]⟩
abbrev S4x4096x12 : Shape := ⟨3, ![4, 4096, 12]⟩
abbrev S_ : Shape := ⟨0, ![]⟩
abbrev S4x4096x3x4x1 : Shape := ⟨5, ![4, 4096, 3, 4, 1]⟩
abbrev S4x4096x1x4x1 : Shape := ⟨5, ![4, 4096, 1, 4, 1]⟩
abbrev S4x4096x4x1 : Shape := ⟨4, ![4, 4096, 4, 1]⟩
abbrev S4x4096x4x64 : Shape := ⟨4, ![4, 4096, 4, 64]⟩
abbrev S16384x1024 : Shape := ⟨2, ![16384, 1024]⟩

abbrev nBuf : Space → Nat
  | .hbm => 64
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S16384x4480, .f32⟩
  | .hbm, ⟨2, _⟩ => ⟨S4x4096x256, .f32⟩
  | .hbm, ⟨3, _⟩ => ⟨S4x4096x256, .f32⟩
  | .hbm, ⟨4, _⟩ => ⟨S4x4096x256, .f32⟩
  | .hbm, ⟨5, _⟩ => ⟨S4x4096x256, .f32⟩
  | .hbm, ⟨6, _⟩ => ⟨S4x4096x256, .f32⟩
  | .hbm, ⟨7, _⟩ => ⟨S4x4096x256, .f32⟩
  | .hbm, ⟨8, _⟩ => ⟨S1024x1024, .f32⟩
  | .hbm, ⟨9, _⟩ => ⟨S4x4096x4480, .f32⟩
  | .hbm, ⟨10, _⟩ => ⟨S4x4096x12, .f32⟩
  | .hbm, ⟨11, _⟩ => ⟨S4x4096x256, .f32⟩
  | .hbm, ⟨12, _⟩ => ⟨S4x4096x256, .f32⟩
  | .hbm, ⟨13, _⟩ => ⟨S4x4096x12, .f32⟩
  | .hbm, ⟨14, _⟩ => ⟨S4x4096x12, .f32⟩
  | .hbm, ⟨15, _⟩ => ⟨S_, .f32⟩
  | .hbm, ⟨16, _⟩ => ⟨S4x4096x12, .f32⟩
  | .hbm, ⟨17, _⟩ => ⟨S4x4096x12, .f32⟩
  | .hbm, ⟨18, _⟩ => ⟨S_, .f32⟩
  | .hbm, ⟨19, _⟩ => ⟨S4x4096x12, .f32⟩
  | .hbm, ⟨20, _⟩ => ⟨S4x4096x12, .f32⟩
  | .hbm, ⟨21, _⟩ => ⟨S4x4096x3x4x1, .f32⟩
  | .hbm, ⟨22, _⟩ => ⟨S4x4096x1x4x1, .f32⟩
  | .hbm, ⟨23, _⟩ => ⟨S4x4096x4x1, .f32⟩
  | .hbm, ⟨24, _⟩ => ⟨S4x4096x4x64, .f32⟩
  | .hbm, ⟨25, _⟩ => ⟨S4x4096x4x64, .f32⟩
  | .hbm, ⟨26, _⟩ => ⟨S4x4096x4x64, .f32⟩
  | .hbm, ⟨27, _⟩ => ⟨S4x4096x1x4x1, .f32⟩
  | .hbm, ⟨28, _⟩ => ⟨S4x4096x4x1, .f32⟩
  | .hbm, ⟨29, _⟩ => ⟨S4x4096x4x64, .f32⟩
  | .hbm, ⟨30, _⟩ => ⟨S4x4096x4x64, .f32⟩
  | .hbm, ⟨31, _⟩ => ⟨S4x4096x4x64, .f32⟩
  | .hbm, ⟨32, _⟩ => ⟨S4x4096x4x64, .f32⟩
  | .hbm, ⟨33, _⟩ => ⟨S4x4096x1x4x1, .f32⟩
  | .hbm, ⟨34, _⟩ => ⟨S4x4096x4x1, .f32⟩
  | .hbm, ⟨35, _⟩ => ⟨S4x4096x4x64, .f32⟩
  | .hbm, ⟨36, _⟩ => ⟨S4x4096x4x64, .f32⟩
  | .hbm, ⟨37, _⟩ => ⟨S4x4096x4x64, .f32⟩
  | .hbm, ⟨38, _⟩ => ⟨S4x4096x4x64, .f32⟩
  | .hbm, ⟨39, _⟩ => ⟨S4x4096x256, .f32⟩
  | .hbm, ⟨40, _⟩ => ⟨S4x4096x256, .f32⟩
  | .hbm, ⟨41, _⟩ => ⟨S4x4096x256, .f32⟩
  | .hbm, ⟨42, _⟩ => ⟨S_, .f32⟩
  | .hbm, ⟨43, _⟩ => ⟨S4x4096x256, .f32⟩
  | .hbm, ⟨44, _⟩ => ⟨S4x4096x256, .f32⟩
  | .hbm, ⟨45, _⟩ => ⟨S_, .f32⟩
  | .hbm, ⟨46, _⟩ => ⟨S4x4096x256, .f32⟩
  | .hbm, ⟨47, _⟩ => ⟨S4x4096x256, .f32⟩
  | .hbm, ⟨48, _⟩ => ⟨S4x4096x256, .f32⟩
  | .hbm, ⟨49, _⟩ => ⟨S4x4096x256, .f32⟩
  | .hbm, ⟨50, _⟩ => ⟨S4x4096x256, .f32⟩
  | .hbm, ⟨51, _⟩ => ⟨S4x4096x256, .f32⟩
  | .hbm, ⟨52, _⟩ => ⟨S_, .f32⟩
  | .hbm, ⟨53, _⟩ => ⟨S4x4096x256, .f32⟩
  | .hbm, ⟨54, _⟩ => ⟨S4x4096x256, .f32⟩
  | .hbm, ⟨55, _⟩ => ⟨S_, .f32⟩
  | .hbm, ⟨56, _⟩ => ⟨S4x4096x256, .f32⟩
  | .hbm, ⟨57, _⟩ => ⟨S4x4096x256, .f32⟩
  | .hbm, ⟨58, _⟩ => ⟨S4x4096x256, .f32⟩
  | .hbm, ⟨59, _⟩ => ⟨S4x4096x256, .f32⟩
  | .hbm, ⟨60, _⟩ => ⟨S4x4096x1024, .f32⟩
  | .hbm, ⟨61, _⟩ => ⟨S4x4096x1024, .f32⟩
  | .hbm, ⟨62, _⟩ => ⟨S4x4096x1024, .f32⟩
  | .hbm, ⟨63, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v29 : Ref sig .tc := ⟨.hbm, 48, rfl⟩
abbrev main_v30 : Ref sig .tc := ⟨.hbm, 49, rfl⟩
abbrev main_call1_v0 : Ref sig .tc := ⟨.hbm, 50, rfl⟩
abbrev main_call1_v1 : Ref sig .tc := ⟨.hbm, 51, rfl⟩
abbrev main_call1_cst : Ref sig .tc := ⟨.hbm, 52, rfl⟩
abbrev main_call1_v2 : Ref sig .tc := ⟨.hbm, 53, rfl⟩
abbrev main_call1_v3 : Ref sig .tc := ⟨.hbm, 54, rfl⟩
abbrev main_call1_cst_0 : Ref sig .tc := ⟨.hbm, 55, rfl⟩
abbrev main_call1_v4 : Ref sig .tc := ⟨.hbm, 56, rfl⟩
abbrev main_call1_v5 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩

abbrev nD : Nat := 1
abbrev τ : Topo := Topo.v7x

variable {F : FTy → Type} [FloatOps F]
-- ==== Prep.lean ====
abbrev S16384x4480 : Shape := ⟨2, ![16384, 4480]⟩
abbrev S4x64 : Shape := ⟨2, ![4, 64]⟩
abbrev S256x256 : Shape := ⟨2, ![256, 256]⟩
abbrev S_ : Shape := ⟨0, ![]⟩
abbrev S64 : Shape := ⟨1, ![64]⟩
abbrev S1x64 : Shape := ⟨2, ![1, 64]⟩
abbrev S256 : Shape := ⟨1, ![256]⟩
abbrev S1x256 : Shape := ⟨2, ![1, 256]⟩
abbrev S3x256 : Shape := ⟨2, ![3, 256]⟩
abbrev S8x256 : Shape := ⟨2, ![8, 256]⟩
abbrev S4096 : Shape := ⟨1, ![4096]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x4096x1x64 : Shape := ⟨4, ![1, 4096, 1, 64]⟩
abbrev S1x4096x4x64 : Shape := ⟨4, ![1, 4096, 4, 64]⟩
abbrev S4096x256 : Shape := ⟨2, ![4096, 256]⟩
abbrev S4x4096x4480 : Shape := ⟨3, ![4, 4096, 4480]⟩
abbrev S4x4096x256 : Shape := ⟨3, ![4, 4096, 256]⟩
abbrev S1x512x256 : Shape := ⟨3, ![1, 512, 256]⟩
abbrev S512x256 : Shape := ⟨2, ![512, 256]⟩
abbrev S4x4096x2x2x64 : Shape := ⟨5, ![4, 4096, 2, 2, 64]⟩
abbrev S4x512x2x2x64 : Shape := ⟨5, ![4, 512, 2, 2, 64]⟩

abbrev nBuf : Space → Nat
  | .hbm => 73
  | .vmem => 20
  | .smem => 0
  | _ => 0

abbrev bufTy : (tb : Table) → Fin (tcTables nBuf tb) → BufTy
  | .hbm, ⟨0, _⟩ => ⟨S16384x4480, .f32⟩
  | .hbm, ⟨1, _⟩ => ⟨S4x64, .f32⟩
  | .hbm, ⟨2, _⟩ => ⟨S256x256, .bf16⟩
  | .hbm, ⟨3, _⟩ => ⟨S_, .f32⟩
  | .hbm, ⟨4, _⟩ => ⟨S64, .f32⟩
  | .hbm, ⟨5, _⟩ => ⟨S1x64, .f32⟩
  | .hbm, ⟨6, _⟩ => ⟨S64, .f32⟩
  | .hbm, ⟨7, _⟩ => ⟨S1x64, .f32⟩
  | .hbm, ⟨8, _⟩ => ⟨S4x64, .f32⟩
  | .hbm, ⟨9, _⟩ => ⟨S256, .f32⟩
  | .hbm, ⟨10, _⟩ => ⟨S1x64, .f32⟩
  | .hbm, ⟨11, _⟩ => ⟨S64, .f32⟩
  | .hbm, ⟨12, _⟩ => ⟨S1x64, .f32⟩
  | .hbm, ⟨13, _⟩ => ⟨S64, .f32⟩
  | .hbm, ⟨14, _⟩ => ⟨S256, .f32⟩
  | .hbm, ⟨15, _⟩ => ⟨S1x64, .f32⟩
  | .hbm, ⟨16, _⟩ => ⟨S64, .f32⟩
  | .hbm, ⟨17, _⟩ => ⟨S1x64, .f32⟩
  | .hbm, ⟨18, _⟩ => ⟨S64, .f32⟩
  | .hbm, ⟨19, _⟩ => ⟨S256, .f32⟩
  | .hbm, ⟨20, _⟩ => ⟨S1x256, .f32⟩
  | .hbm, ⟨21, _⟩ => ⟨S_, .i32⟩
  | .hbm, ⟨22, _⟩ => ⟨S_, .f32⟩
  | .hbm, ⟨23, _⟩ => ⟨S1x256, .f32⟩
  | .hbm, ⟨24, _⟩ => ⟨S1x256, .f32⟩
  | .hbm, ⟨25, _⟩ => ⟨S_, .i32⟩
  | .hbm, ⟨26, _⟩ => ⟨S_, .f32⟩
  | .hbm, ⟨27, _⟩ => ⟨S1x256, .f32⟩
  | .hbm, ⟨28, _⟩ => ⟨S1x256, .f32⟩
  | .hbm, ⟨29, _⟩ => ⟨S_, .i32⟩
  | .hbm, ⟨30, _⟩ => ⟨S_, .f32⟩
  | .hbm, ⟨31, _⟩ => ⟨S1x256, .f32⟩
  | .hbm, ⟨32, _⟩ => ⟨S3x256, .f32⟩
  | .hbm, ⟨33, _⟩ => ⟨S_, .i32⟩
  | .hbm, ⟨34, _⟩ => ⟨S_, .f32⟩
  | .hbm, ⟨35, _⟩ => ⟨S8x256, .f32⟩
  | .hbm, ⟨36, _⟩ => ⟨S4096, .i32⟩
  | .hbm, ⟨37, _⟩ => ⟨S_, .i32⟩
  | .hbm, ⟨38, _⟩ => ⟨S4096, .i32⟩
  | .hbm, ⟨39, _⟩ => ⟨S4096, .i32⟩
  | .hbm, ⟨40, _⟩ => ⟨S32, .f32⟩
  | .hbm, ⟨41, _⟩ => ⟨S32, .f32⟩
  | .hbm, ⟨42, _⟩ => ⟨S_, .f32⟩
  | .hbm, ⟨43, _⟩ => ⟨S32, .f32⟩
  | .hbm, ⟨44, _⟩ => ⟨S32, .f32⟩
  | .hbm, ⟨45, _⟩ => ⟨S_, .f32⟩
  | .hbm, ⟨46, _⟩ => ⟨S32, .f32⟩
  | .hbm, ⟨47, _⟩ => ⟨S32, .f32⟩
  | .hbm, ⟨48, _⟩ => ⟨S4096, .f32⟩
  | .hbm, ⟨49, _⟩ => ⟨S4096x1, .f32⟩
  | .hbm, ⟨50, _⟩ => ⟨S1x32, .f32⟩
  | .hbm, ⟨51, _⟩ => ⟨S4096x32, .f32⟩
  | .hbm, ⟨52, _⟩ => ⟨S4096x32, .f32⟩
  | .hbm, ⟨53, _⟩ => ⟨S4096x32, .f32⟩
  | .hbm, ⟨54, _⟩ => ⟨S4096x32, .f32⟩
  | .hbm, ⟨55, _⟩ => ⟨S4096x32, .f32⟩
  | .hbm, ⟨56, _⟩ => ⟨S4096x64, .f32⟩
  | .hbm, ⟨57, _⟩ => ⟨S1x4096x1x64, .f32⟩
  | .hbm, ⟨58, _⟩ => ⟨S1x4096x4x64, .f32⟩
  | .hbm, ⟨59, _⟩ => ⟨S4096x256, .f32⟩
  | .hbm, ⟨60, _⟩ => ⟨S4096x32, .f32⟩
  | .hbm, ⟨61, _⟩ => ⟨S4096x64, .f32⟩
  | .hbm, ⟨62, _⟩ => ⟨S1x4096x1x64, .f32⟩
  | .hbm, ⟨63, _⟩ => ⟨S1x4096x4x64, .f32⟩
  | .hbm, ⟨64, _⟩ => ⟨S4096x256, .f32⟩
  | .hbm, ⟨65, _⟩ => ⟨S4x4096x4480, .f32⟩
  | .hbm, ⟨66, _⟩ => ⟨S4x4096x256, .f32⟩
  | .hbm, ⟨67, _⟩ => ⟨S4x4096x256, .f32⟩
  | .hbm, ⟨68, _⟩ => ⟨S4x4096x256, .f32⟩
  | .hbm, ⟨69, _⟩ => ⟨S4x4096x256, .f32⟩
  | .hbm, ⟨70, _⟩ => ⟨S4x4096x2x2x64, .f32⟩
  | .hbm, ⟨71, _⟩ => ⟨S4x4096x2x2x64, .f32⟩
  | .hbm, ⟨72, _⟩ => ⟨S4x512x2x2x64, .f32⟩
  | .local _ .vmem, ⟨0, _⟩ => ⟨S1x512x256, .f32⟩
  | .local _ .vmem, ⟨1, _⟩ => ⟨S1x512x256, .f32⟩
  | .local _ .vmem, ⟨2, _⟩ => ⟨S1x512x256, .f32⟩
  | .local _ .vmem, ⟨3, _⟩ => ⟨S1x512x256, .f32⟩
  | .local _ .vmem, ⟨4, _⟩ => ⟨S1x512x256, .f32⟩
  | .local _ .vmem, ⟨5, _⟩ => ⟨S1x512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S8x256, .f32⟩
  | .local _ .vmem, ⟨11, _⟩ => ⟨S256x256, .bf16⟩
  | .local _ .vmem, ⟨12, _⟩ => ⟨S1x512x256, .f32⟩
  | .local _ .vmem, ⟨13, _⟩ => ⟨S1x512x256, .f32⟩
  | .local _ .vmem, ⟨14, _⟩ => ⟨S1x512x256, .f32⟩
  | .local _ .vmem, ⟨15, _⟩ => ⟨S1x512x256, .f32⟩
  | .local _ .vmem, ⟨16, _⟩ => ⟨S1x512x256, .f32⟩
  | .local _ .vmem, ⟨17, _⟩ => ⟨S1x512x256, .f32⟩
  | .local _ .vmem, ⟨18, _⟩ => ⟨S1x512x256, .f32⟩
  | .local _ .vmem, ⟨19, _⟩ => ⟨S1x512x256, .f32⟩
  | _, _ => ⟨S16384x4480, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_c : Ref sig .tc := ⟨.hbm, 21, rfl⟩
abbrev main_call0_v0 : Ref sig .tc := ⟨.hbm, 22, rfl⟩
abbrev main_v17 : Ref sig .tc := ⟨.hbm, 23, rfl⟩
abbrev main_v18 : Ref sig .tc := ⟨.hbm, 24, rfl⟩
abbrev main_c_1 : Ref sig .tc := ⟨.hbm, 25, rfl⟩
abbrev main_call1_v0 : Ref sig .tc := ⟨.hbm, 26, rfl⟩
abbrev main_v19 : Ref sig .tc := ⟨.hbm, 27, rfl⟩
abbrev main_v20 : Ref sig .tc := ⟨.hbm, 28, rfl⟩
abbrev main_c_2 : Ref sig .tc := ⟨.hbm, 29, rfl⟩
abbrev main_call2_v0 : Ref sig .tc := ⟨.hbm, 30, rfl⟩
abbrev main_v21 : Ref sig .tc := ⟨.hbm, 31, rfl⟩
abbrev main_v22 : Ref sig .tc := ⟨.hbm, 32, rfl⟩
abbrev main_c_3 : Ref sig .tc := ⟨.hbm, 33, rfl⟩
abbrev main_call3_v0 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51_0 : Ref sig .tc := ⟨.hbm, 66, rfl⟩
abbrev main_v51_1 : Ref sig .tc := ⟨.hbm, 67, rfl⟩
abbrev main_v51_2 : Ref sig .tc := ⟨.hbm, 68, rfl⟩
abbrev main_v51_3 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_1 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S8x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== PrepRefIdeal.lean ====
abbrev S16384x4480 : Shape := ⟨2, ![16384, 4480]⟩
abbrev S4x64 : Shape := ⟨2, ![4, 64]⟩
abbrev S4x4096x4480 : Shape := ⟨3, ![4, 4096, 4480]⟩
abbrev S4x4096x256 : Shape := ⟨3, ![4, 4096, 256]⟩
abbrev S4x4096x4x64 : Shape := ⟨4, ![4, 4096, 4, 64]⟩
abbrev S4x4096x2x2x64 : Shape := ⟨5, ![4, 4096, 2, 2, 64]⟩
abbrev S4096 : Shape := ⟨1, ![4096]⟩
abbrev S4096x1 : Shape := ⟨2, ![4096, 1]⟩
abbrev S32 : Shape := ⟨1, ![32]⟩
abbrev S_ : Shape := ⟨0, ![]⟩
abbrev S1x32 : Shape := ⟨2, ![1, 32]⟩
abbrev S4096x32 : Shape := ⟨2, ![4096, 32]⟩
abbrev S4096x1x32 : Shape := ⟨3, ![4096, 1, 32]⟩
abbrev S1x64 : Shape := ⟨2, ![1, 64]⟩
abbrev S64 : Shape := ⟨1, ![64]⟩
abbrev S4x4096x4 : Shape := ⟨3, ![4, 4096, 4]⟩
abbrev S4x4096x4x1 : Shape := ⟨4, ![4, 4096, 4, 1]⟩
abbrev S1x1x1x64 : Shape := ⟨4, ![1, 1, 1, 64]⟩
abbrev S4x4096x2x1x64 : Shape := ⟨5, ![4, 4096, 2, 1, 64]⟩
abbrev S4x4096x2x64 : Shape := ⟨4, ![4, 4096, 2, 64]⟩
abbrev S4x4096x2 : Shape := ⟨3, ![4, 4096, 2]⟩
abbrev S4x4096x2x1 : Shape := ⟨4, ![4, 4096, 2, 1]⟩
abbrev S4x4096x2x32 : Shape := ⟨4, ![4, 4096, 2, 32]⟩
abbrev S1x4096x1x32 : Shape := ⟨4, ![1, 4096, 1, 32]⟩
abbrev S4x4096x4x32 : Shape := ⟨4, ![4, 4096, 4, 32]⟩
abbrev S4x512x2x2x64 : Shape := ⟨5, ![4, 512, 2, 2, 64]⟩

abbrev nBuf : Space → Nat
  | .hbm => 150
  | .vmem => 0
  | .smem => 0
  | _ => 0

abbrev hbmTy0_0 (i : Nat) : BufTy := match i % 128 with
  | 0 => ⟨S16384x4480, .f32⟩
  | 1 => ⟨S4x64, .f32⟩
  | 2 => ⟨S4x4096x4480, .f32⟩
  | 3 => ⟨S4x4096x256, .f32⟩
  | 4 => ⟨S4x4096x4x64, .f32⟩
  | 5 => ⟨S4x4096x256, .f32⟩
  | 6 => ⟨S4x4096x2x2x64, .f32⟩
  | 7 => ⟨S4x4096x256, .f32⟩
  | 8 => ⟨S4x4096x2x2x64, .f32⟩
  | 9 => ⟨S4096, .i32⟩
  | 10 => ⟨S4096, .f32⟩
  | 11 => ⟨S4096x1, .f32⟩
  | 12 => ⟨S32, .f32⟩
  | 13 => ⟨S32, .f32⟩
  | 14 => ⟨S_, .f32⟩
  | 15 => ⟨S32, .f32⟩
  | 16 => ⟨S32, .f32⟩
  | 17 => ⟨S_, .f32⟩
  | 18 => ⟨S32, .f32⟩
  | 19 => ⟨S32, .f32⟩
  | 20 => ⟨S1x32, .f32⟩
  | 21 => ⟨S4096x32, .f32⟩
  | 22 => ⟨S4096x32, .f32⟩
  | 23 => ⟨S4096x32, .f32⟩
  | 24 => ⟨S4096x32, .f32⟩
  | 25 => ⟨S4096x1x32, .f32⟩
  | 26 => ⟨S4096x32, .f32⟩
  | 27 => ⟨S4096x1x32, .f32⟩
  | 28 => ⟨S1x64, .f32⟩
  | 29 => ⟨S64, .f32⟩
  | 30 => ⟨S4x4096x4x64, .f32⟩
  | 31 => ⟨S_, .f32⟩
  | 32 => ⟨S4x4096x4, .f32⟩
  | 33 => ⟨S4x4096x4x1, .f32⟩
  | 34 => ⟨S_, .f32⟩
  | 35 => ⟨S4x4096x4x1, .f32⟩
  | 36 => ⟨S4x4096x4x1, .f32⟩
  | 37 => ⟨S_, .f32⟩
  | 38 => ⟨S4x4096x4x1, .f32⟩
  | 39 => ⟨S4x4096x4x1, .f32⟩
  | 40 => ⟨S4x4096x4x1, .f32⟩
  | 41 => ⟨S4x4096x4x64, .f32⟩
  | 42 => ⟨S4x4096x4x64, .f32⟩
  | 43 => ⟨S1x1x1x64, .f32⟩
  | 44 => ⟨S4x4096x4x64, .f32⟩
  | 45 => ⟨S4x4096x4x64, .f32⟩
  | 46 => ⟨S4x4096x2x1x64, .f32⟩
  | 47 => ⟨S4x4096x2x64, .f32⟩
  | 48 => ⟨S1x64, .f32⟩
  | 49 => ⟨S64, .f32⟩
  | 50 => ⟨S4x4096x2x64, .f32⟩
  | 51 => ⟨S_, .f32⟩
  | 52 => ⟨S4x4096x2, .f32⟩
  | 53 => ⟨S4x4096x2x1, .f32⟩
  | 54 => ⟨S_, .f32⟩
  | 55 => ⟨S4x4096x2x1, .f32⟩
  | 56 => ⟨S4x4096x2x1, .f32⟩
  | 57 => ⟨S_, .f32⟩
  | 58 => ⟨S4x4096x2x1, .f32⟩
  | 59 => ⟨S4x4096x2x1, .f32⟩
  | 60 => ⟨S4x4096x2x1, .f32⟩
  | 61 => ⟨S4x4096x2x64, .f32⟩
  | 62 => ⟨S4x4096x2x64, .f32⟩
  | 63 => ⟨S1x1x1x64, .f32⟩
  | 64 => ⟨S4x4096x2x64, .f32⟩
  | 65 => ⟨S4x4096x2x64, .f32⟩
  | 66 => ⟨S4x4096x2x32, .f32⟩
  | 67 => ⟨S4x4096x2x32, .f32⟩
  | 68 => ⟨S1x4096x1x32, .f32⟩
  | 69 => ⟨S4x4096x2x32, .f32⟩
  | 70 => ⟨S4x4096x2x32, .f32⟩
  | 71 => ⟨S1x4096x1x32, .f32⟩
  | 72 => ⟨S4x4096x2x32, .f32⟩
  | 73 => ⟨S4x4096x2x32, .f32⟩
  | 74 => ⟨S4x4096x2x32, .f32⟩
  | 75 => ⟨S1x4096x1x32, .f32⟩
  | 76 => ⟨S4x4096x2x32, .f32⟩
  | 77 => ⟨S4x4096x2x32, .f32⟩
  | 78 => ⟨S1x4096x1x32, .f32⟩
  | 79 => ⟨S4x4096x2x32, .f32⟩
  | 80 => ⟨S4x4096x2x32, .f32⟩
  | 81 => ⟨S4x4096x2x32, .f32⟩
  | 82 => ⟨S4x4096x2x64, .f32⟩
  | 83 => ⟨S4x4096x2x1x64, .f32⟩
  | 84 => ⟨S4x4096x2x64, .f32⟩
  | 85 => ⟨S4x4096x2x1x64, .f32⟩
  | 86 => ⟨S4x4096x2x1x64, .f32⟩
  | 87 => ⟨S4x4096x2x2x64, .f32⟩
  | 88 => ⟨S4x4096x2x1x64, .f32⟩
  | 89 => ⟨S4x4096x2x64, .f32⟩
  | 90 => ⟨S1x64, .f32⟩
  | 91 => ⟨S64, .f32⟩
  | 92 => ⟨S4x4096x2x64, .f32⟩
  | 93 => ⟨S_, .f32⟩
  | 94 => ⟨S4x4096x2, .f32⟩
  | 95 => ⟨S4x4096x2x1, .f32⟩
  | 96 => ⟨S_, .f32⟩
  | 97 => ⟨S4x4096x2x1, .f32⟩
  | 98 => ⟨S4x4096x2x1, .f32⟩
  | 99 => ⟨S_, .f32⟩
  | 100 => ⟨S4x4096x2x1, .f32⟩
  | 101 => ⟨S4x4096x2x1, .f32⟩
  | 102 => ⟨S4x4096x2x1, .f32⟩
  | 103 => ⟨S4x4096x2x64, .f32⟩
  | 104 => ⟨S4x4096x2x64, .f32⟩
  | 105 => ⟨S1x1x1x64, .f32⟩
  | 106 => ⟨S4x4096x2x64, .f32⟩
  | 107 => ⟨S4x4096x2x64, .f32⟩
  | 108 => ⟨S4x4096x2x32, .f32⟩
  | 109 => ⟨S4x4096x2x32, .f32⟩
  | 110 => ⟨S1x4096x1x32, .f32⟩
  | 111 => ⟨S4x4096x2x32, .f32⟩
  | 112 => ⟨S4x4096x2x32, .f32⟩
  | 113 => ⟨S1x4096x1x32, .f32⟩
  | 114 => ⟨S4x4096x2x32, .f32⟩
  | 115 => ⟨S4x4096x2x32, .f32⟩
  | 116 => ⟨S4x4096x2x32, .f32⟩
  | 117 => ⟨S1x4096x1x32, .f32⟩
  | 118 => ⟨S4x4096x2x32, .f32⟩
  | 119 => ⟨S4x4096x2x32, .f32⟩
  | 120 => ⟨S1x4096x1x32, .f32⟩
  | 121 => ⟨S4x4096x2x32, .f32⟩
  | 122 => ⟨S4x4096x2x32, .f32⟩
  | 123 => ⟨S4x4096x2x32, .f32⟩
  | 124 => ⟨S4x4096x2x64, .f32⟩
  | 125 => ⟨S4x4096x2x1x64, .f32⟩
  | 126 => ⟨S4x4096x2x64, .f32⟩
  | 127 => ⟨S4x4096x2x1x64, .f32⟩
  | _ => ⟨S16384x4480, .f32⟩

abbrev hbmTy0_1 (i : Nat) : BufTy := match i % 128 with
  | 0 => ⟨S4x4096x2x1x64, .f32⟩
  | 1 => ⟨S4x4096x2x2x64, .f32⟩
  | 2 => ⟨S4x4096x256, .f32⟩
  | 3 => ⟨S4x4096x4x32, .f32⟩
  | 4 => ⟨S4x4096x4x32, .f32⟩
  | 5 => ⟨S1x4096x1x32, .f32⟩
  | 6 => ⟨S4x4096x4x32, .f32⟩
  | 7 => ⟨S4x4096x4x32, .f32⟩
  | 8 => ⟨S1x4096x1x32, .f32⟩
  | 9 => ⟨S4x4096x4x32, .f32⟩
  | 10 => ⟨S4x4096x4x32, .f32⟩
  | 11 => ⟨S4x4096x4x32, .f32⟩
  | 12 => ⟨S1x4096x1x32, .f32⟩
  | 13 => ⟨S4x4096x4x32, .f32⟩
  | 14 => ⟨S4x4096x4x32, .f32⟩
  | 15 => ⟨S1x4096x1x32, .f32⟩
  | 16 => ⟨S4x4096x4x32, .f32⟩
  | 17 => ⟨S4x4096x4x32, .f32⟩
  | 18 => ⟨S4x4096x4x32, .f32⟩
  | 19 => ⟨S4x4096x4x64, .f32⟩
  | 20 => ⟨S4x4096x256, .f32⟩
  | 21 => ⟨S4x512x2x2x64, .f32⟩
  | _ => ⟨S16384x4480, .f32⟩

abbrev hbmTy (i : Nat) : BufTy := match i / 128 with
  | 0 => hbmTy0_0 i
  | 1 => hbmTy0_1 i
  | _ => ⟨S16384x4480, .f32⟩

abbrev bufTy : (tb : Table) → Fin (tcTables nBuf tb) → BufTy
  | .hbm, ⟨i, _⟩ => hbmTy i
  | _, _ => ⟨S16384x4480, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst_1 : Ref sig .tc := ⟨.hbm, 31, rfl⟩
abbrev main_v27 : Ref sig .tc := ⟨.hbm, 32, rfl⟩
abbrev main_v28 : Ref sig .tc := ⟨.hbm, 33, rfl⟩
abbrev main_cst_2 : Ref sig .tc := ⟨.hbm, 34, rfl⟩
abbrev main_v29 : Ref sig .tc := ⟨.hbm, 35, rfl⟩
abbrev main_v30 : Ref sig .tc := ⟨.hbm, 36, rfl⟩
abbrev main_cst_3 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_cst_4 : Ref sig .tc := ⟨.hbm, 51, rfl⟩
abbrev main_v44 : Ref sig .tc := ⟨.hbm, 52, rfl⟩
abbrev main_v45 : Ref sig .tc := ⟨.hbm, 53, rfl⟩
abbrev main_cst_5 : Ref sig .tc := ⟨.hbm, 54, rfl⟩
abbrev main_v46 : Ref sig .tc := ⟨.hbm, 55, rfl⟩
abbrev main_v47 : Ref sig .tc := ⟨.hbm, 56, rfl⟩
abbrev main_cst_6 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_cst_7 : Ref sig .tc := ⟨.hbm, 93, rfl⟩
abbrev main_v83 : Ref sig .tc := ⟨.hbm, 94, rfl⟩
abbrev main_v84 : Ref sig .tc := ⟨.hbm, 95, rfl⟩
abbrev main_cst_8 : Ref sig .tc := ⟨.hbm, 96, rfl⟩
abbrev main_v85 : Ref sig .tc := ⟨.hbm, 97, rfl⟩
abbrev main_v86 : Ref sig .tc := ⟨.hbm, 98, rfl⟩
abbrev main_cst_9 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩

abbrev nD : Nat := 1
abbrev τ : Topo := Topo.v7x

variable {F : FTy → Type} [FloatOps F]
-- ==== Proof.Masked.lean ====
/- The masked softmax over the extended reals, as both programs of the compressed-branch attention compute it: the row
   maximum is taken as zero when every key is masked, the sum of the weights is kept from zero by a small constant. -/
module

public import Idealize.ShloMosaic.PureOps.Ideal
public import Idealize.ShloMosaic.PureOps.Ideal.Laws
public import Idealize.ShloMosaic.Lib.IdealHost
public import Mathlib.Algebra.BigOperators.Fin

@[expose] public section

noncomputable section

namespace Cert.Masked

open Idealize.ShloMosaic

/-- An extended real that is neither infinity. -/
def Fin' (x : EReal) : Prop := x ≠ ⊤ ∧ x ≠ ⊥

theorem Fin'.coe (r : ℝ) : Fin' (r : EReal) := ⟨EReal.coe_ne_top r, EReal.coe_ne_bot r⟩

/-- A finite extended real is a real. -/
theorem Fin'.exists {x : EReal} (h : Fin' x) : ∃ r : ℝ, x = (r : EReal) := ⟨x.toReal, (EReal.coe_toReal h.1 h.2).symm⟩

theorem Fin'.zero : Fin' 0 := Fin'.coe 0

theorem Fin'.add {x y : EReal} (hx : Fin' x) (hy : Fin' y) : Fin' (x + y) := by
  obtain ⟨a, rfl⟩ := hx.exists; obtain ⟨b, rfl⟩ := hy.exists
  rw [← EReal.coe_add]; exact Fin'.coe _

theorem Fin'.mul {x y : EReal} (hx : Fin' x) (hy : Fin' y) : Fin' (x * y) := by
  obtain ⟨a, rfl⟩ := hx.exists; obtain ⟨b, rfl⟩ := hy.exists
  rw [← EReal.coe_mul]; exact Fin'.coe _

theorem Fin'.max {x y : EReal} (hx : Fin' x) (hy : Fin' y) : Fin' (max x y) := by
  rcases max_choice x y with h | h <;> rw [h] <;> assumption

theorem Fin'.sum {ι : Type} (s : Finset ι) (f : ι → EReal) (h : ∀ i ∈ s, Fin' (f i)) : Fin' (∑ i ∈ s, f i) := by
  classical
  induction s using Finset.induction_on with
  | empty => simpa using Fin'.zero
  | insert a s ha ih =>
    rw [Finset.sum_insert ha]
    exact (h a (Finset.mem_insert_self a s)).add (ih fun i hi => h i (Finset.mem_insert_of_mem hi))

theorem Fin'.div {x y : EReal} (hx : Fin' x) (hy : Fin' y) (h0 : y ≠ 0) : Fin' (Ideal.div x y) := by
  obtain ⟨a, rfl⟩ := hx.exists; obtain ⟨b, rfl⟩ := hy.exists
  unfold Ideal.div
  rw [if_neg h0, ← EReal.coe_inv, ← EReal.coe_mul]; exact Fin'.coe _

theorem Fin'.sub_self {x : EReal} (hx : Fin' x) : x - x = 0 := EReal.sub_self hx.1 hx.2

/-- The exponential of anything but `+∞` is finite. -/
theorem Fin'.exp {x : EReal} (hx : x ≠ ⊤) : Fin' (Ideal.exp x) := by
  induction x with
  | bot => exact Fin'.zero
  | coe r => exact Fin'.coe _
  | top => exact absurd rfl hx

/-- The exponential is nonnegative. -/
theorem exp_nonneg (x : EReal) : 0 ≤ Ideal.exp x := by
  induction x with
  | bot => exact le_refl _
  | coe r => exact EReal.coe_nonneg.mpr (Real.exp_pos r).le
  | top => exact le_top

/-- The maximum of a row, `-∞` of an empty one. -/
def top {n : ℕ} (s : Fin n → EReal) : EReal := Finset.univ.fold max ⊥ s

/-- What is subtracted from a row's scores: its maximum, or zero when that is `-∞`. -/
def shift {n : ℕ} (s : Fin n → EReal) : EReal := if top s = ⊥ then 0 else top s

/-- The weight of a key. -/
def wt {n : ℕ} (s : Fin n → EReal) (i : Fin n) : EReal := Ideal.exp (s i - shift s)

/-- The probability of a key; `c` bounds the sum of the weights from below. -/
def prob {n : ℕ} (c : EReal) (s : Fin n → EReal) (i : Fin n) : EReal := Ideal.div (wt s i) (max (∑ j, wt s j) c)

theorem top_ne_top {n : ℕ} (s : Fin n → EReal) (h : ∀ i, s i ≠ ⊤) : top s ≠ ⊤ := by
  unfold top
  have : Finset.univ.fold max ⊥ s < ⊤ := by
    rw [Finset.fold_max_lt]
    exact ⟨bot_lt_top, fun i _ => lt_top_iff_ne_top.mpr (h i)⟩
  exact this.ne

theorem shift_fin {n : ℕ} (s : Fin n → EReal) (h : ∀ i, s i ≠ ⊤) : Fin' (shift s) := by
  unfold shift
  split
  · exact Fin'.zero
  · exact ⟨top_ne_top s h, by assumption⟩

theorem wt_fin {n : ℕ} (s : Fin n → EReal) (h : ∀ i, s i ≠ ⊤) (i : Fin n) : Fin' (wt s i) := by
  unfold wt
  apply Fin'.exp
  obtain ⟨r, hr⟩ := (shift_fin s h).exists
  rw [hr]
  intro e
  have := h i
  induction hs : s i with
  | bot => rw [hs, EReal.bot_sub] at e; exact absurd e (by simp)
  | coe q => rw [hs, ← EReal.coe_sub] at e; exact EReal.coe_ne_top _ e
  | top => exact this hs

theorem den_pos {n : ℕ} {c : EReal} (hc : 0 < c) (s : Fin n → EReal) : max (∑ j, wt s j) c ≠ 0 :=
  (lt_of_lt_of_le hc (le_max_right _ _)).ne'

theorem prob_fin {n : ℕ} {c : EReal} (hc : 0 < c) (hcf : Fin' c) (s : Fin n → EReal) (h : ∀ i, s i ≠ ⊤) (i : Fin n) :
    Fin' (prob c s i) :=
  (wt_fin s h i).div ((Fin'.sum _ _ fun j _ => wt_fin s h j).max hcf) (den_pos hc s)

/-- A masked key at the end changes no row maximum. -/
theorem top_snoc {n : ℕ} (s : Fin (n + 1) → EReal) (h : s (Fin.last n) = ⊥) : top s = top fun i : Fin n => s i.castSucc := by
  unfold top
  rw [Fin.univ_castSuccEmb, Finset.fold_cons, Finset.fold_map, h]
  exact max_eq_right bot_le

theorem shift_snoc {n : ℕ} (s : Fin (n + 1) → EReal) (h : s (Fin.last n) = ⊥) : shift s = shift fun i : Fin n => s i.castSucc := by
  unfold shift; rw [top_snoc s h]

theorem wt_snoc {n : ℕ} (s : Fin (n + 1) → EReal) (h : s (Fin.last n) = ⊥) (i : Fin n) :
    wt s i.castSucc = wt (fun i : Fin n => s i.castSucc) i := by
  unfold wt; rw [shift_snoc s h]

theorem wt_last {n : ℕ} (s : Fin (n + 1) → EReal) (h : s (Fin.last n) = ⊥) : wt s (Fin.last n) = 0 := by
  unfold wt; rw [h, EReal.bot_sub]; rfl

theorem sum_wt_snoc {n : ℕ} (s : Fin (n + 1) → EReal) (h : s (Fin.last n) = ⊥) :
    ∑ j, wt s j = ∑ j, wt (fun i : Fin n => s i.castSucc) j := by
  rw [Fin.sum_univ_castSucc, wt_last s h, add_zero]
  exact Finset.sum_congr rfl fun i _ => wt_snoc s h i

theorem prob_snoc {n : ℕ} (c : EReal) (s : Fin (n + 1) → EReal) (h : s (Fin.last n) = ⊥) (i : Fin n) :
    prob c s i.castSucc = prob c (fun i : Fin n => s i.castSucc) i := by
  unfold prob; rw [sum_wt_snoc s h, wt_snoc s h]

theorem prob_last {n : ℕ} {c : EReal} (hc : 0 < c) (s : Fin (n + 1) → EReal) (h : s (Fin.last n) = ⊥) :
    prob c s (Fin.last n) = 0 := by
  unfold prob; rw [wt_last s h]; exact Ideal.zero_div (den_pos hc s)

/-- A sum of probabilities times values loses nothing when the masked last key is left out. -/
theorem sum_prob_snoc {n : ℕ} {c : EReal} (hc : 0 < c) (s : Fin (n + 1) → EReal) (h : s (Fin.last n) = ⊥) (v : Fin (n + 1) → EReal) :
    ∑ i, prob c s i * v i = ∑ i : Fin n, prob c (fun i : Fin n => s i.castSucc) i * v i.castSucc := by
  rw [Fin.sum_univ_castSucc, prob_last hc s h, zero_mul, add_zero]
  exact Finset.sum_congr rfl fun i _ => by rw [prob_snoc c s h]

/-- The pattern of `-∞`. -/
theorem ninf : Ideal.ofBits .f32 0xFF800000#32 = (⊥ : EReal) := by simp [Ideal.ofBits, Ideal.ieee]

/-- The pattern of `+∞`. -/
theorem pinf : Ideal.ofBits .f32 0x7F800000#32 = (⊤ : EReal) := by simp [Ideal.ofBits, Ideal.ieee]

/-- The scale of the scores is a real. -/
theorem scale_fin : Fin' (Ideal.ofBits .f32 0x3E000000#32) := by
  simp only [Ideal.ofBits, Ideal.ieee]
  norm_num
  exact Fin'.coe _

/-- The bound on the sum of the weights is a positive real. -/
theorem tiny_pos : 0 < Ideal.ofBits .f32 0x0DA24260#32 := by
  have h : ¬ ((0x0DA24260#32 : BitVec 32).extractLsb' 31 1 = 1#1) := by decide
  simp only [Ideal.ofBits, Ideal.ieee]
  norm_num [Nat.shiftRight_eq_div_pow, h]

theorem tiny_fin : Fin' (Ideal.ofBits .f32 0x0DA24260#32) := by
  simp only [Ideal.ofBits, Ideal.ieee]
  norm_num
  exact Fin'.coe _

/-- Choosing the maximum where its absolute value is below `+∞`, and zero elsewhere, is the shift, for a maximum below `+∞`. -/
theorem abs_sel (x y : EReal) (h : x ≠ ⊤) :
    (if FloatOps.absf (F := Ideal) (φ := .f32) x < Ideal.ofBits .f32 0x7F800000#32 then x else y) = if x = ⊥ then y else x := by
  rw [pinf]
  change (if max x (-x) < ⊤ then x else y) = _
  induction x using EReal.rec with
  | bot => simp
  | top => exact absurd rfl h
  | coe r =>
    have : max (r : EReal) (-(r : EReal)) < ⊤ := max_lt (EReal.coe_lt_top r) (by rw [← EReal.coe_neg]; exact EReal.coe_lt_top _)
    rw [if_pos this, if_neg (EReal.coe_ne_bot r)]

/-- The pattern of zero. -/
theorem zero_f32 : Ideal.ofBits .f32 0x00000000#32 = (0 : EReal) := by simp [Ideal.ofBits, Ideal.ieee]

/-- The same choice, as the host's operations spell it. -/
theorem sel_shift {n : ℕ} (s : Fin n → EReal) (h : ∀ i, s i ≠ ⊤) :
    Scalar.select (FloatOps.cmpf (F := Ideal) (φ := .f32) .olt (FloatOps.hostAbsf (F := Ideal) (φ := .f32) (top s)) (Ideal.ofBits .f32 0x7F800000#32)) (top s) 0
      = shift s := by
  unfold shift
  rw [← abs_sel (top s) 0 (top_ne_top s h)]
  generalize top s = x
  by_cases hx : FloatOps.absf (F := Ideal) (φ := .f32) x < Ideal.ofBits .f32 0x7F800000#32
  · rw [if_pos hx]
    have : FloatOps.cmpf (F := Ideal) (φ := .f32) .olt (FloatOps.hostAbsf (F := Ideal) (φ := .f32) x) (Ideal.ofBits .f32 0x7F800000#32) = 1#1 := by
      exact congrArg BitVec.ofBool (decide_eq_true hx)
    rw [this]; rfl
  · rw [if_neg hx]
    have : FloatOps.cmpf (F := Ideal) (φ := .f32) .olt (FloatOps.hostAbsf (F := Ideal) (φ := .f32) x) (Ideal.ofBits .f32 0x7F800000#32) = 0#1 := by
      exact congrArg BitVec.ofBool (decide_eq_false hx)
    rw [this]; rfl

end Cert.Masked
-- ==== Proof.CmpScore.lean ====
/- The compressed-branch attention as plain sums over its two arrays: the scores, the output, the block importances. -/
module

public import proofs.«01_k».proof.Proof.Masked
public import Idealize.ShloMosaic.Lib.Pointwise

@[expose] public section

set_option maxRecDepth 16384

noncomputable section

namespace Cert.CmpScore

open Idealize.ShloMosaic
open Cert.Masked (prob Fin')

/-- The denominator's floor, `1e-30`. -/
abbrev tiny : EReal := Ideal.ofBits .f32 0x0DA24260#32

variable (q : Vec Ideal (⟨3, ![4, 4096, 256]⟩ : Shape) .f32) (kv : Vec Ideal (⟨3, ![4, 256, 256]⟩ : Shape) .f32)

/-- The score of key `n` for position `t` of sequence `b`, query head `g` of key head `h`. -/
def score (b : Fin 4) (h g : Fin 2) (t : Fin 4096) : Fin 256 → EReal := fun n =>
  if n.val * 16 + 31 ≤ t.val then
    (∑ d : Fin 64, q (ix3 b t ⟨h.val * 128 + g.val * 64 + d.val, by omega⟩) * kv (ix3 b n ⟨h.val * 128 + d.val, by omega⟩))
      * Ideal.ofBits .f32 0x3E000000#32
  else ⊥

/-- With finite arguments no score is `+∞`. -/
theorem score_ne_top (hq : ∀ i, Fin' (q i)) (hk : ∀ i, Fin' (kv i))
    (b : Fin 4) (h g : Fin 2) (t : Fin 4096) (n : Fin 256) : score q kv b h g t n ≠ ⊤ := by
  unfold score
  split
  · exact ((Fin'.sum _ _ fun d _ => (hq _).mul (hk _)).mul Cert.Masked.scale_fin).1
  · exact bot_ne_top

/-- The attention output. -/
def outG (b : Fin 4) (t : Fin 4096) (c : Fin 256) : EReal :=
  ∑ n : Fin 256, prob tiny (score q kv b ⟨c.val / 128, by omega⟩ ⟨c.val % 128 / 64, by omega⟩ t) n
    * kv (ix3 b n ⟨c.val / 128 * 128 + (64 + c.val % 64), by omega⟩)

/-- The cover matrix: compressed token `n` overlaps selection block `s`. -/
def cov (n : Fin 256) (s : Fin 128) : EReal :=
  if n.val * 16 < (s.val + 1) * 64 ∧ s.val * 64 < n.val * 16 + 32 ∧ n.val < 255 ∧ s.val < 64 then 1 else 0

/-- The importance of block `s`. -/
def impG (b : Fin 4) (h : Fin 2) (t : Fin 4096) (s : Fin 128) : EReal :=
  ∑ n : Fin 256, (prob tiny (score q kv b h 0 t) n + prob tiny (score q kv b h 1 t) n) * cov n s

end Cert.CmpScore
-- ==== Proof.CmpPay.lean ====
/- The compressed-branch attention kernel's body at the ideal instance: what each of its two stores holds, read at an
   index, as sums of masked-softmax probabilities (Masked.lean) over the blocks it loads. -/
module

public import proofs.«01_k».proof.Proof.Gen.CmpIdeal.Value
public import proofs.«01_k».proof.Proof.CmpScore
public import Idealize.ShloMosaic.Lib.Pipeline.ValueKit
public import Idealize.ShloMosaic.Lib.Pointwise
public import Idealize.ShloMosaic.Lib.WordCmp

@[expose] public section

set_option maxRecDepth 16384

noncomputable section

namespace Cert.CmpIdeal.Att

open Cert.CmpIdeal Cert.CmpIdeal.Gen Idealize.ShloMosaic Idealize.ShloMosaic.TcCoe Idealize.SL.Sem
open Cert.Masked (wt prob ninf)
open Cert.CmpScore (tiny)

/-- The score of key `n` for row `r` of the block, query head `g` of the block's group: masked to `-∞` where the key's
    window ends after the row's position. -/
def kscore (i : grid0.Coords) (qb : Vec Ideal S1x512x128 .f32) (kb : Vec Ideal S1x256x128 .f32) (g : Fin 2) (r : Fin 512) :
    Fin 256 → EReal := fun n =>
  if n.val * 16 + 31 ≤ (i 2).val * 512 + r.val then
    (∑ d : Fin 64, qb (ix3 0 r ⟨g.val * 64 + d.val, by omega⟩) * kb (ix3 0 n ⟨d.val, by omega⟩)) * Ideal.ofBits .f32 0x3E000000#32
  else ⊥

/-- The mask's comparison of words is the comparison of the numbers they hold. -/
theorem mask_word (a r n : ℕ) (ha : a < 8) (hr : r < 512) (hn : n < 256) (x y : EReal) :
    Scalar.select (IntOp.cmpi .sle (IntOp.addi (IntOp.muli (BitVec.ofNat 32 n) 16#32) 31#32)
      (IntOp.addi (Scalar.addi (0#32) (Scalar.muli (BitVec.ofNat 32 a) 512#32)) (BitVec.ofNat 32 r))) x y
    = if n * 16 + 31 ≤ a * 512 + r then x else y := by
  have e1 : IntOp.addi (IntOp.muli (BitVec.ofNat 32 n) 16#32) 31#32 = BitVec.ofNat 32 (n * 16 + 31) := by
    simp [IntOp.addi, IntOp.muli, BitVec.ofNat_add, BitVec.ofNat_mul]
  have e2 : IntOp.addi (Scalar.addi (0#32) (Scalar.muli (BitVec.ofNat 32 a) 512#32)) (BitVec.ofNat 32 r)
      = BitVec.ofNat 32 (a * 512 + r) := by
    simp [IntOp.addi, IntOp.muli, Scalar.addi, Scalar.muli, BitVec.ofNat_add, BitVec.ofNat_mul]
  rw [e1, e2]
  word_cmp

/-- Head 0's weights. -/
theorem pay8_apply (i : grid0.Coords) (qb : Vec Ideal S1x512x128 .f32) (kb : Vec Ideal S1x256x128 .f32) (r : Fin 512) (n : Fin 256) :
    k0_pay8 i kb qb (ix2 r n) = wt (kscore i qb kb 0 r) n := by
  have h2 : (i 2).val < 8 := (i 2).isLt
  pointwise [k0_pay8, k0_pay6, k0_pay5, k0_pay3, k0_pay2]
  simp only [mask_word _ _ _ h2 r.isLt (Fin.isLt _), ninf]
  simp only [wt, Cert.Masked.shift, Cert.Masked.top, kscore, Fin.val_zero, Nat.zero_mul, Nat.zero_add]
  rfl

/-- Head 1's probabilities. -/
theorem pay12_apply (i : grid0.Coords) (qb : Vec Ideal S1x512x128 .f32) (kb : Vec Ideal S1x256x128 .f32) (r : Fin 512) (n : Fin 256) :
    k0_pay12 (k0_pay3 kb) (k0_pay5 qb) (k0_pay6 i) (ix2 r n) = prob tiny (kscore i qb kb 1 r) n := by
  have h2 : (i 2).val < 8 := (i 2).isLt
  pointwise [k0_pay12, k0_pay6, k0_pay5, k0_pay3, k0_pay2]
  simp only [mask_word _ _ _ h2 r.isLt (Fin.isLt _), ninf]
  simp only [prob, wt, Cert.Masked.shift, Cert.Masked.top, kscore, Fin.val_one, Nat.one_mul]
  rfl

/-- Head 0's probabilities. -/
theorem pay11_apply (i : grid0.Coords) (qb : Vec Ideal S1x512x128 .f32) (kb : Vec Ideal S1x256x128 .f32) (r : Fin 512) (n : Fin 256) :
    k0_pay11 (k0_pay8 i kb qb) (k0_pay9 i kb qb) k0_pay10 (ix2 r n) = prob tiny (kscore i qb kb 0 r) n := by
  pointwise [k0_pay11, k0_pay9, k0_pay10]
  simp only [pay8_apply]
  rfl

/-- A coordinate of one of two. -/
def headOf (c : Fin 128) : Fin 2 := ⟨c.val / 64, by omega⟩

/-- The attention output's block at an index: the probabilities of the column's head times the values. -/
theorem out3_apply (i : grid0.Coords) (qb : Vec Ideal S1x512x128 .f32) (kb : Vec Ideal S1x256x128 .f32) (cb : Vec Ideal S256x128 .bf16)
    (r : Fin 512) (c : Fin 128) :
    out0_3 i qb kb cb (ix3 0 r c)
      = ∑ n : Fin 256, prob tiny (kscore i qb kb (headOf c) r) n * kb (ix3 0 n ⟨64 + c.val % 64, by omega⟩) := by
  frame_out
  unfold k0_pay15 k0_pay16 k0_pay17 k0_pay18 k0_pay19 k0_pay20
  frame_out
  pointwise [k0_pay13, k0_pay4, k0_pay2]
  simp only [pay11_apply, pay12_apply]
  have hc := c.isLt
  split
  · rename_i h
    have e : headOf c = 0 := Fin.ext (by simp [headOf]; omega)
    rw [e]
    refine Finset.sum_congr rfl fun n _ => congrArg (fun a => _ * kb (ix3 0 n a)) (Fin.ext ?_)
    dsimp only
    omega
  · rename_i h
    have e : headOf c = 1 := Fin.ext (by simp [headOf]; omega)
    rw [e]
    refine Finset.sum_congr rfl fun n _ => congrArg (fun a => _ * kb (ix3 0 n a)) (Fin.ext ?_)
    dsimp only
    omega

/-- The importance block at an index: the probabilities of both heads, summed, times the cover matrix. -/
theorem out4_apply (i : grid0.Coords) (qb : Vec Ideal S1x512x128 .f32) (kb : Vec Ideal S1x256x128 .f32) (cb : Vec Ideal S256x128 .bf16)
    (r : Fin 512) (c : Fin 128) (h : ∀ g n, kscore i qb kb g r n ≠ ⊤) :
    out0_4 i qb kb cb (ix4 0 0 r c)
      = ∑ n : Fin 256, (prob tiny (kscore i qb kb 0 r) n + prob tiny (kscore i qb kb 1 r) n) * cb (ix2 n c) := by
  have hz : ∀ n, (prob tiny (kscore i qb kb 0 r) n + prob tiny (kscore i qb kb 1 r) n)
      - (prob tiny (kscore i qb kb 0 r) n + prob tiny (kscore i qb kb 1 r) n) = 0 := fun n =>
    ((Cert.Masked.prob_fin Cert.Masked.tiny_pos Cert.Masked.tiny_fin _ (h 0) n).add
      (Cert.Masked.prob_fin Cert.Masked.tiny_pos Cert.Masked.tiny_fin _ (h 1) n)).sub_self
  frame_out
  unfold k0_pay15 k0_pay16 k0_pay17 k0_pay18 k0_pay19 k0_pay20
  frame_out
  pointwise [k0_pay1, k0_pay14, k0_pay7]
  simp only [pay11_apply, pay12_apply]
  simp only [hz, zero_mul, Finset.sum_const_zero, add_zero]

end Cert.CmpIdeal.Att
-- ==== Proof.Cover0.lean ====
/- Rows of the cover matrix that the compressed-branch attention spells out as a literal. -/
module

public import proofs.«01_k».proof.CmpIdeal

@[expose] public section

set_option maxRecDepth 16384
set_option Elab.async false

noncomputable section

namespace Cert.CmpIdeal.Att

open Cert.CmpIdeal Idealize.ShloMosaic

theorem lit0_rows0 : ∀ (n : Fin 16) (s : Fin 128), lit0 ⟨(0 + n.val) * 128 + s.val, by omega⟩
    = if (0 + n.val) * 16 < (s.val + 1) * 64 ∧ s.val * 64 < (0 + n.val) * 16 + 32 ∧ 0 + n.val < 255 ∧ s.val < 64 then 0x3F80#16 else 0#16 := by
  decide +kernel

theorem lit0_rows1 : ∀ (n : Fin 16) (s : Fin 128), lit0 ⟨(16 + n.val) * 128 + s.val, by omega⟩
    = if (16 + n.val) * 16 < (s.val + 1) * 64 ∧ s.val * 64 < (16 + n.val) * 16 + 32 ∧ 16 + n.val < 255 ∧ s.val < 64 then 0x3F80#16 else 0#16 := by
  decide +kernel

end Cert.CmpIdeal.Att
-- ==== Proof.Cover1.lean ====
/- Rows of the cover matrix that the compressed-branch attention spells out as a literal. -/
module

public import proofs.«01_k».proof.CmpIdeal

@[expose] public section

set_option maxRecDepth 16384
set_option Elab.async false

noncomputable section

namespace Cert.CmpIdeal.Att

open Cert.CmpIdeal Idealize.ShloMosaic

theorem lit0_rows2 : ∀ (n : Fin 16) (s : Fin 128), lit0 ⟨(32 + n.val) * 128 + s.val, by omega⟩
    = if (32 + n.val) * 16 < (s.val + 1) * 64 ∧ s.val * 64 < (32 + n.val) * 16 + 32 ∧ 32 + n.val < 255 ∧ s.val < 64 then 0x3F80#16 else 0#16 := by
  decide +kernel

theorem lit0_rows3 : ∀ (n : Fin 16) (s : Fin 128), lit0 ⟨(48 + n.val) * 128 + s.val, by omega⟩
    = if (48 + n.val) * 16 < (s.val + 1) * 64 ∧ s.val * 64 < (48 + n.val) * 16 + 32 ∧ 48 + n.val < 255 ∧ s.val < 64 then 0x3F80#16 else 0#16 := by
  decide +kernel

end Cert.CmpIdeal.Att
-- ==== Proof.Cover2.lean ====
/- Rows of the cover matrix that the compressed-branch attention spells out as a literal. -/
module

public import proofs.«01_k».proof.CmpIdeal

@[expose] public section

set_option maxRecDepth 16384
set_option Elab.async false

noncomputable section

namespace Cert.CmpIdeal.Att

open Cert.CmpIdeal Idealize.ShloMosaic

theorem lit0_rows4 : ∀ (n : Fin 16) (s : Fin 128), lit0 ⟨(64 + n.val) * 128 + s.val, by omega⟩
    = if (64 + n.val) * 16 < (s.val + 1) * 64 ∧ s.val * 64 < (64 + n.val) * 16 + 32 ∧ 64 + n.val < 255 ∧ s.val < 64 then 0x3F80#16 else 0#16 := by
  decide +kernel

theorem lit0_rows5 : ∀ (n : Fin 16) (s : Fin 128), lit0 ⟨(80 + n.val) * 128 + s.val, by omega⟩
    = if (80 + n.val) * 16 < (s.val + 1) * 64 ∧ s.val * 64 < (80 + n.val) * 16 + 32 ∧ 80 + n.val < 255 ∧ s.val < 64 then 0x3F80#16 else 0#16 := by
  decide +kernel

end Cert.CmpIdeal.Att
-- ==== Proof.Cover3.lean ====
/- Rows of the cover matrix that the compressed-branch attention spells out as a literal. -/
module

public import proofs.«01_k».proof.CmpIdeal

@[expose] public section

set_option maxRecDepth 16384
set_option Elab.async false

noncomputable section

namespace Cert.CmpIdeal.Att

open Cert.CmpIdeal Idealize.ShloMosaic

theorem lit0_rows6 : ∀ (n : Fin 16) (s : Fin 128), lit0 ⟨(96 + n.val) * 128 + s.val, by omega⟩
    = if (96 + n.val) * 16 < (s.val + 1) * 64 ∧ s.val * 64 < (96 + n.val) * 16 + 32 ∧ 96 + n.val < 255 ∧ s.val < 64 then 0x3F80#16 else 0#16 := by
  decide +kernel

theorem lit0_rows7 : ∀ (n : Fin 16) (s : Fin 128), lit0 ⟨(112 + n.val) * 128 + s.val, by omega⟩
    = if (112 + n.val) * 16 < (s.val + 1) * 64 ∧ s.val * 64 < (112 + n.val) * 16 + 32 ∧ 112 + n.val < 255 ∧ s.val < 64 then 0x3F80#16 else 0#16 := by
  decide +kernel

end Cert.CmpIdeal.Att
-- ==== Proof.Cover4.lean ====
/- Rows of the cover matrix that the compressed-branch attention spells out as a literal. -/
module

public import proofs.«01_k».proof.CmpIdeal

@[expose] public section

set_option maxRecDepth 16384
set_option Elab.async false

noncomputable section

namespace Cert.CmpIdeal.Att

open Cert.CmpIdeal Idealize.ShloMosaic

theorem lit0_rows8 : ∀ (n : Fin 16) (s : Fin 128), lit0 ⟨(128 + n.val) * 128 + s.val, by omega⟩
    = if (128 + n.val) * 16 < (s.val + 1) * 64 ∧ s.val * 64 < (128 + n.val) * 16 + 32 ∧ 128 + n.val < 255 ∧ s.val < 64 then 0x3F80#16 else 0#16 := by
  decide +kernel

theorem lit0_rows9 : ∀ (n : Fin 16) (s : Fin 128), lit0 ⟨(144 + n.val) * 128 + s.val, by omega⟩
    = if (144 + n.val) * 16 < (s.val + 1) * 64 ∧ s.val * 64 < (144 + n.val) * 16 + 32 ∧ 144 + n.val < 255 ∧ s.val < 64 then 0x3F80#16 else 0#16 := by
  decide +kernel

end Cert.CmpIdeal.Att
-- ==== Proof.Cover5.lean ====
/- Rows of the cover matrix that the compressed-branch attention spells out as a literal. -/
module

public import proofs.«01_k».proof.CmpIdeal

@[expose] public section

set_option maxRecDepth 16384
set_option Elab.async false

noncomputable section

namespace Cert.CmpIdeal.Att

open Cert.CmpIdeal Idealize.ShloMosaic

theorem lit0_rows10 : ∀ (n : Fin 16) (s : Fin 128), lit0 ⟨(160 + n.val) * 128 + s.val, by omega⟩
    = if (160 + n.val) * 16 < (s.val + 1) * 64 ∧ s.val * 64 < (160 + n.val) * 16 + 32 ∧ 160 + n.val < 255 ∧ s.val < 64 then 0x3F80#16 else 0#16 := by
  decide +kernel

theorem lit0_rows11 : ∀ (n : Fin 16) (s : Fin 128), lit0 ⟨(176 + n.val) * 128 + s.val, by omega⟩
    = if (176 + n.val) * 16 < (s.val + 1) * 64 ∧ s.val * 64 < (176 + n.val) * 16 + 32 ∧ 176 + n.val < 255 ∧ s.val < 64 then 0x3F80#16 else 0#16 := by
  decide +kernel

end Cert.CmpIdeal.Att
-- ==== Proof.Cover6.lean ====
/- Rows of the cover matrix that the compressed-branch attention spells out as a literal. -/
module

public import proofs.«01_k».proof.CmpIdeal

@[expose] public section

set_option maxRecDepth 16384
set_option Elab.async false

noncomputable section

namespace Cert.CmpIdeal.Att

open Cert.CmpIdeal Idealize.ShloMosaic

theorem lit0_rows12 : ∀ (n : Fin 16) (s : Fin 128), lit0 ⟨(192 + n.val) * 128 + s.val, by omega⟩
    = if (192 + n.val) * 16 < (s.val + 1) * 64 ∧ s.val * 64 < (192 + n.val) * 16 + 32 ∧ 192 + n.val < 255 ∧ s.val < 64 then 0x3F80#16 else 0#16 := by
  decide +kernel

theorem lit0_rows13 : ∀ (n : Fin 16) (s : Fin 128), lit0 ⟨(208 + n.val) * 128 + s.val, by omega⟩
    = if (208 + n.val) * 16 < (s.val + 1) * 64 ∧ s.val * 64 < (208 + n.val) * 16 + 32 ∧ 208 + n.val < 255 ∧ s.val < 64 then 0x3F80#16 else 0#16 := by
  decide +kernel

end Cert.CmpIdeal.Att
-- ==== Proof.Cover7.lean ====
/- Rows of the cover matrix that the compressed-branch attention spells out as a literal. -/
module

public import proofs.«01_k».proof.CmpIdeal

@[expose] public section

set_option maxRecDepth 16384
set_option Elab.async false

noncomputable section

namespace Cert.CmpIdeal.Att

open Cert.CmpIdeal Idealize.ShloMosaic

theorem lit0_rows14 : ∀ (n : Fin 16) (s : Fin 128), lit0 ⟨(224 + n.val) * 128 + s.val, by omega⟩
    = if (224 + n.val) * 16 < (s.val + 1) * 64 ∧ s.val * 64 < (224 + n.val) * 16 + 32 ∧ 224 + n.val < 255 ∧ s.val < 64 then 0x3F80#16 else 0#16 := by
  decide +kernel

theorem lit0_rows15 : ∀ (n : Fin 16) (s : Fin 128), lit0 ⟨(240 + n.val) * 128 + s.val, by omega⟩
    = if (240 + n.val) * 16 < (s.val + 1) * 64 ∧ s.val * 64 < (240 + n.val) * 16 + 32 ∧ 240 + n.val < 255 ∧ s.val < 64 then 0x3F80#16 else 0#16 := by
  decide +kernel

end Cert.CmpIdeal.Att
-- ==== Proof.Cover.lean ====
/- The entries of the cover matrix that the compressed-branch attention spells out as a literal. -/
module

public import proofs.«01_k».proof.Proof.CmpScore
public import proofs.«01_k».proof.Proof.Cover0
public import proofs.«01_k».proof.Proof.Cover1
public import proofs.«01_k».proof.Proof.Cover2
public import proofs.«01_k».proof.Proof.Cover3
public import proofs.«01_k».proof.Proof.Cover4
public import proofs.«01_k».proof.Proof.Cover5
public import proofs.«01_k».proof.Proof.Cover6
public import proofs.«01_k».proof.Proof.Cover7

@[expose] public section

set_option maxRecDepth 16384

noncomputable section

namespace Cert.CmpIdeal.Att

open Cert.CmpIdeal Idealize.ShloMosaic Idealize.ShloMosaic.TcCoe Idealize.SL.Sem

/-- Entry `(n, s)` is one where compressed token `n` overlaps selection block `s`, else zero. -/
theorem lit0_eq : ∀ (n : Fin 256) (s : Fin 128), lit0 ⟨n.val * 128 + s.val, by omega⟩
    = if n.val * 16 < (s.val + 1) * 64 ∧ s.val * 64 < n.val * 16 + 32 ∧ n.val < 255 ∧ s.val < 64 then 0x3F80#16 else 0#16 := by
  intro n s
  obtain ⟨n, hn⟩ := n
  have key : ∀ k r : ℕ, ∀ _ : k < 16, ∀ hr : r < 16, lit0 ⟨(k * 16 + r) * 128 + s.val, by omega⟩
      = if (k * 16 + r) * 16 < (s.val + 1) * 64 ∧ s.val * 64 < (k * 16 + r) * 16 + 32 ∧ k * 16 + r < 255 ∧ s.val < 64 then 0x3F80#16 else 0#16 := by
    intro k r hk hr
    interval_cases k
    · have h := lit0_rows0 ⟨r, hr⟩ s
      revert h; generalize lit0 = L; intro h; exact h
    · have h := lit0_rows1 ⟨r, hr⟩ s
      revert h; generalize lit0 = L; intro h; exact h
    · have h := lit0_rows2 ⟨r, hr⟩ s
      revert h; generalize lit0 = L; intro h; exact h
    · have h := lit0_rows3 ⟨r, hr⟩ s
      revert h; generalize lit0 = L; intro h; exact h
    · have h := lit0_rows4 ⟨r, hr⟩ s
      revert h; generalize lit0 = L; intro h; exact h
    · have h := lit0_rows5 ⟨r, hr⟩ s
      revert h; generalize lit0 = L; intro h; exact h
    · have h := lit0_rows6 ⟨r, hr⟩ s
      revert h; generalize lit0 = L; intro h; exact h
    · have h := lit0_rows7 ⟨r, hr⟩ s
      revert h; generalize lit0 = L; intro h; exact h
    · have h := lit0_rows8 ⟨r, hr⟩ s
      revert h; generalize lit0 = L; intro h; exact h
    · have h := lit0_rows9 ⟨r, hr⟩ s
      revert h; generalize lit0 = L; intro h; exact h
    · have h := lit0_rows10 ⟨r, hr⟩ s
      revert h; generalize lit0 = L; intro h; exact h
    · have h := lit0_rows11 ⟨r, hr⟩ s
      revert h; generalize lit0 = L; intro h; exact h
    · have h := lit0_rows12 ⟨r, hr⟩ s
      revert h; generalize lit0 = L; intro h; exact h
    · have h := lit0_rows13 ⟨r, hr⟩ s
      revert h; generalize lit0 = L; intro h; exact h
    · have h := lit0_rows14 ⟨r, hr⟩ s
      revert h; generalize lit0 = L; intro h; exact h
    · have h := lit0_rows15 ⟨r, hr⟩ s
      revert h; generalize lit0 = L; intro h; exact h
  have e : n = n / 16 * 16 + n % 16 := by omega
  have h := key (n / 16) (n % 16) (by omega) (by omega)
  revert h; generalize lit0 = L; intro h
  simp only [← e] at h
  exact h

/-- The literal, read over the reals, is the cover matrix. -/
theorem cov_eq (n : Fin 256) (s : Fin 128) : Ideal.ofBits .bf16 (lit0 ⟨n.val * 128 + s.val, by omega⟩) = Cert.CmpScore.cov n s := by
  rw [lit0_eq]
  unfold Cert.CmpScore.cov
  split
  · have h : ¬ ((0x3F80#16 : BitVec 16).extractLsb' 15 1 = 1#1) := by decide
    simp only [Ideal.ofBits, Ideal.ieee]
    norm_num [Nat.shiftRight_eq_div_pow, h]
  · simp only [Ideal.ofBits, Ideal.ieee]; norm_num

end Cert.CmpIdeal.Att
-- ==== Proof.CmpKernel.lean ====
/- The compressed-branch attention kernel's two result arrays after the run, as functions of its argument arrays. -/
module

public import proofs.«01_k».proof.Proof.CmpPay
public import proofs.«01_k».proof.Proof.Cover

@[expose] public section

set_option maxRecDepth 16384

noncomputable section

namespace Cert.CmpIdeal.Att

open Cert.CmpIdeal Cert.CmpIdeal.Gen Idealize.ShloMosaic Idealize.ShloMosaic.TcCoe Idealize.SL.Sem
open Cert.Masked (wt prob ninf Fin')
open Cert.CmpScore

variable (m : (ℓ : Loc nD τ sig) → Buf (Elt Ideal) ℓ)

/-- The index maps of the five windows. -/
theorem idx : ∀ t : Fin cfg0.N,
    win0_0.index t = ![(grid0.coords t 0).val, (grid0.coords t 2).val, (grid0.coords t 1).val]
    ∧ win0_1.index t = ![(grid0.coords t 0).val, 0, (grid0.coords t 1).val]
    ∧ win0_2.index t = ![0, 0]
    ∧ win0_3.index t = ![(grid0.coords t 0).val, (grid0.coords t 2).val, (grid0.coords t 1).val]
    ∧ win0_4.index t = ![(grid0.coords t 0).val, (grid0.coords t 1).val, (grid0.coords t 2).val, 0] :=
  (by decide +kernel : ∀ t : Fin grid0.N, _)

/-- The scores of a block are the scores of the arrays at the block's place. -/
theorem kscore_eq (c : Dev nD) (t : Fin cfg0.N) (g : Fin 2) (r : Fin 512) (b : Fin 4) (h : Fin 2) (T : Fin 4096)
    (hb : b.val = (grid0.coords t 0).val) (hh : h.val = (grid0.coords t 1).val) (hT : T.val = (grid0.coords t 2).val * 512 + r.val) :
    kscore (grid0.coords t) (iblk m c 0 t) (iblk m c 1 t) g r
      = score (m ((c : Thread nD τ).loc main_arg0)) (m ((c : Thread nD τ).loc main_arg1)) b h g T := by
  funext n
  unfold kscore score
  rw [hT]
  split
  · congr 1
    refine Finset.sum_congr rfl fun d _ => ?_
    congr 1
    · blk_ext [iblk, V_main_arg0, idx t]
    · blk_ext [iblk, V_main_arg1, idx t]
  · rfl

theorem arr3 (c : Dev nD) : (dats m 0 c).arrAt 3 cfg0.N
    = fun i => outG (m ((c : Thread nD τ).loc main_arg0)) (m ((c : Thread nD τ).loc main_arg1)) (i 0) (i 1) (i 2) := by
  refine (dats m 0 c).arrAt_eq_of_covers 3 _ (by decide +kernel) fun t hf y => ?_
  blk_simp
  rw [after0_3]
  idx_vars y
  have h0 : (grid0.coords t 0).val < 4 := (grid0.coords t 0).isLt
  have h1 : (grid0.coords t 1).val < 2 := (grid0.coords t 1).isLt
  have h2 : (grid0.coords t 2).val < 8 := (grid0.coords t 2).isLt
  have hy0 : y0 = 0 := Subsingleton.elim _ _
  subst hy0
  have e : (win0_3.blk t).view.emb (ix3 0 y1 y2)
      = ix3 ⟨(grid0.coords t 0).val, h0⟩ ⟨(grid0.coords t 2).val * 512 + y1.val, by omega⟩ ⟨(grid0.coords t 1).val * 128 + y2.val, by omega⟩ := by
    blk_ext [idx t]
  refine Eq.trans ?_ (congrArg (fun i : S4x4096x256.Idx => outG (m ((c : Thread nD τ).loc main_arg0)) (m ((c : Thread nD τ).loc main_arg1)) (i 0) (i 1) (i 2)) e).symm
  show _ = outG _ _ ⟨(grid0.coords t 0).val, h0⟩ ⟨(grid0.coords t 2).val * 512 + y1.val, by omega⟩ ⟨(grid0.coords t 1).val * 128 + y2.val, by omega⟩
  rw [out3_apply]
  unfold outG
  rw [kscore_eq m c t (headOf y2) y1 ⟨(grid0.coords t 0).val, h0⟩ ⟨(grid0.coords t 1).val, h1⟩ ⟨(grid0.coords t 2).val * 512 + y1.val, by omega⟩ rfl rfl rfl]
  have hd : ((grid0.coords t 1).val * 128 + y2.val) / 128 = (grid0.coords t 1).val := by omega
  have hm : ((grid0.coords t 1).val * 128 + y2.val) % 128 / 64 = y2.val / 64 := by omega
  refine Finset.sum_congr rfl fun n _ => ?_
  refine congrArg₂ (· * ·) ?_ ?_
  · refine congrArg₂ (fun h g => prob tiny (score _ _ _ h g _) n) (Fin.ext hd.symm) (Fin.ext hm.symm)
  · blk_ext [iblk, V_main_arg1, idx t]

theorem arr4 (c : Dev nD) (hq : ∀ i, Fin' (m ((c : Thread nD τ).loc main_arg0) i)) (hk : ∀ i, Fin' (m ((c : Thread nD τ).loc main_arg1) i)) :
    (dats m 0 c).arrAt 4 cfg0.N
    = fun i => impG (m ((c : Thread nD τ).loc main_arg0)) (m ((c : Thread nD τ).loc main_arg1)) (i 0) (i 1) (i 2) (i 3) := by
  refine (dats m 0 c).arrAt_eq_of_covers 4 _ (by decide +kernel) fun t hf y => ?_
  blk_simp
  rw [after0_4]
  idx_vars y
  have h0 : (grid0.coords t 0).val < 4 := (grid0.coords t 0).isLt
  have h1 : (grid0.coords t 1).val < 2 := (grid0.coords t 1).isLt
  have h2 : (grid0.coords t 2).val < 8 := (grid0.coords t 2).isLt
  have hy0 : y0 = 0 := Subsingleton.elim _ _
  have hy1 : y1 = 0 := Subsingleton.elim _ _
  subst hy0 hy1
  have e : (win0_4.blk t).view.emb (ix4 0 0 y2 y3)
      = ix4 ⟨(grid0.coords t 0).val, h0⟩ ⟨(grid0.coords t 1).val, h1⟩ ⟨(grid0.coords t 2).val * 512 + y2.val, by omega⟩ y3 := by
    blk_ext [idx t]
  refine Eq.trans ?_ (congrArg (fun i : S4x2x4096x128.Idx => impG (m ((c : Thread nD τ).loc main_arg0)) (m ((c : Thread nD τ).loc main_arg1)) (i 0) (i 1) (i 2) (i 3)) e).symm
  show _ = impG _ _ ⟨(grid0.coords t 0).val, h0⟩ ⟨(grid0.coords t 1).val, h1⟩ ⟨(grid0.coords t 2).val * 512 + y2.val, by omega⟩ y3
  have hs := fun g => kscore_eq m c t g y2 ⟨(grid0.coords t 0).val, h0⟩ ⟨(grid0.coords t 1).val, h1⟩ ⟨(grid0.coords t 2).val * 512 + y2.val, by omega⟩ rfl rfl rfl
  rw [out4_apply _ _ _ _ _ _ (fun g n => by rw [hs]; exact score_ne_top _ _ hq hk _ _ _ _ n), hs, hs]
  unfold impG
  refine Finset.sum_congr rfl fun n _ => congrArg₂ (· * ·) rfl ?_
  unfold cov
  blk_simp [iblk, idx t]
  entry_read
  have ei : (win0_2.blk t).view.emb (ix2 n y3) = ix2 n y3 := by
    blk_ext [idx t]
  refine (congrArg (fun i : S256x128.Idx => Ideal.ofBits .bf16 (lit0 (S256x128.rowMajor i))) ei).trans ?_
  have er : S256x128.rowMajor (ix2 n y3) = ⟨n.val * 128 + y3.val, by show _ < 32768; omega⟩ :=
    Fin.ext (Shape.rowMajor_val_two _)
  rw [er]
  exact cov_eq n y3

end Cert.CmpIdeal.Att
-- ==== Proof.CmpRefVal.lean ====
/- The plain statement of the compressed-branch attention, read at an index, as the same masked-softmax probabilities. -/
module

public import proofs.«01_k».proof.Proof.Gen.CmpRefIdeal.Read
public import proofs.«01_k».proof.Proof.Masked
public import proofs.«01_k».proof.Proof.CmpScore
public import Idealize.ShloMosaic.Lib.Pointwise
public import Idealize.ShloMosaic.Lib.WordCmp

@[expose] public section

set_option maxRecDepth 16384

noncomputable section

namespace Cert.CmpRefIdeal.Att

open Cert.CmpRefIdeal Cert.CmpRefIdeal.Gen Cert.CmpRefIdeal.Read Idealize.ShloMosaic Idealize.ShloMosaic.TcCoe Idealize.SL.Sem
open Cert.Masked (wt prob shift top ninf pinf Fin')
open Cert.CmpScore

variable (q : Vec Ideal S4x4096x256 .f32) (kv : Vec Ideal S4x256x256 .f32)

/-- The mask's comparison of words is the comparison of the numbers they hold. -/
theorem mask_word (t n : ℕ) (ht : t < 4096) (hn : n < 255) (x y : EReal) :
    Scalar.select (IntOp.cmpi .sle (IntOp.addi (IntOp.muli (BitVec.ofNat 32 n) 16#32) 31#32) (BitVec.ofNat 32 t)) x y
    = if n * 16 + 31 ≤ t then x else y := by
  have e1 : IntOp.addi (IntOp.muli (BitVec.ofNat 32 n) 16#32) 31#32 = BitVec.ofNat 32 (n * 16 + 31) := by
    simp [IntOp.addi, IntOp.muli, BitVec.ofNat_add, BitVec.ofNat_mul]
  rw [e1]
  word_cmp

/-- A truth value as a word is a choice between one and zero. -/
theorem ofBool_ite (p : Prop) [Decidable p] : BitVec.ofBool (decide p) = if p then 1#1 else 0#1 := by
  by_cases h : p <;> simp [h]

/-- The cover test of words is the test of the numbers they hold. -/
theorem cover_word (n s : ℕ) (hn : n < 255) (hs : s < 64) :
    FloatOps.uitofp (F := Ideal) .f32
      (IntOp.andi (IntOp.cmpi .slt (IntOp.muli (BitVec.ofNat 32 n) 16#32) (IntOp.muli (IntOp.addi (BitVec.ofNat 32 s) 1#32) 64#32))
        (IntOp.cmpi .sgt (IntOp.addi (IntOp.muli (BitVec.ofNat 32 n) 16#32) 32#32) (IntOp.muli (BitVec.ofNat 32 s) 64#32)))
    = cov ⟨n, by omega⟩ ⟨s, by omega⟩ := by
  have e1 : IntOp.muli (BitVec.ofNat 32 n) 16#32 = BitVec.ofNat 32 (n * 16) := by simp [IntOp.muli, BitVec.ofNat_mul]
  have e2 : IntOp.muli (IntOp.addi (BitVec.ofNat 32 s) 1#32) 64#32 = BitVec.ofNat 32 ((s + 1) * 64) := by
    simp [IntOp.addi, IntOp.muli, BitVec.ofNat_add, BitVec.ofNat_mul]
  have e3 : IntOp.addi (BitVec.ofNat 32 (n * 16)) 32#32 = BitVec.ofNat 32 (n * 16 + 32) := by
    simp [IntOp.addi, BitVec.ofNat_add]
  have e4 : IntOp.muli (BitVec.ofNat 32 s) 64#32 = BitVec.ofNat 32 (s * 64) := by simp [IntOp.muli, BitVec.ofNat_mul]
  rw [e1, e2, e3, e4]
  have c1 : IntOp.cmpi .slt (BitVec.ofNat 32 (n * 16)) (BitVec.ofNat 32 ((s + 1) * 64)) = if n * 16 < (s + 1) * 64 then 1#1 else 0#1 := by
    word_cmp
    exact ofBool_ite _
  have c2 : IntOp.cmpi .sgt (BitVec.ofNat 32 (n * 16 + 32)) (BitVec.ofNat 32 (s * 64)) = if s * 64 < n * 16 + 32 then 1#1 else 0#1 := by
    word_cmp
    exact ofBool_ite _
  rw [c1, c2]
  unfold cov
  by_cases h1 : n * 16 < (s + 1) * 64 <;> by_cases h2 : s * 64 < n * 16 + 32 <;>
    simp [h1, h2, hn, hs, IntOp.andi, FloatOps.uitofp]

/-- The 256th key is masked for every position. -/
theorem score_last (b : Fin 4) (h g : Fin 2) (t : Fin 4096) : score q kv b h g t (Fin.last 255) = ⊥ := by
  unfold score
  rw [if_neg]
  have : (Fin.last 255).val = 255 := rfl
  omega

theorem cov_last (s : Fin 128) : cov (Fin.last 255) s = 0 := by
  unfold cov
  rw [if_neg]
  rintro ⟨-, -, h, -⟩
  exact absurd h (by decide)

theorem cov_wide (n : Fin 256) (s : Fin 128) (h : ¬ s.val < 64) : cov n s = 0 := by
  unfold cov
  rw [if_neg]
  rintro ⟨-, -, -, h'⟩
  exact h h'

/-- The masked scores, over the 255 keys that exist. -/
theorem v20 (b : Fin 4) (h g : Fin 2) (t : Fin 4096) (n : Fin 255) :
    val_main_v20 (F := Ideal) q kv (ix5 b h g t n) = score q kv b h g t n.castSucc := by
  pointwise [val_main_v20, val_main_v19,val_main_v18, val_main_v17, val_main_v16, val_main_v15, val_main_v14, val_main_v13, val_main_v12, val_main_v11, val_main_v10, val_main_v9,val_main_v8, val_main_v7,val_main_v6, val_main_v5, val_main_v4, val_main_v3, val_main_v2, val_main_v1, val_main_v0, val_main_call0_v2, val_main_call0_v1, val_main_call0_v0, val_main_cst, val_main_c, val_main_c_0, val_main_cst_1]
  rw [mask_word _ _ t.isLt n.isLt]
  unfold score
  simp only [Fin.val_castSucc]
  refine if_congr Iff.rfl (congrArg (· * _) (Finset.sum_congr rfl fun d _ => ?_)) ninf
  exact mul_comm _ _

/-- The reference's scores of one row. -/
abbrev row (b : Fin 4) (h g : Fin 2) (t : Fin 4096) : Fin 255 → EReal := fun n => score q kv b h g t n.castSucc

/-- The row maximum. -/
theorem v21 (b : Fin 4) (h g : Fin 2) (t : Fin 4096) :
    val_main_v21 (F := Ideal) q kv (ix4 b h g t) = top (row q kv b h g t) := by
  pointwise [val_main_v21, val_main_cst_2]
  simp only [v20, ninf]
  rfl

variable (hs : ∀ b h g t n, score q kv b h g t n ≠ ⊤)
include hs

/-- The shift: the row maximum, or zero for a row with no key. -/
theorem v26 (b : Fin 4) (h g : Fin 2) (t : Fin 4096) :
    val_main_v26 (F := Ideal) q kv (ix5 b h g t 0) = shift (row q kv b h g t) := by
  have h22 : val_main_v22 (F := Ideal) q kv (ix5 b h g t 0) = top (row q kv b h g t) := by
    pointwise [val_main_v22]
    exact v21 q kv b h g t
  have h1 : val_main_call1_v1 (F := Ideal) (ix5 b h g t 0) = 0 := by
    pointwise [val_main_call1_v1, val_main_call1_v0]
    exact Cert.Masked.zero_f32
  have h24 : val_main_v24 (F := Ideal) (ix5 b h g t 0) = Ideal.ofBits .f32 0x7F800000#32 := by
    pointwise [val_main_v24, val_main_cst_3]
  rw [val_main_v26_apply, val_main_v25_apply, val_main_v23_apply, h22, h1, h24]
  exact Cert.Masked.sel_shift _ (fun n => hs _ _ _ _ _)

/-- The unnormalised weights. -/
theorem v29 (b : Fin 4) (h g : Fin 2) (t : Fin 4096) (n : Fin 255) :
    val_main_v29 (F := Ideal) q kv (ix5 b h g t n) = wt (row q kv b h g t) n := by
  pointwise [val_main_v29, val_main_v28, val_main_v27]
  simp only [v20, v26 q kv hs]
  rfl

/-- The probabilities. -/
theorem v35 (b : Fin 4) (h g : Fin 2) (t : Fin 4096) (n : Fin 255) :
    val_main_v35 (F := Ideal) q kv (ix5 b h g t n) = prob tiny (row q kv b h g t) n := by
  pointwise [val_main_v35, val_main_v34, val_main_v33, val_main_v32, val_main_v31, val_main_v30, val_main_cst_5, val_main_cst_6]
  simp only [v29 q kv hs]
  rfl

/-- The attention output. -/
theorem v65 (b : Fin 4) (t : Fin 4096) (c : Fin 256) :
    val_main_v65 (F := Ideal) q kv (ix3 b t c) = outG q kv b t c := by
  pointwise [val_main_v65, val_main_v39, val_main_v38, val_main_v37, val_main_v36, val_main_v1, val_main_v0]
  simp only [v35 q kv hs]
  unfold outG
  refine Eq.trans ?_ (Cert.Masked.sum_prob_snoc Cert.Masked.tiny_pos _ (score_last q kv _ _ _ t) _).symm
  have hg : c.val / 64 % 2 = c.val % 128 / 64 := by omega
  have hd : c.val / 128 * 128 + 64 + c.val % 64 = c.val / 128 * 128 + (64 + c.val % 64) := by omega
  refine Finset.sum_congr rfl fun n _ => ?_
  rw [mul_comm]
  exact congrArg₂ (fun a d => prob tiny (row q kv b _ a t) n * kv (ix3 b n.castSucc d)) (Fin.ext hg) (Fin.ext hd)

/-- The importances. -/
theorem v66 (b : Fin 4) (h : Fin 2) (t : Fin 4096) (s : Fin 128) :
    val_main_v66 (F := Ideal) q kv (ix4 b h t s) = impG q kv b h t s := by
  pointwise [val_main_v66, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_c_8, val_main_c_9, val_main_c_10, val_main_c_11, val_main_c_12, val_main_call2_v0, val_main_cst_7]
  simp only [v35 q kv hs, Fin.sum_univ_two]
  unfold impG
  split
  · rename_i hlt
    refine Eq.trans ?_ (Fin.sum_univ_castSucc _).symm
    rw [cov_last, mul_zero, add_zero]
    refine Finset.sum_congr rfl fun n _ => ?_
    rw [Cert.Masked.prob_snoc _ _ (score_last q kv _ _ _ t), Cert.Masked.prob_snoc _ _ (score_last q kv _ _ _ t)]
    exact congrArg ((prob tiny (row q kv b h 0 t) n + prob tiny (row q kv b h 1 t) n) * ·) (cover_word n.val s.val n.isLt hlt)
  · rename_i hge
    rw [Finset.sum_eq_zero fun n _ => by rw [cov_wide n s hge, mul_zero]]
    simp [FloatOps.sitofp, val_main_c_13, constantI]

end Cert.CmpRefIdeal.Att
-- ==== Proof.CmpPre.lean ====
/- What the precondition of the compressed-branch attention says: every entry of its two arrays is finite. -/
module

public import proofs.«01_k».proof.Proof.Gen.Pre_cmp_finite
public import proofs.«01_k».proof.Proof.Masked
public import Idealize.ShloMosaic.Lib.ReduceAll

@[expose] public section

set_option maxRecDepth 16384

noncomputable section

namespace Cert.Pre_cmp_finite

open Idealize.ShloMosaic Idealize.SL.Sem
open Cert.Masked (Fin')

/-- A number whose absolute value compares below `+∞` is finite. -/
theorem fin_of_cmp (x : EReal)
    (h : FloatOps.cmpf (F := Ideal) (φ := .f32) .olt (FloatOps.hostAbsf (F := Ideal) (φ := .f32) x) (Ideal.ofBits .f32 0x7F800000#32) = 1#1) : Fin' x := by
  rw [Cert.Masked.pinf] at h
  have hlt : max x (-x) < (⊤ : EReal) := by
    by_contra hn
    have : BitVec.ofBool (decide (max x (-x) < (⊤ : EReal))) = 1#1 := h
    rw [decide_eq_false hn] at this
    exact absurd this (by decide)
  constructor
  · rintro rfl; simp at hlt
  · rintro rfl; simp at hlt

/-- The precondition makes both arrays finite everywhere. -/
theorem finite_of (q : FVec Ideal S4x4096x256 .f32) (kv : FVec Ideal S4x256x256 .f32) (h : fn (F := Ideal) q kv = fun _ => 1#1) :
    (∀ i, Fin' (q i)) ∧ ∀ i, Fin' (kv i) := by
  have h0 := congrFun h (Shape.Idx.first Gen.h_S_)
  unfold fn at h0
  obtain ⟨h1, h2⟩ := IntOp.andi_eq_one.1 h0
  haveI : Subsingleton S_.Idx := ⟨fun a b => funext fun i => i.elim0⟩
  exact ⟨fun i => fin_of_cmp _ (Host.reduce_andi_all _ _ _ _ _ h1 i), fun i => fin_of_cmp _ (Host.reduce_andi_all _ _ _ _ _ h2 i)⟩

end Cert.Pre_cmp_finite
-- ==== Proof.CmpClaim.lean ====
/- The claims about the compressed-branch attention: its frames, and over the reals its two results are the plain
   statement's. -/
module

public import proofs.«01_k».proof.Defs
public import proofs.«01_k».proof.Proof.Gen.Cmp.Frame
public import proofs.«01_k».proof.Proof.Gen.CmpRefIdeal.Run
public import proofs.«01_k».proof.Proof.CmpKernel
public import proofs.«01_k».proof.Proof.CmpRefVal
public import proofs.«01_k».proof.Proof.CmpPre
public import Idealize.ShloMosaic.Adequacy
public import Idealize.ShloMosaic.Init

@[expose] public section

set_option maxRecDepth 16384

noncomputable section

namespace Cert.Proof.CmpClaims

open Idealize.ShloMosaic Idealize.ShloMosaic.TcCoe Idealize.SL.Sem
open Cert.Masked (Fin')

theorem frame : Cert.quiescent_Cmp := fun m ρ _ => Cert.Cmp.Gen.frame m ρ
theorem frame_ideal : Cert.quiescent_CmpIdeal := fun m ρ _ => Cert.CmpIdeal.Gen.frame m ρ
theorem frame_ideal_pre : Cert.quiescent_CmpIdeal_pre_cmp_finite := fun m ρ _ => Cert.CmpIdeal.Gen.frame m ρ

/-- The plain statement's run changes no argument; it declares no semaphore. -/
theorem frame_ref : Cert.quiescent_CmpRefIdeal := fun m ρ _ =>
  (θ_run Cert.CmpRefIdeal.defs _ _).mono (fun r h => ⟨fun c => ⟨(h c).2.2.1, (h c).2.2.2⟩,
      Idealize.ShloMosaic.sem_eq_zero_of_no_sems (by decide) r.2⟩)
    (Cert.CmpRefIdeal.Value.run (F := Ideal) m ρ)
theorem frame_ref_pre : Cert.quiescent_CmpRefIdeal_pre_cmp_finite := fun m ρ _ => frame_ref m ρ trivial

theorem preserves : Cert.preserves_Cmp_CmpIdeal := trivial

/-- Over the reals, for finite arguments, kernel and plain statement end with the same output and the same importances. -/
theorem algebraic : Cert.algebraic_CmpIdeal_CmpRefIdeal_pre_cmp_finite := by
  intro m ρ m' ρ' hpre hagree
  have hf := fun c => Cert.Pre_cmp_finite.finite_of _ _ (hpre c)
  have hs := fun c => Cert.CmpScore.score_ne_top _ _ (hf c).1 (hf c).2
  refine ⟨_, _, (θ_run Cert.CmpIdeal.defs _ _).mono (fun r h c =>
      ⟨(h c).1.trans (Cert.CmpIdeal.Att.arr3 m c), (h c).2.1.trans (Cert.CmpIdeal.Att.arr4 m c (hf c).1 (hf c).2), (h c).2.2⟩)
    (Cert.CmpIdeal.Value.run_blocks m ρ), ?_⟩
  refine (θ_run Cert.CmpRefIdeal.defs _ _).mono (fun r h c => ⟨(h c).1.trans ?_, (h c).2.1.trans ?_, (h c).2.2⟩)
    (Cert.CmpRefIdeal.Value.run (F := Ideal) m' ρ')
  · rw [Cert.CmpRefIdeal.Read.val_main_v65_eq, (hagree c).1, (hagree c).2]
    funext i
    idx_vars i
    exact Cert.CmpRefIdeal.Att.v65 _ _ (hs c) _ _ _
  · rw [Cert.CmpRefIdeal.Read.val_main_v66_eq, (hagree c).1, (hagree c).2]
    funext i
    idx_vars i
    exact Cert.CmpRefIdeal.Att.v66 _ _ (hs c) _ _ _ _

end Cert.Proof.CmpClaims
-- ==== Proof.ProjSpec.lean ====
/- The input projection: where each packed column comes from, and the value of a packed column, for any count of
   sequences and positions. -/
module

public import Idealize.ShloMosaic.Lib.Pointwise

@[expose] public section

noncomputable section

namespace Cert.ProjSpec

open Idealize.ShloMosaic

/-- The column of the unpacked weights that packed column `j` holds (zero for padding). -/
def srcN (j : ℕ) : ℕ :=
  if j < 768 then j
  else if j < 1536 then j + 8
  else if j < 2304 then 1544 + (j - 1536) / 256 * 256 + j % 128 / 64 * 128 + (j - 1536) % 256 / 128 * 64 + j % 64
  else if j < 3328 then j + 20
  else if j < 4096 then j + 148
  else if j < 4224 then j - 748
  else if j < 4232 then j - 3456
  else if 4352 ≤ j ∧ j < 4364 then j - 2040
  else 0

/-- Packed column `j` is no padding. -/
def Kept (j : ℕ) : Prop := j < 4232 ∨ (4352 ≤ j ∧ j < 4364)

instance (j : ℕ) : Decidable (Kept j) := by unfold Kept; infer_instance

theorem srcN_lt (j : ℕ) : srcN j < 4244 := by
  unfold srcN
  split_ifs <;> omega

/-- Packed column `j` of a row of the unpacked projection: the column it comes from, or zero. -/
def pick (p : Fin 4244 → EReal) (j : ℕ) : EReal := if Kept j then p ⟨srcN j, srcN_lt j⟩ else 0

/-- A kept column reads the row at the column it comes from. -/
theorem pick_of (p : Fin 4244 → EReal) (j : ℕ) (e : Fin 4244) (hk : Kept j) (h : srcN j = e.val) : p e = pick p j := by
  unfold pick
  rw [if_pos hk]
  exact congrArg p (Fin.ext h.symm)

/-- A column of padding is zero. -/
theorem pick_pad (p : Fin 4244 → EReal) (j : ℕ) (hk : ¬ Kept j) : 0 = pick p j := by
  unfold pick
  rw [if_neg hk]

/-- One element of the normalised input: the input over the root of its mean square, times the gain. -/
def normed (x : Fin 1024 → EReal) (g : Fin 1024 → EReal) (d : Fin 1024) : EReal :=
  x d * Ideal.rsqrt (Ideal.div (∑ k, x k * x k) (Ideal.ofBits FTy.f32 1149239296#32) + Ideal.ofBits FTy.f32 897988541#32) * g d

/-- One element of the unpacked projection. -/
def proj (x g : Fin 1024 → EReal) (w : Fin 1024 → Fin 4244 → EReal) (e : Fin 4244) : EReal := ∑ d, normed x g d * w d e

end Cert.ProjSpec
-- ==== Proof.ProjTable.lean ====
/- The input projection's two literal tables: which column each packed column comes from, and which are padding. -/
module

public import proofs.«01_k».proof.Proof.Gen.ProjIdeal.Frame
public import proofs.«01_k».proof.Proof.ProjSpec

@[expose] public section

set_option maxRecDepth 16384

noncomputable section

namespace Cert.ProjIdeal.Att

open Cert.ProjIdeal Cert.ProjIdeal.Gen Cert.ProjSpec

set_option maxHeartbeats 4000000

/-- The table of columns, below 2240. -/
theorem src_low : ∀ k : Fin 2240, lit0 ⟨k.val, by omega⟩ = BitVec.ofNat 32 (srcN k.val) := by decide +kernel
/-- The table of columns, from 2240. -/
theorem src_high : ∀ k : Fin 2240, lit0 ⟨2240 + k.val, by omega⟩ = BitVec.ofNat 32 (srcN (2240 + k.val)) := by decide +kernel
/-- The table of kept columns, below 2240. -/
theorem keep_low : ∀ k : Fin 2240, lit1 ⟨k.val, by omega⟩ = if Kept k.val then 1065353216#32 else 0#32 := by decide +kernel
/-- The table of kept columns, from 2240. -/
theorem keep_high : ∀ k : Fin 2240, lit1 ⟨2240 + k.val, by omega⟩ = if Kept (2240 + k.val) then 1065353216#32 else 0#32 := by decide +kernel

end Cert.ProjIdeal.Att
-- ==== Proof.TakeCols.lean ====
/- Taking columns of a matrix at a vector of column numbers, read at an index. -/
module

public import Idealize.ShloMosaic.Lib.Pointwise
public import Idealize.ShloMosaic.Lib.ReduceAll
public import Idealize.ShloMosaic.Lib.WordCmp

@[expose] public section

noncomputable section

namespace Cert.TakeCols

open Idealize.ShloMosaic

variable {α : Type}

/-- A small number as a word, read as a signed number, is itself. -/
theorem word_toNat (k : ℕ) (hk : k < 2 ^ 31) : (BitVec.ofNat 32 k).toInt.toNat = k := by
  rw [BitVec.toInt_eq_toNat_of_lt (by rw [BitVec.toNat_ofNat]; omega), BitVec.toNat_ofNat]
  omega

/-- Taking columns: the result at row `d`, column `j` is the operand at row `d` and the column the indices name at `j`. -/
theorem take_cols {R N C : ℕ} (wf : GatherDims.WF ⟨2, ![R, N]⟩ ⟨2, ![C, 1]⟩ ⟨2, ![R, C]⟩ [0] [1] [] [1] [] 1 ![R, 1])
    (x : (⟨2, ![R, N]⟩ : Shape).Idx → α) (idx : IVec ⟨2, ![C, 1]⟩ 32) (d : Fin R) (j : Fin C) (k : Fin N) (hN : N ≤ 2 ^ 31)
    (hi : idx (ix2 j 0) = BitVec.ofNat 32 k.val) :
    Host.gather ⟨[0], [1], [], [], [1], 1, ![R, 1], wf⟩ x idx (ix2 d j) = x (ix2 d k) := by
  have hk := k.isLt
  unfold Host.gather
  congr 1
  funext a
  refine Fin.ext ?_
  show GatherDims.start _ _ idx a + GatherDims.batchCoord _ _ a + GatherDims.offCoord _ _ a = _
  rw [GatherDims.batchCoord_eq_zero _ _ _ List.not_mem_nil]
  match a with
  | ⟨0, _⟩ =>
    unfold GatherDims.start
    rw [dif_neg (by show ¬ (0 : Fin 2) ∈ [(1 : Fin 2)]; decide)]
    unfold GatherDims.offCoord
    rw [dif_pos ((GatherDims.mem_sKept _ _).mpr ⟨fun h => absurd (List.mem_singleton.mp h) (by show ¬ (0 : Fin 2) = 1; decide), List.not_mem_nil⟩)]
    simp only [Nat.zero_add]
    rfl
  | ⟨1, _⟩ =>
    unfold GatherDims.start
    rw [dif_pos (by show (1 : Fin 2) ∈ [(1 : Fin 2)]; decide)]
    rw [GatherDims.offCoord_eq_zero _ _ _ (fun h => ((GatherDims.mem_sKept _ _).mp h).1 (List.mem_singleton.mpr rfl))]
    refine Eq.trans (b := min (idx (ix2 j 0)).toInt.toNat (N - 1)) ?_ ?_
    · simp only [Nat.add_zero]
      congr 4
      funext b
      match b with
      | ⟨0, _⟩ => rfl
      | ⟨1, _⟩ => rfl
    · rw [hi, word_toNat _ (by omega)]
      show min k.val (N - 1) = k.val
      omega

end Cert.TakeCols
-- ==== Proof.ProjWeights.lean ====
/- The packed weights the input projection's kernel reads: each packed column is the column it comes from, or zero. -/
module

public import proofs.«01_k».proof.Proof.ProjTable
public import proofs.«01_k».proof.Proof.TakeCols
public import Idealize.ShloMosaic.Lib.Pointwise
public import Idealize.ShloMosaic.Lib.Pipeline.ValueKit

@[expose] public section

set_option maxRecDepth 16384

noncomputable section

namespace Cert.ProjIdeal.Att

open Cert.ProjIdeal Cert.ProjIdeal.Gen Idealize.ShloMosaic Idealize.ShloMosaic.TcCoe Idealize.SL.Sem
open Cert.ProjSpec

variable (m : (ℓ : Loc nD τ sig) → Buf (Elt Ideal) ℓ)

/-- The table of columns as a vector. -/
def srcV : IVec S4480 32 := fun i => lit0 (S4480.rowMajor i)

/-- The column numbers as the taking reads them: a negative number would count from the end. -/
def colV : IVec S4480x1 32 :=
  broadcastInDim S4480x1 ![0] bcast_S4480_S4480x1_0
    (select (cmpi .slt srcV (broadcastInDim S4480 ![] bcast_S_S4480 (constantI S_ 32 0#32)))
      (addi srcV (broadcastInDim S4480 ![] bcast_S_S4480 (constantI S_ 32 4244#32))) srcV)

/-- Whether each column number lies in the matrix. -/
def inV : IVec S4480x1 1 :=
  andi (cmpi .sge colV (broadcastInDim S4480x1 ![] bcast_S_S4480x1 (constantI S_ 32 0#32)))
    (cmpi .sle colV (broadcastInDim S4480x1 ![0, 1] bcast_S1x1_S4480x1_0_1 (broadcastInDim S1x1 ![1] bcast_S1_S1x1_1 (constantI S1 32 4243#32))))

/-- The taken columns, times the table of kept columns. -/
def packed (w : Vec Ideal S1024x4244 .f32) : Vec Ideal S1024x4480 .f32 :=
  mulf (select (broadcastInDim S1024x4480 ![1] bcast_S4480_S1024x4480_1 (Host.reduce IntOp.andi inV (constantI S_ 1 1#1) reducesTo_S4480x1_S4480_d1 h_S_))
      (Host.gather gather_S1024x4244_S4480x1_S1024x4480_0_1_n_n_1_1_10241 w colV)
      (broadcastInDim S1024x4480 ![] bcast_S_S1024x4480 (constant (F := Ideal) S_ .f32 0x7FC00000#32)))
    (broadcastInDim S1024x4480 ![0, 1] bcast_S1x4480_S1024x4480_0_1
      (broadcastInDim S1x4480 ![1] bcast_S4480_S1x4480_1 fun i => FloatOps.ofBits (F := Ideal) .f32 (lit1 (S4480.rowMajor i))))

/-- The packed weights as the region finds them. -/
theorem V_main_v4 (c : Dev nD) : V m c main_v4 = (truncf .bf16 (packed (m ((c : Thread nD τ).loc main_arg2))) bitsLt_bf16_f32 : FVec Ideal S1024x4480 .bf16) := by
  unfold V
  show StableHlo.after [hostOps0, hostOps0_1, hostOps0_2].flatten (fun b => m (c, b)) (Proc.tc.devRef main_v4) = _
  simp only [hostOps0, hostOps0_1, hostOps0_2, List.flatten_cons, List.flatten_nil, List.append_nil, List.cons_append, List.nil_append,
    StableHlo.after_cons, StableHlo.after_nil]
  after_results_simp
  simp -implicitDefEqProofs only [StableHlo.TRef.ofBuf, StableHlo.TRef.toBuf, cast_eq]
  rfl

/-- The input, sequences and positions in one axis, as the region finds it. -/
theorem V_main_v5 (c : Dev nD) : V m c main_v5 = shapeCast S16384x1024 (m ((c : Thread nD τ).loc main_arg0)) shapeCasts_S4x4096x1024_S16384x1024 := by
  unfold V
  show StableHlo.after [hostOps0, hostOps0_1, hostOps0_2].flatten (fun b => m (c, b)) (Proc.tc.devRef main_v5) = _
  simp only [hostOps0, hostOps0_1, hostOps0_2, List.flatten_cons, List.flatten_nil, List.append_nil, List.cons_append, List.nil_append,
    StableHlo.after_cons, StableHlo.after_nil]
  after_results_simp
  rfl

/-- The gain as one row, as the region finds it. -/
theorem V_main_v6 (c : Dev nD) : V m c main_v6 = shapeCast S1x1024 (m ((c : Thread nD τ).loc main_arg1)) shapeCasts_S1024_S1x1024 := by
  unfold V
  show StableHlo.after [hostOps0, hostOps0_1, hostOps0_2].flatten (fun b => m (c, b)) (Proc.tc.devRef main_v6) = _
  simp only [hostOps0, hostOps0_1, hostOps0_2, List.flatten_cons, List.flatten_nil, List.append_nil, List.cons_append, List.nil_append,
    StableHlo.after_cons, StableHlo.after_nil]
  after_results_simp
  rfl

/-- The table of columns at a column. -/
theorem src_at (j : Fin 4480) : lit0 j = BitVec.ofNat 32 (srcN j.val) := by
  by_cases h : j.val < 2240
  · exact src_low ⟨j.val, h⟩
  · have e := src_high ⟨j.val - 2240, by omega⟩
    have h' : 2240 + (j.val - 2240) = j.val := by omega
    simpa only [h'] using e

/-- The table of kept columns at a column. -/
theorem keep_at (j : Fin 4480) : lit1 j = if Kept j.val then 1065353216#32 else 0#32 := by
  by_cases h : j.val < 2240
  · exact keep_low ⟨j.val, h⟩
  · have e := keep_high ⟨j.val - 2240, by omega⟩
    have h' : 2240 + (j.val - 2240) = j.val := by omega
    simpa only [h'] using e

/-- The table as a vector, at a column. -/
theorem srcV_at (j : Fin 4480) : srcV (ix1 j) = BitVec.ofNat 32 (srcN j.val) := by
  unfold srcV
  rw [show S4480.rowMajor (ix1 j) = j from Fin.ext (by simp [Shape.rowMajor_val_one])]
  exact src_at j

/-- The comparison of a column number with zero and with the last column. -/
theorem colV_at (j : Fin 4480) (k : Fin 1) : colV (ix2 j k) = BitVec.ofNat 32 (srcN j.val) := by
  have h := srcN_lt j.val
  pointwise [colV]
  rw [srcV_at]
  generalize srcN j.val = n at h
  word_cmp
  exact if_neg (by omega)

/-- Every column number lies in the matrix. -/
theorem inV_at (j : Fin 4480) (k : Fin 1) : inV (ix2 j k) = 1#1 := by
  have h := srcN_lt j.val
  pointwise [inV]
  rw [colV_at]
  generalize srcN j.val = n at h
  word_cmp

/-- A packed weight is the weight of the column it comes from, or zero. -/
theorem packed_at (w : Vec Ideal S1024x4244 .f32) (d : Fin 1024) (j : Fin 4480) :
    packed w (ix2 d j) = pick (fun e => w (ix2 d e)) j.val := by
  have hr : Finset.fold IntOp.andi (1#1) (fun k => inV (ix2 j k)) Finset.univ = 1#1 := by
    rw [show (fun k => inV (ix2 j k)) = fun _ => 1#1 from funext fun k => inV_at j k]
    rfl
  have hg : Host.gather gather_S1024x4244_S4480x1_S1024x4480_0_1_n_n_1_1_10241 w colV (ix2 d j) = w (ix2 d ⟨srcN j.val, srcN_lt _⟩) :=
    Cert.TakeCols.take_cols _ w colV d j ⟨srcN j.val, srcN_lt _⟩ (by norm_num) (colV_at j 0)
  have hk : lit1 (S4480.rowMajor (ix1 j)) = if Kept j.val then 1065353216#32 else 0#32 := by
    rw [show S4480.rowMajor (ix1 j) = j from Fin.ext (by simp [Shape.rowMajor_val_one])]
    exact keep_at j
  pointwise [packed]
  rw [hr, hg, hk]
  unfold pick
  rw [show ∀ a b : EReal, Scalar.select (1#1) a b = a from fun _ _ => rfl]
  by_cases h : Kept j.val
  · rw [if_pos h, if_pos h, Ideal.ofBits_one_f32, mul_one]
  · rw [if_neg h, if_neg h, Ideal.ofBits_zero_f32, mul_zero]

end Cert.ProjIdeal.Att
-- ==== Proof.ProjKernel.lean ====
/- The input projection kernel's result array after the run, as a function of its argument arrays. -/
module

public import proofs.«01_k».proof.Proof.ProjWeights

@[expose] public section

set_option maxRecDepth 16384

noncomputable section

namespace Cert.ProjIdeal.Att

open Cert.ProjIdeal Cert.ProjIdeal.Gen Idealize.ShloMosaic Idealize.ShloMosaic.TcCoe Idealize.SL.Sem
open Cert.ProjSpec

variable (m : (ℓ : Loc nD τ sig) → Buf (Elt Ideal) ℓ)

/-- The index maps of the four windows. -/
theorem idx : ∀ t : Fin cfg0.N,
    win0_0.index t = ![(grid0.coords t 0).val, 0] ∧ win0_1.index t = ![0, 0] ∧ win0_2.index t = ![0, 0]
    ∧ win0_3.index t = ![(grid0.coords t 0).val, 0] :=
  (by decide +kernel : ∀ t : Fin grid0.N, _)

/-- The normalised input of a block. -/
theorem pay5_at (x0 : Vec Ideal S512x1024 .f32) (x1 : Vec Ideal S1x1024 .f32) (r : Fin 512) (d : Fin 1024) :
    k0_pay5 (F := Ideal) x0 x1 (ix2 r d) = normed (fun d => x0 (ix2 r d)) (fun d => x1 (ix2 0 d)) d := by
  pointwise [k0_pay5]
  rfl

/-- One element of the block the body leaves. -/
theorem out_at (X : Vec Ideal S512x1024 .f32) (Y : Vec Ideal S1x1024 .f32) (W : Vec Ideal S1024x4480 .bf16) (r : Fin 512) (j : Fin 4480) :
    out0_3 X Y W (ix2 r j) = ∑ d, normed (fun d => X (ix2 r d)) (fun d => Y (ix2 0 d)) d * W (ix2 d j) := by
  frame_out
  let G : Vec Ideal S512x4480 .f32 := fun y => (∑ d, normed (fun d => X (ix2 (y 0) d)) (fun d => Y (ix2 0 d)) d * W (ix2 d (y 1)) : EReal)
  refine View.canon_apply_of_pieces G _ ?_ (ix2 r j) (cover0_3 _ _ _ _ _ _ _ _)
  have h0 : View.ld X r0_0 = X := View.ld_unit_zero (by decide) _ _
  have h1 : View.ld Y r0_1 = Y := View.ld_unit_zero (by decide) _ _
  have e : ∀ (o : ℕ) (h) (a : Fin 512) (b : Fin 640) (h'), (Rect.unit (s := S512x4480) ![0, o] S512x640.size h).emb (ix2 a b) = ix2 a ⟨o + b.val, h'⟩ :=
    fun o h a b h' => by blk_ext []
  intro p hp
  simp only [List.mem_cons, List.mem_nil_iff, or_false] at hp
  rcases hp with rfl | rfl | rfl | rfl | rfl | rfl | rfl
  all_goals
    intro x
    idx_vars x
    pointwise [k0_pay1, k0_pay2, k0_pay3, k0_pay4, k0_pay6, k0_pay7, k0_pay8, k0_pay9, k0_pay10]
    simp only [h0, h1, pay5_at]
  · exact (congrArg G (e 3840 _ x0 x1 _)).symm
  · exact (congrArg G (e 3200 _ x0 x1 _)).symm
  · exact (congrArg G (e 2560 _ x0 x1 _)).symm
  · exact (congrArg G (e 1920 _ x0 x1 _)).symm
  · exact (congrArg G (e 1280 _ x0 x1 _)).symm
  · exact (congrArg G (e 640 _ x0 x1 _)).symm
  · refine Eq.trans ?_ (congrArg G (e 0 _ x0 x1 (by omega))).symm
    have z : (⟨0 + x1.val, by omega⟩ : Fin 4480) = ⟨x1.val, by omega⟩ := Fin.ext (Nat.zero_add _)
    rw [z]
    rfl

/-- An array of sequences and positions, read with the two in one axis. -/
theorem cast_at (X : Vec Ideal S4x4096x1024 .f32) (R : Fin 16384) (d : Fin 1024) :
    shapeCast S16384x1024 X shapeCasts_S4x4096x1024_S16384x1024 (ix2 R d) = X (ix3 ⟨R.val / 4096, by omega⟩ ⟨R.val % 4096, by omega⟩ d) := by
  pointwise []

/-- The input at a row, sequences and positions in one axis. -/
theorem in_at (c : Dev nD) (R : Fin 16384) (d : Fin 1024) :
    (V m c main_v5 : Vec Ideal S16384x1024 .f32) (ix2 R d)
      = (m ((c : Thread nD τ).loc main_arg0) : Vec Ideal S4x4096x1024 .f32) (ix3 ⟨R.val / 4096, by omega⟩ ⟨R.val % 4096, by omega⟩ d) := by
  rw [V_main_v5]
  exact cast_at _ R d

/-- The gain's row. -/
theorem gain_at (X : Vec Ideal S1024 .f32) (d : Fin 1024) :
    shapeCast S1x1024 X shapeCasts_S1024_S1x1024 (ix2 0 d) = X (ix1 d) := by
  pointwise []

/-- The sum of products with packed weights is the projection at the column each comes from, or zero. -/
theorem sum_pick (h : Fin 1024 → EReal) (w : Fin 1024 → Fin 4244 → EReal) (j : ℕ) :
    ∑ d, h d * pick (w d) j = pick (fun e => ∑ d, h d * w d e) j := by
  unfold pick
  split
  · rfl
  · simp

/-- The array of projections, from the argument arrays. -/
def projAt (x : Vec Ideal S4x4096x1024 .f32) (g : Vec Ideal S1024 .f32) (w : Vec Ideal S1024x4244 .f32) (R : Fin 16384) (e : Fin 4480) : EReal :=
  pick (proj (fun d => x (ix3 ⟨R.val / 4096, by omega⟩ ⟨R.val % 4096, by omega⟩ d)) (fun d => g (ix1 d)) (fun d e => w (ix2 d e))) e.val

/-- The result array after the run. -/
theorem arr3 (c : Dev nD) (R : Fin 16384) (e : Fin 4480) :
    ((dats m 0 c).arrAt 3 cfg0.N : Vec Ideal S16384x4480 .f32) (ix2 R e)
      = projAt (m ((c : Thread nD τ).loc main_arg0)) (m ((c : Thread nD τ).loc main_arg1)) (m ((c : Thread nD τ).loc main_arg2)) R e := by
  refine congrFun (f := (dats m 0 c).arrAt 3 cfg0.N) (g := fun y : S16384x4480.Idx =>
    projAt (m ((c : Thread nD τ).loc main_arg0)) (m ((c : Thread nD τ).loc main_arg1)) (m ((c : Thread nD τ).loc main_arg2)) (y 0) (y 1)) ?_ (ix2 R e)
  refine (dats m 0 c).arrAt_eq_of_covers 3 _ (by decide +kernel) fun t hf y => ?_
  blk_simp
  rw [after0_3]
  idx_vars y
  have h0 : (grid0.coords t 0).val < 32 := (grid0.coords t 0).isLt
  have e : (win0_3.blk t).view.emb (ix2 y0 y1) = ix2 ⟨(grid0.coords t 0).val * 512 + y0.val, by omega⟩ y1 := by
    blk_ext [idx t]
  refine Eq.trans ?_ (congrArg (fun i : S16384x4480.Idx => projAt (m ((c : Thread nD τ).loc main_arg0)) (m ((c : Thread nD τ).loc main_arg1)) (m ((c : Thread nD τ).loc main_arg2)) (i 0) (i 1)) e).symm
  show _ = projAt _ _ _ ⟨(grid0.coords t 0).val * 512 + y0.val, by omega⟩ y1
  rw [out_at]
  unfold projAt proj
  rw [← sum_pick]
  have ex : ∀ d : Fin 1024, iblk m c 0 t (ix2 y0 d) = (V m c main_v5 : Vec Ideal S16384x1024 .f32) (ix2 ⟨(grid0.coords t 0).val * 512 + y0.val, by omega⟩ d) := fun d => by
    blk_ext [iblk, idx t]
  have eg : ∀ d : Fin 1024, iblk m c 1 t (ix2 0 d) = (V m c main_v6 : Vec Ideal S1x1024 .f32) (ix2 0 d) := fun d => by
    blk_ext [iblk, idx t]
  have ew : ∀ d : Fin 1024, iblk m c 2 t (ix2 d y1) = (V m c main_v4 : Vec Ideal S1024x4480 .bf16) (ix2 d y1) := fun d => by
    blk_ext [iblk, idx t]
  have hx : (fun d => iblk m c 0 t (ix2 y0 d)) = fun d : Fin 1024 => (m ((c : Thread nD τ).loc main_arg0) : Vec Ideal S4x4096x1024 .f32)
      (ix3 ⟨((grid0.coords t 0).val * 512 + y0.val) / 4096, by omega⟩ ⟨((grid0.coords t 0).val * 512 + y0.val) % 4096, by omega⟩ d) :=
    funext fun d => (ex d).trans (in_at m c _ d)
  have hg : (fun d => iblk m c 1 t (ix2 0 d)) = fun d : Fin 1024 => (m ((c : Thread nD τ).loc main_arg1) : Vec Ideal S1024 .f32) (ix1 d) :=
    funext fun d => (eg d).trans (by rw [V_main_v6]; exact gain_at _ d)
  rw [hx, hg]
  refine Finset.sum_congr rfl fun d _ => congrArg₂ (· * ·) rfl ?_
  refine (ew d).trans ?_
  rw [V_main_v4]
  exact packed_at _ d y1

end Cert.ProjIdeal.Att
-- ==== Proof.ProjTail.lean ====
/- The results the host code cuts out of the projection after the region. -/
module

public import proofs.«01_k».proof.Proof.ProjKernel

@[expose] public section

set_option maxRecDepth 16384

noncomputable section

namespace Cert.ProjIdeal.Att

open Cert.ProjIdeal Cert.ProjIdeal.Gen Idealize.ShloMosaic Idealize.ShloMosaic.TcCoe Idealize.SL.Sem
open Cert.ProjSpec

variable (m : (ℓ : Loc nD τ sig) → Buf (Elt Ideal) ℓ)

/-- The projection as the host code after the region finds it. -/
def outA (c : Dev nD) : Vec Ideal S16384x4480 .f32 := (dats m 0 c).arrAt 3 cfg0.N

/-- The region's array as the host code reads it. -/
theorem read_v7 (c : Dev nD) :
    Pipeline.withArrays (cfgs 0).spec c (V0 m c) (fun w => (dats m 0 c).arrAt w (cfgs 0).N) (Proc.tc.devRef main_v7) = outA m c :=
  Pipeline.withArrays_arr spec0 (by decide) c _ _ 3

/-- The projection, sequences and positions apart. -/
def out3 (A : Vec Ideal S16384x4480 .f32) : Vec Ideal S4x4096x4480 .f32 := shapeCast S4x4096x4480 A shapeCasts_S16384x4480_S4x4096x4480

/-- The compressed branch's keys and values. -/
def cmpOf (A : Vec Ideal S16384x4480 .f32) : Vec Ideal S4x4096x2x2x64 .f32 :=
  shapeCast S4x4096x2x2x64 (extractStridedSlice S4x4096x256 ![0, 0, 1536] (out3 A) slices_S4x4096x4480_S4x4096x256_0_0_1536) shapeCasts_S4x4096x256_S4x4096x2x2x64

/-- The last three positions of the convolution's input. -/
def convOf (A : Vec Ideal S16384x4480 .f32) : Vec Ideal S4x3x512 .f32 :=
  concatenate S4x3x512 2 [⟨S4x3x256, extractStridedSlice S4x3x256 ![0, 4093, 0] (out3 A) slices_S4x4096x4480_S4x3x256_0_4093_0⟩,
    ⟨S4x3x256, extractStridedSlice S4x3x256 ![0, 4093, 256] (out3 A) slices_S4x4096x4480_S4x3x256_0_4093_256⟩] concatenates_S4x3x256_S4x3x256_S4x3x512_d2

/-- The last position of the shifted input. -/
def shiftOf (A : Vec Ideal S16384x4480 .f32) : Vec Ideal S4x1x896 .f32 :=
  concatenate S4x1x896 2 [⟨S4x1x768, extractStridedSlice S4x1x768 ![0, 4095, 2560] (out3 A) slices_S4x4096x4480_S4x1x768_0_4095_2560⟩,
    ⟨S4x1x128, extractStridedSlice S4x1x128 ![0, 4095, 4096] (out3 A) slices_S4x4096x4480_S4x1x128_0_4095_4096⟩] concatenates_S4x1x768_S4x1x128_S4x1x896_d2

/-- The first result cut out after the run. -/
theorem tail_v10 (c : Dev nD) : Pipeline.afterTail₀ cfgs (dats m) 0 (V0 m) [hostOps1] c main_v10 = cmpOf (outA m c) := by
  unfold Pipeline.afterTail₀
  simp only [hostOps1, List.flatten_cons, List.flatten_nil, List.append_nil, StableHlo.after_cons, StableHlo.after_nil]
  after_results_simp
  rw [read_v7]
  rfl

/-- The second result cut out after the run. -/
theorem tail_v13 (c : Dev nD) : Pipeline.afterTail₀ cfgs (dats m) 0 (V0 m) [hostOps1] c main_v13 = convOf (outA m c) := by
  unfold Pipeline.afterTail₀
  simp only [hostOps1, List.flatten_cons, List.flatten_nil, List.append_nil, StableHlo.after_cons, StableHlo.after_nil]
  after_results_simp
  refine congrArg₂ (fun a b => concatenate S4x3x512 2 [⟨S4x3x256, a⟩, ⟨S4x3x256, b⟩] concatenates_S4x3x256_S4x3x256_S4x3x512_d2) ?_ ?_
  all_goals
    after_results_simp
    rw [read_v7]
    rfl

/-- The third result cut out after the run. -/
theorem tail_v16 (c : Dev nD) : Pipeline.afterTail₀ cfgs (dats m) 0 (V0 m) [hostOps1] c main_v16 = shiftOf (outA m c) := by
  unfold Pipeline.afterTail₀
  simp only [hostOps1, List.flatten_cons, List.flatten_nil, List.append_nil, StableHlo.after_cons, StableHlo.after_nil]
  after_results_simp
  refine congrArg₂ (fun a b => concatenate S4x1x896 2 [⟨S4x1x768, a⟩, ⟨S4x1x128, b⟩] concatenates_S4x1x768_S4x1x128_S4x1x896_d2) ?_ ?_
  all_goals
    after_results_simp
    rw [read_v7]
    rfl

section At

variable (A : Vec Ideal S16384x4480 .f32) (P : Fin 16384 → ℕ → EReal) (hA : ∀ R e, A (ix2 R e) = P R e.val)
include hA

/-- A compressed key or value, from the projection. -/
theorem cmpOf_at (b : Fin 4) (t : Fin 4096) (h j : Fin 2) (d : Fin 64) :
    cmpOf A (ix5 b t h j d) = P ⟨b.val * 4096 + t.val, by omega⟩ (1536 + h.val * 128 + j.val * 64 + d.val) := by
  pointwise [cmpOf, out3]
  rw [hA]
  exact congrArg (P _) (show 1536 + (h.val * 128 + j.val * 64 + d.val) = _ by omega)

/-- An element of the convolution's last inputs, from the projection. -/
theorem convOf_at (b : Fin 4) (t : Fin 3) (e : Fin 512) :
    convOf A (ix3 b t e) = P ⟨b.val * 4096 + (4093 + t.val), by omega⟩ e.val := by
  pointwise [convOf, out3]
  split
  · rw [hA]
  · rw [hA]
    exact congrArg (P _) (show 256 + (e.val - 256) = _ by omega)

/-- An element of the last shifted input, from the projection. -/
theorem shiftOf_at (b : Fin 4) (t : Fin 1) (e : Fin 896) :
    shiftOf A (ix3 b t e) = P ⟨b.val * 4096 + 4095, by omega⟩ (if e.val < 768 then 2560 + e.val else 3328 + e.val) := by
  pointwise [shiftOf, out3]
  split
  · rw [hA]
  · rw [hA]
    exact congrArg (P _) (show 4096 + (e.val - 768) = _ by omega)

end At

end Cert.ProjIdeal.Att
-- ==== Proof.ProjRefVal.lean ====
/- The plain statement of the input projection, read at an index. -/
module

public import proofs.«01_k».proof.Proof.Gen.ProjRefIdeal.Read
public import proofs.«01_k».proof.Proof.ProjSpec
public import Idealize.ShloMosaic.Lib.Pointwise

@[expose] public section

set_option maxRecDepth 16384

noncomputable section

namespace Cert.ProjRefIdeal.Att

open Cert.ProjRefIdeal Cert.ProjRefIdeal.Gen Cert.ProjRefIdeal.Read Idealize.ShloMosaic Idealize.ShloMosaic.TcCoe Idealize.SL.Sem
open Cert.ProjSpec

variable (x : Vec Ideal S4x4096x1024 .f32) (g : Vec Ideal S1024 .f32) (w : Vec Ideal S1024x4244 .f32)

/-- The row of the unpacked projection at a position. -/
def row (b : Fin 4) (t : Fin 4096) : Fin 4244 → EReal :=
  proj (fun d => x (ix3 b t d)) (fun d => g (ix1 d)) (fun d e => w (ix2 d e))

theorem v13 (b : Fin 4) (t : Fin 4096) (e : Fin 4244) : val_main_v13 (F := Ideal) x g w (ix3 b t e) = row x g w b t e := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- Closes a kept column's equation by arithmetic on the column numbers. -/
theorem close (b : Fin 4) (t : Fin 4096) (j e : ℕ) (he : e < 4244) (hk : Kept j) (h : srcN j = e) :
    val_main_v13 (F := Ideal) x g w (ix3 b t ⟨e, he⟩) = pick (row x g w b t) j :=
  (v13 x g w b t _).trans (pick_of _ j _ hk h)

variable (b : Fin 4) (t : Fin 4096) (r : Fin 256)

theorem piece0 : val_main_v14 (F := Ideal) x g w (ix3 b t r) = pick (row x g w b t) (0 + r.val) := by
  pointwise [val_main_v14]
  exact close x g w b t _ _ _ (by unfold Kept; omega) (by unfold srcN; split_ifs <;> omega)
theorem piece1 : val_main_v15 (F := Ideal) x g w (ix3 b t r) = pick (row x g w b t) (256 + r.val) := by
  pointwise [val_main_v15]
  exact close x g w b t _ _ _ (by unfold Kept; omega) (by unfold srcN; split_ifs <;> omega)
theorem piece2 : val_main_v16 (F := Ideal) x g w (ix3 b t r) = pick (row x g w b t) (512 + r.val) := by
  pointwise [val_main_v16]
  exact close x g w b t _ _ _ (by unfold Kept; omega) (by unfold srcN; split_ifs <;> omega)
theorem piece3 : val_main_v19 (F := Ideal) x g w (ix3 b t r) = pick (row x g w b t) (768 + r.val) := by
  pointwise [val_main_v19]
  exact close x g w b t _ _ _ (by unfold Kept; omega) (by unfold srcN; split_ifs <;> omega)
theorem piece4 : val_main_v20 (F := Ideal) x g w (ix3 b t r) = pick (row x g w b t) (1024 + r.val) := by
  pointwise [val_main_v20]
  exact close x g w b t _ _ _ (by unfold Kept; omega) (by unfold srcN; split_ifs <;> omega)
theorem piece5 : val_main_v21 (F := Ideal) x g w (ix3 b t r) = pick (row x g w b t) (1280 + r.val) := by
  pointwise [val_main_v21]
  exact close x g w b t _ _ _ (by unfold Kept; omega) (by unfold srcN; split_ifs <;> omega)
theorem piece9 : val_main_v29 (F := Ideal) x g w (ix3 b t r) = pick (row x g w b t) (2304 + r.val) := by
  pointwise [val_main_v29]
  exact close x g w b t _ _ _ (by unfold Kept; omega) (by unfold srcN; split_ifs <;> omega)
theorem piece10 : val_main_v30 (F := Ideal) x g w (ix3 b t r) = pick (row x g w b t) (2560 + r.val) := by
  pointwise [val_main_v30]
  exact close x g w b t _ _ _ (by unfold Kept; omega) (by unfold srcN; split_ifs <;> omega)
theorem piece11 : val_main_v31 (F := Ideal) x g w (ix3 b t r) = pick (row x g w b t) (2816 + r.val) := by
  pointwise [val_main_v31]
  exact close x g w b t _ _ _ (by unfold Kept; omega) (by unfold srcN; split_ifs <;> omega)
theorem piece12 : val_main_v32 (F := Ideal) x g w (ix3 b t r) = pick (row x g w b t) (3072 + r.val) := by
  pointwise [val_main_v32]
  exact close x g w b t _ _ _ (by unfold Kept; omega) (by unfold srcN; split_ifs <;> omega)
theorem piece13 : val_main_v34 (F := Ideal) x g w (ix3 b t r) = pick (row x g w b t) (3328 + r.val) := by
  pointwise [val_main_v34]
  exact close x g w b t _ _ _ (by unfold Kept; omega) (by unfold srcN; split_ifs <;> omega)
theorem piece14 : val_main_v35 (F := Ideal) x g w (ix3 b t r) = pick (row x g w b t) (3584 + r.val) := by
  pointwise [val_main_v35]
  exact close x g w b t _ _ _ (by unfold Kept; omega) (by unfold srcN; split_ifs <;> omega)
theorem piece15 : val_main_v36 (F := Ideal) x g w (ix3 b t r) = pick (row x g w b t) (3840 + r.val) := by
  pointwise [val_main_v36]
  exact close x g w b t _ _ _ (by unfold Kept; omega) (by unfold srcN; split_ifs <;> omega)
theorem piece6 : val_main_v42 (F := Ideal) x g w (ix3 b t r) = pick (row x g w b t) (1536 + r.val) := by
  pointwise [val_main_v42, val_main_v41, val_main_v39, val_main_v40, val_main_v37, val_main_v38, val_main_v22, val_main_v23]
  split
  · exact close x g w b t _ _ _ (by unfold Kept; omega) (by unfold srcN; split_ifs <;> omega)
  · exact close x g w b t _ _ _ (by unfold Kept; omega) (by unfold srcN; split_ifs <;> omega)
theorem piece7 : val_main_v48 (F := Ideal) x g w (ix3 b t r) = pick (row x g w b t) (1792 + r.val) := by
  pointwise [val_main_v48, val_main_v47, val_main_v45, val_main_v46, val_main_v43, val_main_v44, val_main_v24, val_main_v25]
  split
  · exact close x g w b t _ _ _ (by unfold Kept; omega) (by unfold srcN; split_ifs <;> omega)
  · exact close x g w b t _ _ _ (by unfold Kept; omega) (by unfold srcN; split_ifs <;> omega)
theorem piece8 : val_main_v54 (F := Ideal) x g w (ix3 b t r) = pick (row x g w b t) (2048 + r.val) := by
  pointwise [val_main_v54, val_main_v53, val_main_v51, val_main_v52, val_main_v49, val_main_v50, val_main_v26, val_main_v27]
  split
  · exact close x g w b t _ _ _ (by unfold Kept; omega) (by unfold srcN; split_ifs <;> omega)
  · exact close x g w b t _ _ _ (by unfold Kept; omega) (by unfold srcN; split_ifs <;> omega)
/-- The sixteen pieces of 256 columns, in order. -/
def pieces : Fin 16 → (⟨S4x4096x256, .f32⟩ : BufTy).Contents (Elt Ideal) :=
  ![val_main_v14 (F := Ideal) x g w, val_main_v15 (F := Ideal) x g w, val_main_v16 (F := Ideal) x g w, val_main_v19 (F := Ideal) x g w, val_main_v20 (F := Ideal) x g w, val_main_v21 (F := Ideal) x g w, val_main_v42 (F := Ideal) x g w, val_main_v48 (F := Ideal) x g w, val_main_v54 (F := Ideal) x g w, val_main_v29 (F := Ideal) x g w, val_main_v30 (F := Ideal) x g w, val_main_v31 (F := Ideal) x g w, val_main_v32 (F := Ideal) x g w, val_main_v34 (F := Ideal) x g w, val_main_v35 (F := Ideal) x g w, val_main_v36 (F := Ideal) x g w]

theorem pieces_eq : ∀ k : Fin 16, pieces x g w k (ix3 b t r) = pick (row x g w b t) (256 * k.val + r.val)
  | ⟨0, _⟩ => piece0 x g w b t r
  | ⟨1, _⟩ => piece1 x g w b t r
  | ⟨2, _⟩ => piece2 x g w b t r
  | ⟨3, _⟩ => piece3 x g w b t r
  | ⟨4, _⟩ => piece4 x g w b t r
  | ⟨5, _⟩ => piece5 x g w b t r
  | ⟨6, _⟩ => piece6 x g w b t r
  | ⟨7, _⟩ => piece7 x g w b t r
  | ⟨8, _⟩ => piece8 x g w b t r
  | ⟨9, _⟩ => piece9 x g w b t r
  | ⟨10, _⟩ => piece10 x g w b t r
  | ⟨11, _⟩ => piece11 x g w b t r
  | ⟨12, _⟩ => piece12 x g w b t r
  | ⟨13, _⟩ => piece13 x g w b t r
  | ⟨14, _⟩ => piece14 x g w b t r
  | ⟨15, _⟩ => piece15 x g w b t r
  | ⟨n + 16, h⟩ => absurd h (by omega)

/-- The first 4096 packed columns. -/
theorem v57 (e : Fin 4096) : val_main_v57 (F := Ideal) x g w (ix3 b t e) = pick (row x g w b t) e.val := by
  have h : val_main_v57 (F := Ideal) x g w (ix3 b t e) = pieces x g w ⟨e.val / 256, by omega⟩ (ix3 b t ⟨e.val % 256, by omega⟩) :=
    concatenate_ofFn_apply 2 (pieces x g w) concatenates_S4x4096x256_S4x4096x256_S4x4096x256_S4x4096x256_S4x4096x256_S4x4096x256_S4x4096x256_S4x4096x256_S4x4096x256_S4x4096x256_S4x4096x256_S4x4096x256_S4x4096x256_S4x4096x256_S4x4096x256_S4x4096x256_S4x4096x4096_d2
      rfl 256 rfl (ix3 b t e) ⟨e.val / 256, by omega⟩ rfl (ix3 b t ⟨e.val % 256, by omega⟩) rfl
      (fun a ha => match a with | ⟨0, _⟩ => rfl | ⟨1, _⟩ => rfl | ⟨2, _⟩ => absurd rfl ha)
  rw [h, pieces_eq]
  congr 1
  show 256 * (e.val / 256) + e.val % 256 = e.val
  omega

/-- The last 384 packed columns. -/
theorem v58 (e : Fin 384) : val_main_v58 (F := Ideal) x g w (ix3 b t e) = pick (row x g w b t) (4096 + e.val) := by
  pointwise [val_main_v58, val_main_v55, val_main_v56, val_main_cst_2, val_main_cst_3, val_main_v33, val_main_v17, val_main_v18, val_main_v28]
  repeat' split
  all_goals first
    | exact close x g w b t _ _ _ (by unfold Kept; omega) (by unfold srcN; split_ifs <;> omega)
    | exact pick_pad _ _ (by unfold Kept; omega)

/-- Every packed column at a position. -/
theorem v59 (e : Fin 4480) : val_main_v59 (F := Ideal) x g w (ix3 b t e) = pick (row x g w b t) e.val := by
  pointwise [val_main_v59]
  split
  · exact v57 x g w b t _
  · refine (v58 x g w b t _).trans (congrArg _ ?_)
    show 4096 + (e.val - 4096) = e.val
    omega

/-- The packed projection with sequences and positions in one axis. -/
theorem v64 (R : Fin 16384) (e : Fin 4480) : val_main_v64 (F := Ideal) x g w (ix2 R e)
    = pick (row x g w ⟨R.val / 4096, by omega⟩ ⟨R.val % 4096, by omega⟩) e.val := by
  pointwise [val_main_v64]
  exact v59 x g w _ _ _

/-- The compressed branch's new keys and values. -/
theorem v41 (h j : Fin 2) (d : Fin 64) : val_main_v41 (F := Ideal) x g w (ix5 b t h j d)
    = pick (row x g w b t) (1536 + h.val * 128 + j.val * 64 + d.val) := by
  pointwise [val_main_v41, val_main_v39, val_main_v40, val_main_v37, val_main_v38, val_main_v22, val_main_v23]
  split
  · exact close x g w b t _ _ _ (by unfold Kept; omega) (by unfold srcN; split_ifs <;> omega)
  · exact close x g w b t _ _ _ (by unfold Kept; omega) (by unfold srcN; split_ifs <;> omega)

/-- The last three positions of the convolution's input. -/
theorem v61 (t' : Fin 3) (e : Fin 512) : val_main_v61 (F := Ideal) x g w (ix3 b t' e)
    = pick (row x g w b ⟨4093 + t'.val, by omega⟩) e.val := by
  pointwise [val_main_v61, val_main_v60, val_main_v14, val_main_v15]
  split
  · exact close x g w b _ _ _ _ (by unfold Kept; omega) (by unfold srcN; split_ifs <;> omega)
  · exact close x g w b _ _ _ _ (by unfold Kept; omega) (by unfold srcN; split_ifs <;> omega)

/-- The last position of the recurrent branch's input. -/
theorem v63 (t' : Fin 1) (e : Fin 896) : val_main_v63 (F := Ideal) x g w (ix3 b t' e)
    = pick (row x g w b ⟨4095, by omega⟩) (if e.val < 768 then 2560 + e.val else 3328 + e.val) := by
  pointwise [val_main_v63, val_main_v62, val_main_v30, val_main_v31, val_main_v32, val_main_v33]
  by_cases h : e.val < 768
  · rw [if_pos h]
    repeat' split
    all_goals first
      | (exfalso; omega)
      | exact close x g w b _ _ _ _ (by unfold Kept; omega) (by unfold srcN; split_ifs <;> omega)
  · rw [if_neg h]
    repeat' split
    all_goals first
      | (exfalso; omega)
      | exact close x g w b _ _ _ _ (by unfold Kept; omega) (by unfold srcN; split_ifs <;> omega)

end Cert.ProjRefIdeal.Att
-- ==== Proof.ProjClaim.lean ====
/- The claims about the input projection: its frames, and over the reals its four results are the plain statement's. -/
module

public import proofs.«01_k».proof.Defs
public import proofs.«01_k».proof.Proof.Gen.Proj.Frame
public import proofs.«01_k».proof.Proof.Gen.ProjRefIdeal.Run
public import proofs.«01_k».proof.Proof.ProjTail
public import proofs.«01_k».proof.Proof.ProjRefVal
public import Idealize.ShloMosaic.Adequacy
public import Idealize.ShloMosaic.Init

@[expose] public section

set_option maxRecDepth 16384

noncomputable section

namespace Cert.Proof.ProjClaims

open Idealize.ShloMosaic Idealize.ShloMosaic.TcCoe Idealize.SL.Sem
open Cert.ProjSpec

/-- The kernel at machine precision stays within its memory and changes no argument. -/
theorem frame : Cert.quiescent_Proj := fun m ρ _ => Cert.Proj.Gen.frame m ρ
/-- So does the kernel over the reals. -/
theorem frame_ideal : Cert.quiescent_ProjIdeal := fun m ρ _ => Cert.ProjIdeal.Gen.frame m ρ

/-- The plain statement's run changes no argument; it declares no semaphore. -/
theorem frame_ref : Cert.quiescent_ProjRefIdeal := fun m ρ _ =>
  (θ_run Cert.ProjRefIdeal.defs _ _).mono (fun r h => ⟨fun c => (h c).2.2.2.2,
      Idealize.ShloMosaic.sem_eq_zero_of_no_sems (by decide) r.2⟩)
    (Cert.ProjRefIdeal.Value.run (F := Ideal) m ρ)

/-- Nothing was rewritten. -/
theorem preserves : Cert.preserves_Proj_ProjIdeal := trivial

open Cert.ProjIdeal Cert.ProjIdeal.Gen Cert.ProjIdeal.Att in
/-- The kernel's run over the reals: its four results as the host code leaves them, its arguments unchanged. -/
theorem run_results (m : (ℓ : Loc nD τ sig) → Buf (Elt Ideal) ℓ) (ρ) :
    θ_run defs (onTc (τ := τ) (main (F := Ideal))) ⟨m, fun _ => 0, ρ⟩ (fun r => ∀ c : Dev nD,
      r.2.mem ((c.tc : Thread nD τ).loc main_v7) = outA m c
      ∧ r.2.mem ((c.tc : Thread nD τ).loc main_v10) = cmpOf (outA m c)
      ∧ r.2.mem ((c.tc : Thread nD τ).loc main_v13) = convOf (outA m c)
      ∧ r.2.mem ((c.tc : Thread nD τ).loc main_v16) = shiftOf (outA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c).1 3,
      ((h c).2 main_v10 (Pipeline.mem_restRefs_of main_v10 (by decide) (by decide))).trans (tail_v10 m c),
      ((h c).2 main_v13 (Pipeline.mem_restRefs_of main_v13 (by decide) (by decide))).trans (tail_v13 m c),
      ((h c).2 main_v16 (Pipeline.mem_restRefs_of main_v16 (by decide) (by decide))).trans (tail_v16 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩) (run_main m ρ)

/-- The projection at a row and column, from the three arguments. -/
theorem out_at (m : (ℓ : Loc Cert.ProjIdeal.nD Cert.ProjIdeal.τ Cert.ProjIdeal.sig) → Buf (Elt Ideal) ℓ) (c : Dev Cert.ProjIdeal.nD)
    (R : Fin 16384) (e : Fin 4480) :
    Cert.ProjIdeal.Att.outA m c (ix2 R e)
      = pick (Cert.ProjRefIdeal.Att.row (m ((c.tc : Thread Cert.ProjIdeal.nD Cert.ProjIdeal.τ).loc Cert.ProjIdeal.main_arg0))
          (m ((c.tc : Thread Cert.ProjIdeal.nD Cert.ProjIdeal.τ).loc Cert.ProjIdeal.main_arg1))
          (m ((c.tc : Thread Cert.ProjIdeal.nD Cert.ProjIdeal.τ).loc Cert.ProjIdeal.main_arg2)) ⟨R.val / 4096, by omega⟩ ⟨R.val % 4096, by omega⟩) e.val :=
  Cert.ProjIdeal.Att.arr3 m c R e

/-- Over the reals kernel and plain statement end with the same projection and the same three results cut out of it. -/
theorem algebraic : Cert.algebraic_ProjIdeal_ProjRefIdeal := by
  intro m ρ m' ρ' hpre hagree
  refine ⟨_, _, _, _, run_results m ρ, ?_⟩
  have pb : ∀ (b : Fin 4) (t : ℕ) (ht : t < 4096) (h1), (⟨(b.val * 4096 + t) / 4096, h1⟩ : Fin 4) = b :=
    fun b t ht h1 => Fin.ext (by show (b.val * 4096 + t) / 4096 = b.val; omega)
  have pt : ∀ (b : Fin 4) (t : ℕ) (ht : t < 4096) (h1), (⟨(b.val * 4096 + t) % 4096, h1⟩ : Fin 4096) = ⟨t, ht⟩ :=
    fun b t ht h1 => Fin.ext (by show (b.val * 4096 + t) % 4096 = t; omega)
  refine (θ_run Cert.ProjRefIdeal.defs _ _).mono (fun r h c => ⟨(h c).1.trans ?_, (h c).2.1.trans ?_, (h c).2.2.1.trans ?_, (h c).2.2.2.1.trans ?_, (h c).2.2.2.2⟩)
    (Cert.ProjRefIdeal.Value.run (F := Ideal) m' ρ')
  · rw [Cert.ProjRefIdeal.Read.val_main_v64_eq, (hagree c).1, (hagree c).2.1, (hagree c).2.2]
    funext i
    idx_vars i
    exact (Cert.ProjRefIdeal.Att.v64 _ _ _ _ _).trans (out_at m c _ _).symm
  · rw [Cert.ProjRefIdeal.Read.val_main_v41_eq, (hagree c).1, (hagree c).2.1, (hagree c).2.2]
    funext i
    idx_vars i
    refine (Cert.ProjRefIdeal.Att.v41 _ _ _ _ _ _ _ _).trans (Eq.symm ?_)
    refine (Cert.ProjIdeal.Att.cmpOf_at _ (fun R e => _) (out_at m c) _ _ _ _ _).trans ?_
    rw [pb i0 i1.val i1.isLt _, pt i0 i1.val i1.isLt _]
  · rw [Cert.ProjRefIdeal.Read.val_main_v61_eq, (hagree c).1, (hagree c).2.1, (hagree c).2.2]
    funext i
    idx_vars i
    refine (Cert.ProjRefIdeal.Att.v61 _ _ _ _ _ _).trans (Eq.symm ?_)
    refine (Cert.ProjIdeal.Att.convOf_at _ (fun R e => _) (out_at m c) _ _ _).trans ?_
    rw [pb i0 (4093 + i1.val) (by omega) _, pt i0 (4093 + i1.val) (by omega) _]
  · rw [Cert.ProjRefIdeal.Read.val_main_v63_eq, (hagree c).1, (hagree c).2.1, (hagree c).2.2]
    funext i
    idx_vars i
    refine (Cert.ProjRefIdeal.Att.v63 _ _ _ _ _ _).trans (Eq.symm ?_)
    refine (Cert.ProjIdeal.Att.shiftOf_at _ (fun R e => _) (out_at m c) _ _ _).trans ?_
    rw [pb i0 4095 (by omega) _, pt i0 4095 (by omega) _]

end Cert.Proof.ProjClaims
-- ==== Proof.DecTable.lean ====
/- The decode input projection's two literal tables: which column each packed column comes from, and which are padding. -/
module

public import proofs.«01_k».proof.Proof.Gen.ProjDecIdeal.Frame
public import proofs.«01_k».proof.Proof.ProjSpec

@[expose] public section

set_option maxRecDepth 16384

noncomputable section

namespace Cert.ProjDecIdeal.Att

open Cert.ProjDecIdeal Cert.ProjDecIdeal.Gen Cert.ProjSpec

set_option maxHeartbeats 4000000

/-- The table of columns, below 2240. -/
theorem src_low : ∀ k : Fin 2240, lit0 ⟨k.val, by omega⟩ = BitVec.ofNat 32 (srcN k.val) := by decide +kernel
/-- The table of columns, from 2240. -/
theorem src_high : ∀ k : Fin 2240, lit0 ⟨2240 + k.val, by omega⟩ = BitVec.ofNat 32 (srcN (2240 + k.val)) := by decide +kernel
/-- The table of kept columns, below 2240. -/
theorem keep_low : ∀ k : Fin 2240, lit1 ⟨k.val, by omega⟩ = if Kept k.val then 1065353216#32 else 0#32 := by decide +kernel
/-- The table of kept columns, from 2240. -/
theorem keep_high : ∀ k : Fin 2240, lit1 ⟨2240 + k.val, by omega⟩ = if Kept (2240 + k.val) then 1065353216#32 else 0#32 := by decide +kernel

end Cert.ProjDecIdeal.Att
-- ==== Proof.DecWeights.lean ====
/- The packed weights the decode input projection's kernel reads: each packed column is the column it comes from, or zero. -/
module

public import proofs.«01_k».proof.Proof.DecTable
public import proofs.«01_k».proof.Proof.TakeCols
public import Idealize.ShloMosaic.Lib.Pointwise
public import Idealize.ShloMosaic.Lib.Pipeline.ValueKit

@[expose] public section

set_option maxRecDepth 16384

noncomputable section

namespace Cert.ProjDecIdeal.Att

open Cert.ProjDecIdeal Cert.ProjDecIdeal.Gen Idealize.ShloMosaic Idealize.ShloMosaic.TcCoe Idealize.SL.Sem
open Cert.ProjSpec

variable (m : (ℓ : Loc nD τ sig) → Buf (Elt Ideal) ℓ)

/-- The table of columns as a vector. -/
def srcV : IVec S4480 32 := fun i => lit0 (S4480.rowMajor i)

/-- The column numbers as the taking reads them: a negative number would count from the end. -/
def colV : IVec S4480x1 32 :=
  broadcastInDim S4480x1 ![0] bcast_S4480_S4480x1_0
    (select (cmpi .slt srcV (broadcastInDim S4480 ![] bcast_S_S4480 (constantI S_ 32 0#32)))
      (addi srcV (broadcastInDim S4480 ![] bcast_S_S4480 (constantI S_ 32 4244#32))) srcV)

/-- Whether each column number lies in the matrix. -/
def inV : IVec S4480x1 1 :=
  andi (cmpi .sge colV (broadcastInDim S4480x1 ![] bcast_S_S4480x1 (constantI S_ 32 0#32)))
    (cmpi .sle colV (broadcastInDim S4480x1 ![0, 1] bcast_S1x1_S4480x1_0_1 (broadcastInDim S1x1 ![1] bcast_S1_S1x1_1 (constantI S1 32 4243#32))))

/-- The taken columns, times the table of kept columns. -/
def packed (w : Vec Ideal S1024x4244 .f32) : Vec Ideal S1024x4480 .f32 :=
  mulf (select (broadcastInDim S1024x4480 ![1] bcast_S4480_S1024x4480_1 (Host.reduce IntOp.andi inV (constantI S_ 1 1#1) reducesTo_S4480x1_S4480_d1 h_S_))
      (Host.gather gather_S1024x4244_S4480x1_S1024x4480_0_1_n_n_1_1_10241 w colV)
      (broadcastInDim S1024x4480 ![] bcast_S_S1024x4480 (constant (F := Ideal) S_ .f32 0x7FC00000#32)))
    (broadcastInDim S1024x4480 ![0, 1] bcast_S1x4480_S1024x4480_0_1
      (broadcastInDim S1x4480 ![1] bcast_S4480_S1x4480_1 fun i => FloatOps.ofBits (F := Ideal) .f32 (lit1 (S4480.rowMajor i))))

/-- The packed weights as the region finds them. -/
theorem V_main_v4 (c : Dev nD) : V m c main_v4 = (truncf .bf16 (packed (m ((c : Thread nD τ).loc main_arg2))) bitsLt_bf16_f32 : FVec Ideal S1024x4480 .bf16) := by
  unfold V
  show StableHlo.after [hostOps0, hostOps0_1, hostOps0_2].flatten (fun b => m (c, b)) (Proc.tc.devRef main_v4) = _
  simp only [hostOps0, hostOps0_1, hostOps0_2, List.flatten_cons, List.flatten_nil, List.append_nil, List.cons_append, List.nil_append,
    StableHlo.after_cons, StableHlo.after_nil]
  after_results_simp
  simp -implicitDefEqProofs only [StableHlo.TRef.ofBuf, StableHlo.TRef.toBuf, cast_eq]
  rfl

/-- The input, sequences and positions in one axis, as the region finds it. -/
theorem V_main_v5 (c : Dev nD) : V m c main_v5 = shapeCast S128x1024 (m ((c : Thread nD τ).loc main_arg0)) shapeCasts_S32x4x1024_S128x1024 := by
  unfold V
  show StableHlo.after [hostOps0, hostOps0_1, hostOps0_2].flatten (fun b => m (c, b)) (Proc.tc.devRef main_v5) = _
  simp only [hostOps0, hostOps0_1, hostOps0_2, List.flatten_cons, List.flatten_nil, List.append_nil, List.cons_append, List.nil_append,
    StableHlo.after_cons, StableHlo.after_nil]
  after_results_simp
  rfl

/-- The gain as one row, as the region finds it. -/
theorem V_main_v6 (c : Dev nD) : V m c main_v6 = shapeCast S1x1024 (m ((c : Thread nD τ).loc main_arg1)) shapeCasts_S1024_S1x1024 := by
  unfold V
  show StableHlo.after [hostOps0, hostOps0_1, hostOps0_2].flatten (fun b => m (c, b)) (Proc.tc.devRef main_v6) = _
  simp only [hostOps0, hostOps0_1, hostOps0_2, List.flatten_cons, List.flatten_nil, List.append_nil, List.cons_append, List.nil_append,
    StableHlo.after_cons, StableHlo.after_nil]
  after_results_simp
  rfl

/-- The table of columns at a column. -/
theorem src_at (j : Fin 4480) : lit0 j = BitVec.ofNat 32 (srcN j.val) := by
  by_cases h : j.val < 2240
  · exact src_low ⟨j.val, h⟩
  · have e := src_high ⟨j.val - 2240, by omega⟩
    have h' : 2240 + (j.val - 2240) = j.val := by omega
    simpa only [h'] using e

/-- The table of kept columns at a column. -/
theorem keep_at (j : Fin 4480) : lit1 j = if Kept j.val then 1065353216#32 else 0#32 := by
  by_cases h : j.val < 2240
  · exact keep_low ⟨j.val, h⟩
  · have e := keep_high ⟨j.val - 2240, by omega⟩
    have h' : 2240 + (j.val - 2240) = j.val := by omega
    simpa only [h'] using e

/-- The table as a vector, at a column. -/
theorem srcV_at (j : Fin 4480) : srcV (ix1 j) = BitVec.ofNat 32 (srcN j.val) := by
  unfold srcV
  rw [show S4480.rowMajor (ix1 j) = j from Fin.ext (by simp [Shape.rowMajor_val_one])]
  exact src_at j

/-- The comparison of a column number with zero and with the last column. -/
theorem colV_at (j : Fin 4480) (k : Fin 1) : colV (ix2 j k) = BitVec.ofNat 32 (srcN j.val) := by
  have h := srcN_lt j.val
  pointwise [colV]
  rw [srcV_at]
  generalize srcN j.val = n at h
  word_cmp
  exact if_neg (by omega)

/-- Every column number lies in the matrix. -/
theorem inV_at (j : Fin 4480) (k : Fin 1) : inV (ix2 j k) = 1#1 := by
  have h := srcN_lt j.val
  pointwise [inV]
  rw [colV_at]
  generalize srcN j.val = n at h
  word_cmp

/-- A packed weight is the weight of the column it comes from, or zero. -/
theorem packed_at (w : Vec Ideal S1024x4244 .f32) (d : Fin 1024) (j : Fin 4480) :
    packed w (ix2 d j) = pick (fun e => w (ix2 d e)) j.val := by
  have hr : Finset.fold IntOp.andi (1#1) (fun k => inV (ix2 j k)) Finset.univ = 1#1 := by
    rw [show (fun k => inV (ix2 j k)) = fun _ => 1#1 from funext fun k => inV_at j k]
    rfl
  have hg : Host.gather gather_S1024x4244_S4480x1_S1024x4480_0_1_n_n_1_1_10241 w colV (ix2 d j) = w (ix2 d ⟨srcN j.val, srcN_lt _⟩) :=
    Cert.TakeCols.take_cols _ w colV d j ⟨srcN j.val, srcN_lt _⟩ (by norm_num) (colV_at j 0)
  have hk : lit1 (S4480.rowMajor (ix1 j)) = if Kept j.val then 1065353216#32 else 0#32 := by
    rw [show S4480.rowMajor (ix1 j) = j from Fin.ext (by simp [Shape.rowMajor_val_one])]
    exact keep_at j
  pointwise [packed]
  rw [hr, hg, hk]
  unfold pick
  rw [show ∀ a b : EReal, Scalar.select (1#1) a b = a from fun _ _ => rfl]
  by_cases h : Kept j.val
  · rw [if_pos h, if_pos h, Ideal.ofBits_one_f32, mul_one]
  · rw [if_neg h, if_neg h, Ideal.ofBits_zero_f32, mul_zero]

end Cert.ProjDecIdeal.Att
-- ==== Proof.DecKernel.lean ====
/- The decode input projection kernel's result array after the run, as a function of its argument arrays. -/
module

public import proofs.«01_k».proof.Proof.DecWeights

@[expose] public section

set_option maxRecDepth 16384

noncomputable section

namespace Cert.ProjDecIdeal.Att

open Cert.ProjDecIdeal Cert.ProjDecIdeal.Gen Idealize.ShloMosaic Idealize.ShloMosaic.TcCoe Idealize.SL.Sem
open Cert.ProjSpec

variable (m : (ℓ : Loc nD τ sig) → Buf (Elt Ideal) ℓ)

/-- The index maps of the four windows. -/
theorem idx : ∀ t : Fin cfg0.N,
    win0_0.index t = ![(grid0.coords t 0).val, 0] ∧ win0_1.index t = ![0, 0] ∧ win0_2.index t = ![0, 0]
    ∧ win0_3.index t = ![(grid0.coords t 0).val, 0] :=
  (by decide +kernel : ∀ t : Fin grid0.N, _)

/-- The normalised input of a block. -/
theorem pay5_at (x0 : Vec Ideal S128x1024 .f32) (x1 : Vec Ideal S1x1024 .f32) (r : Fin 128) (d : Fin 1024) :
    k0_pay5 (F := Ideal) x0 x1 (ix2 r d) = normed (fun d => x0 (ix2 r d)) (fun d => x1 (ix2 0 d)) d := by
  pointwise [k0_pay5]
  rfl

/-- One element of the block the body leaves. -/
theorem out_at (X : Vec Ideal S128x1024 .f32) (Y : Vec Ideal S1x1024 .f32) (W : Vec Ideal S1024x4480 .bf16) (r : Fin 128) (j : Fin 4480) :
    out0_3 X Y W (ix2 r j) = ∑ d, normed (fun d => X (ix2 r d)) (fun d => Y (ix2 0 d)) d * W (ix2 d j) := by
  frame_out
  let G : Vec Ideal S128x4480 .f32 := fun y => (∑ d, normed (fun d => X (ix2 (y 0) d)) (fun d => Y (ix2 0 d)) d * W (ix2 d (y 1)) : EReal)
  refine View.canon_apply_of_pieces G _ ?_ (ix2 r j) (cover0_3 _ _ _ _ _ _ _ _)
  have h0 : View.ld X r0_0 = X := View.ld_unit_zero (by decide) _ _
  have h1 : View.ld Y r0_1 = Y := View.ld_unit_zero (by decide) _ _
  have e : ∀ (o : ℕ) (h) (a : Fin 128) (b : Fin 640) (h'), (Rect.unit (s := S128x4480) ![0, o] S128x640.size h).emb (ix2 a b) = ix2 a ⟨o + b.val, h'⟩ :=
    fun o h a b h' => by blk_ext []
  intro p hp
  simp only [List.mem_cons, List.mem_nil_iff, or_false] at hp
  rcases hp with rfl | rfl | rfl | rfl | rfl | rfl | rfl
  all_goals
    intro x
    idx_vars x
    pointwise [k0_pay1, k0_pay2, k0_pay3, k0_pay4, k0_pay6, k0_pay7, k0_pay8, k0_pay9, k0_pay10]
    simp only [h0, h1, pay5_at]
  · exact (congrArg G (e 3840 _ x0 x1 _)).symm
  · exact (congrArg G (e 3200 _ x0 x1 _)).symm
  · exact (congrArg G (e 2560 _ x0 x1 _)).symm
  · exact (congrArg G (e 1920 _ x0 x1 _)).symm
  · exact (congrArg G (e 1280 _ x0 x1 _)).symm
  · exact (congrArg G (e 640 _ x0 x1 _)).symm
  · refine Eq.trans ?_ (congrArg G (e 0 _ x0 x1 (by omega))).symm
    have z : (⟨0 + x1.val, by omega⟩ : Fin 4480) = ⟨x1.val, by omega⟩ := Fin.ext (Nat.zero_add _)
    rw [z]
    rfl

/-- An array of sequences and positions, read with the two in one axis. -/
theorem cast_at (X : Vec Ideal S32x4x1024 .f32) (R : Fin 128) (d : Fin 1024) :
    shapeCast S128x1024 X shapeCasts_S32x4x1024_S128x1024 (ix2 R d) = X (ix3 ⟨R.val / 4, by omega⟩ ⟨R.val % 4, by omega⟩ d) := by
  pointwise []

/-- The input at a row, sequences and positions in one axis. -/
theorem in_at (c : Dev nD) (R : Fin 128) (d : Fin 1024) :
    (V m c main_v5 : Vec Ideal S128x1024 .f32) (ix2 R d)
      = (m ((c : Thread nD τ).loc main_arg0) : Vec Ideal S32x4x1024 .f32) (ix3 ⟨R.val / 4, by omega⟩ ⟨R.val % 4, by omega⟩ d) := by
  rw [V_main_v5]
  exact cast_at _ R d

/-- The gain's row. -/
theorem gain_at (X : Vec Ideal S1024 .f32) (d : Fin 1024) :
    shapeCast S1x1024 X shapeCasts_S1024_S1x1024 (ix2 0 d) = X (ix1 d) := by
  pointwise []

/-- The sum of products with packed weights is the projection at the column each comes from, or zero. -/
theorem sum_pick (h : Fin 1024 → EReal) (w : Fin 1024 → Fin 4244 → EReal) (j : ℕ) :
    ∑ d, h d * pick (w d) j = pick (fun e => ∑ d, h d * w d e) j := by
  unfold pick
  split
  · rfl
  · simp

/-- The array of projections, from the argument arrays. -/
def projAt (x : Vec Ideal S32x4x1024 .f32) (g : Vec Ideal S1024 .f32) (w : Vec Ideal S1024x4244 .f32) (R : Fin 128) (e : Fin 4480) : EReal :=
  pick (proj (fun d => x (ix3 ⟨R.val / 4, by omega⟩ ⟨R.val % 4, by omega⟩ d)) (fun d => g (ix1 d)) (fun d e => w (ix2 d e))) e.val

/-- The result array after the run. -/
theorem arr3 (c : Dev nD) (R : Fin 128) (e : Fin 4480) :
    ((dats m 0 c).arrAt 3 cfg0.N : Vec Ideal S128x4480 .f32) (ix2 R e)
      = projAt (m ((c : Thread nD τ).loc main_arg0)) (m ((c : Thread nD τ).loc main_arg1)) (m ((c : Thread nD τ).loc main_arg2)) R e := by
  refine congrFun (f := (dats m 0 c).arrAt 3 cfg0.N) (g := fun y : S128x4480.Idx =>
    projAt (m ((c : Thread nD τ).loc main_arg0)) (m ((c : Thread nD τ).loc main_arg1)) (m ((c : Thread nD τ).loc main_arg2)) (y 0) (y 1)) ?_ (ix2 R e)
  refine (dats m 0 c).arrAt_eq_of_covers 3 _ (by decide +kernel) fun t hf y => ?_
  blk_simp
  rw [after0_3]
  idx_vars y
  have h0 : (grid0.coords t 0).val < 1 := (grid0.coords t 0).isLt
  have e : (win0_3.blk t).view.emb (ix2 y0 y1) = ix2 ⟨(grid0.coords t 0).val * 128 + y0.val, by omega⟩ y1 := by
    blk_ext [idx t]
  refine Eq.trans ?_ (congrArg (fun i : S128x4480.Idx => projAt (m ((c : Thread nD τ).loc main_arg0)) (m ((c : Thread nD τ).loc main_arg1)) (m ((c : Thread nD τ).loc main_arg2)) (i 0) (i 1)) e).symm
  show _ = projAt _ _ _ ⟨(grid0.coords t 0).val * 128 + y0.val, by omega⟩ y1
  rw [out_at]
  unfold projAt proj
  rw [← sum_pick]
  have ex : ∀ d : Fin 1024, iblk m c 0 t (ix2 y0 d) = (V m c main_v5 : Vec Ideal S128x1024 .f32) (ix2 ⟨(grid0.coords t 0).val * 128 + y0.val, by omega⟩ d) := fun d => by
    blk_ext [iblk, idx t]
  have eg : ∀ d : Fin 1024, iblk m c 1 t (ix2 0 d) = (V m c main_v6 : Vec Ideal S1x1024 .f32) (ix2 0 d) := fun d => by
    blk_ext [iblk, idx t]
  have ew : ∀ d : Fin 1024, iblk m c 2 t (ix2 d y1) = (V m c main_v4 : Vec Ideal S1024x4480 .bf16) (ix2 d y1) := fun d => by
    blk_ext [iblk, idx t]
  have hx : (fun d => iblk m c 0 t (ix2 y0 d)) = fun d : Fin 1024 => (m ((c : Thread nD τ).loc main_arg0) : Vec Ideal S32x4x1024 .f32)
      (ix3 ⟨((grid0.coords t 0).val * 128 + y0.val) / 4, by omega⟩ ⟨((grid0.coords t 0).val * 128 + y0.val) % 4, by omega⟩ d) :=
    funext fun d => (ex d).trans (in_at m c _ d)
  have hg : (fun d => iblk m c 1 t (ix2 0 d)) = fun d : Fin 1024 => (m ((c : Thread nD τ).loc main_arg1) : Vec Ideal S1024 .f32) (ix1 d) :=
    funext fun d => (eg d).trans (by rw [V_main_v6]; exact gain_at _ d)
  rw [hx, hg]
  refine Finset.sum_congr rfl fun d _ => congrArg₂ (· * ·) rfl ?_
  refine (ew d).trans ?_
  rw [V_main_v4]
  exact packed_at _ d y1

end Cert.ProjDecIdeal.Att
-- ==== Proof.DecTail.lean ====
/- The results the host code cuts out of the projection after the region. -/
module

public import proofs.«01_k».proof.Proof.DecKernel

@[expose] public section

set_option maxRecDepth 16384

noncomputable section

namespace Cert.ProjDecIdeal.Att

open Cert.ProjDecIdeal Cert.ProjDecIdeal.Gen Idealize.ShloMosaic Idealize.ShloMosaic.TcCoe Idealize.SL.Sem
open Cert.ProjSpec

variable (m : (ℓ : Loc nD τ sig) → Buf (Elt Ideal) ℓ)

/-- The projection as the host code after the region finds it. -/
def outA (c : Dev nD) : Vec Ideal S128x4480 .f32 := (dats m 0 c).arrAt 3 cfg0.N

/-- The region's array as the host code reads it. -/
theorem read_v7 (c : Dev nD) :
    Pipeline.withArrays (cfgs 0).spec c (V0 m c) (fun w => (dats m 0 c).arrAt w (cfgs 0).N) (Proc.tc.devRef main_v7) = outA m c :=
  Pipeline.withArrays_arr spec0 (by decide) c _ _ 3

/-- The projection, sequences and positions apart. -/
def out3 (A : Vec Ideal S128x4480 .f32) : Vec Ideal S32x4x4480 .f32 := shapeCast S32x4x4480 A shapeCasts_S128x4480_S32x4x4480

/-- The compressed branch's keys and values. -/
def cmpOf (A : Vec Ideal S128x4480 .f32) : Vec Ideal S32x4x2x2x64 .f32 :=
  shapeCast S32x4x2x2x64 (extractStridedSlice S32x4x256 ![0, 0, 1536] (out3 A) slices_S32x4x4480_S32x4x256_0_0_1536) shapeCasts_S32x4x256_S32x4x2x2x64

/-- The last three positions of the convolution's input. -/
def convOf (A : Vec Ideal S128x4480 .f32) : Vec Ideal S32x3x512 .f32 :=
  concatenate S32x3x512 2 [⟨S32x3x256, extractStridedSlice S32x3x256 ![0, 1, 0] (out3 A) slices_S32x4x4480_S32x3x256_0_1_0⟩,
    ⟨S32x3x256, extractStridedSlice S32x3x256 ![0, 1, 256] (out3 A) slices_S32x4x4480_S32x3x256_0_1_256⟩] concatenates_S32x3x256_S32x3x256_S32x3x512_d2

/-- The last position of the shifted input. -/
def shiftOf (A : Vec Ideal S128x4480 .f32) : Vec Ideal S32x1x896 .f32 :=
  concatenate S32x1x896 2 [⟨S32x1x768, extractStridedSlice S32x1x768 ![0, 3, 2560] (out3 A) slices_S32x4x4480_S32x1x768_0_3_2560⟩,
    ⟨S32x1x128, extractStridedSlice S32x1x128 ![0, 3, 4096] (out3 A) slices_S32x4x4480_S32x1x128_0_3_4096⟩] concatenates_S32x1x768_S32x1x128_S32x1x896_d2

/-- The first result cut out after the run. -/
theorem tail_v10 (c : Dev nD) : Pipeline.afterTail₀ cfgs (dats m) 0 (V0 m) [hostOps1] c main_v10 = cmpOf (outA m c) := by
  unfold Pipeline.afterTail₀
  simp only [hostOps1, List.flatten_cons, List.flatten_nil, List.append_nil, StableHlo.after_cons, StableHlo.after_nil]
  after_results_simp
  rw [read_v7]
  rfl

/-- The second result cut out after the run. -/
theorem tail_v13 (c : Dev nD) : Pipeline.afterTail₀ cfgs (dats m) 0 (V0 m) [hostOps1] c main_v13 = convOf (outA m c) := by
  unfold Pipeline.afterTail₀
  simp only [hostOps1, List.flatten_cons, List.flatten_nil, List.append_nil, StableHlo.after_cons, StableHlo.after_nil]
  after_results_simp
  refine congrArg₂ (fun a b => concatenate S32x3x512 2 [⟨S32x3x256, a⟩, ⟨S32x3x256, b⟩] concatenates_S32x3x256_S32x3x256_S32x3x512_d2) ?_ ?_
  all_goals
    after_results_simp
    rw [read_v7]
    rfl

/-- The third result cut out after the run. -/
theorem tail_v16 (c : Dev nD) : Pipeline.afterTail₀ cfgs (dats m) 0 (V0 m) [hostOps1] c main_v16 = shiftOf (outA m c) := by
  unfold Pipeline.afterTail₀
  simp only [hostOps1, List.flatten_cons, List.flatten_nil, List.append_nil, StableHlo.after_cons, StableHlo.after_nil]
  after_results_simp
  refine congrArg₂ (fun a b => concatenate S32x1x896 2 [⟨S32x1x768, a⟩, ⟨S32x1x128, b⟩] concatenates_S32x1x768_S32x1x128_S32x1x896_d2) ?_ ?_
  all_goals
    after_results_simp
    rw [read_v7]
    rfl

section At

variable (A : Vec Ideal S128x4480 .f32) (P : Fin 128 → ℕ → EReal) (hA : ∀ R e, A (ix2 R e) = P R e.val)
include hA

/-- A compressed key or value, from the projection. -/
theorem cmpOf_at (b : Fin 32) (t : Fin 4) (h j : Fin 2) (d : Fin 64) :
    cmpOf A (ix5 b t h j d) = P ⟨b.val * 4 + t.val, by omega⟩ (1536 + h.val * 128 + j.val * 64 + d.val) := by
  pointwise [cmpOf, out3]
  rw [hA]
  exact congrArg (P _) (show 1536 + (h.val * 128 + j.val * 64 + d.val) = _ by omega)

/-- An element of the convolution's last inputs, from the projection. -/
theorem convOf_at (b : Fin 32) (t : Fin 3) (e : Fin 512) :
    convOf A (ix3 b t e) = P ⟨b.val * 4 + (1 + t.val), by omega⟩ e.val := by
  pointwise [convOf, out3]
  split
  · rw [hA]
  · rw [hA]
    exact congrArg (P _) (show 256 + (e.val - 256) = _ by omega)

/-- An element of the last shifted input, from the projection. -/
theorem shiftOf_at (b : Fin 32) (t : Fin 1) (e : Fin 896) :
    shiftOf A (ix3 b t e) = P ⟨b.val * 4 + 3, by omega⟩ (if e.val < 768 then 2560 + e.val else 3328 + e.val) := by
  pointwise [shiftOf, out3]
  split
  · rw [hA]
  · rw [hA]
    exact congrArg (P _) (show 4096 + (e.val - 768) = _ by omega)

end At

end Cert.ProjDecIdeal.Att
-- ==== Proof.DecRefVal.lean ====
/- The plain statement of the decode input projection, read at an index. -/
module

public import proofs.«01_k».proof.Proof.Gen.ProjDecRefIdeal.Read
public import proofs.«01_k».proof.Proof.ProjSpec
public import Idealize.ShloMosaic.Lib.Pointwise

@[expose] public section

set_option maxRecDepth 16384

noncomputable section

namespace Cert.ProjDecRefIdeal.Att

open Cert.ProjDecRefIdeal Cert.ProjDecRefIdeal.Gen Cert.ProjDecRefIdeal.Read Idealize.ShloMosaic Idealize.ShloMosaic.TcCoe Idealize.SL.Sem
open Cert.ProjSpec

variable (x : Vec Ideal S32x4x1024 .f32) (g : Vec Ideal S1024 .f32) (w : Vec Ideal S1024x4244 .f32)

/-- The row of the unpacked projection at a position. -/
def row (b : Fin 32) (t : Fin 4) : Fin 4244 → EReal :=
  proj (fun d => x (ix3 b t d)) (fun d => g (ix1 d)) (fun d e => w (ix2 d e))

theorem v13 (b : Fin 32) (t : Fin 4) (e : Fin 4244) : val_main_v13 (F := Ideal) x g w (ix3 b t e) = row x g w b t e := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- Closes a kept column's equation by arithmetic on the column numbers. -/
theorem close (b : Fin 32) (t : Fin 4) (j e : ℕ) (he : e < 4244) (hk : Kept j) (h : srcN j = e) :
    val_main_v13 (F := Ideal) x g w (ix3 b t ⟨e, he⟩) = pick (row x g w b t) j :=
  (v13 x g w b t _).trans (pick_of _ j _ hk h)

variable (b : Fin 32) (t : Fin 4) (r : Fin 256)

theorem piece0 : val_main_v14 (F := Ideal) x g w (ix3 b t r) = pick (row x g w b t) (0 + r.val) := by
  pointwise [val_main_v14]
  exact close x g w b t _ _ _ (by unfold Kept; omega) (by unfold srcN; split_ifs <;> omega)
theorem piece1 : val_main_v15 (F := Ideal) x g w (ix3 b t r) = pick (row x g w b t) (256 + r.val) := by
  pointwise [val_main_v15]
  exact close x g w b t _ _ _ (by unfold Kept; omega) (by unfold srcN; split_ifs <;> omega)
theorem piece2 : val_main_v16 (F := Ideal) x g w (ix3 b t r) = pick (row x g w b t) (512 + r.val) := by
  pointwise [val_main_v16]
  exact close x g w b t _ _ _ (by unfold Kept; omega) (by unfold srcN; split_ifs <;> omega)
theorem piece3 : val_main_v19 (F := Ideal) x g w (ix3 b t r) = pick (row x g w b t) (768 + r.val) := by
  pointwise [val_main_v19]
  exact close x g w b t _ _ _ (by unfold Kept; omega) (by unfold srcN; split_ifs <;> omega)
theorem piece4 : val_main_v20 (F := Ideal) x g w (ix3 b t r) = pick (row x g w b t) (1024 + r.val) := by
  pointwise [val_main_v20]
  exact close x g w b t _ _ _ (by unfold Kept; omega) (by unfold srcN; split_ifs <;> omega)
theorem piece5 : val_main_v21 (F := Ideal) x g w (ix3 b t r) = pick (row x g w b t) (1280 + r.val) := by
  pointwise [val_main_v21]
  exact close x g w b t _ _ _ (by unfold Kept; omega) (by unfold srcN; split_ifs <;> omega)
theorem piece9 : val_main_v29 (F := Ideal) x g w (ix3 b t r) = pick (row x g w b t) (2304 + r.val) := by
  pointwise [val_main_v29]
  exact close x g w b t _ _ _ (by unfold Kept; omega) (by unfold srcN; split_ifs <;> omega)
theorem piece10 : val_main_v30 (F := Ideal) x g w (ix3 b t r) = pick (row x g w b t) (2560 + r.val) := by
  pointwise [val_main_v30]
  exact close x g w b t _ _ _ (by unfold Kept; omega) (by unfold srcN; split_ifs <;> omega)
theorem piece11 : val_main_v31 (F := Ideal) x g w (ix3 b t r) = pick (row x g w b t) (2816 + r.val) := by
  pointwise [val_main_v31]
  exact close x g w b t _ _ _ (by unfold Kept; omega) (by unfold srcN; split_ifs <;> omega)
theorem piece12 : val_main_v32 (F := Ideal) x g w (ix3 b t r) = pick (row x g w b t) (3072 + r.val) := by
  pointwise [val_main_v32]
  exact close x g w b t _ _ _ (by unfold Kept; omega) (by unfold srcN; split_ifs <;> omega)
theorem piece13 : val_main_v34 (F := Ideal) x g w (ix3 b t r) = pick (row x g w b t) (3328 + r.val) := by
  pointwise [val_main_v34]
  exact close x g w b t _ _ _ (by unfold Kept; omega) (by unfold srcN; split_ifs <;> omega)
theorem piece14 : val_main_v35 (F := Ideal) x g w (ix3 b t r) = pick (row x g w b t) (3584 + r.val) := by
  pointwise [val_main_v35]
  exact close x g w b t _ _ _ (by unfold Kept; omega) (by unfold srcN; split_ifs <;> omega)
theorem piece15 : val_main_v36 (F := Ideal) x g w (ix3 b t r) = pick (row x g w b t) (3840 + r.val) := by
  pointwise [val_main_v36]
  exact close x g w b t _ _ _ (by unfold Kept; omega) (by unfold srcN; split_ifs <;> omega)
theorem piece6 : val_main_v42 (F := Ideal) x g w (ix3 b t r) = pick (row x g w b t) (1536 + r.val) := by
  pointwise [val_main_v42, val_main_v41, val_main_v39, val_main_v40, val_main_v37, val_main_v38, val_main_v22, val_main_v23]
  split
  · exact close x g w b t _ _ _ (by unfold Kept; omega) (by unfold srcN; split_ifs <;> omega)
  · exact close x g w b t _ _ _ (by unfold Kept; omega) (by unfold srcN; split_ifs <;> omega)
theorem piece7 : val_main_v48 (F := Ideal) x g w (ix3 b t r) = pick (row x g w b t) (1792 + r.val) := by
  pointwise [val_main_v48, val_main_v47, val_main_v45, val_main_v46, val_main_v43, val_main_v44, val_main_v24, val_main_v25]
  split
  · exact close x g w b t _ _ _ (by unfold Kept; omega) (by unfold srcN; split_ifs <;> omega)
  · exact close x g w b t _ _ _ (by unfold Kept; omega) (by unfold srcN; split_ifs <;> omega)
theorem piece8 : val_main_v54 (F := Ideal) x g w (ix3 b t r) = pick (row x g w b t) (2048 + r.val) := by
  pointwise [val_main_v54, val_main_v53, val_main_v51, val_main_v52, val_main_v49, val_main_v50, val_main_v26, val_main_v27]
  split
  · exact close x g w b t _ _ _ (by unfold Kept; omega) (by unfold srcN; split_ifs <;> omega)
  · exact close x g w b t _ _ _ (by unfold Kept; omega) (by unfold srcN; split_ifs <;> omega)
/-- The sixteen pieces of 256 columns, in order. -/
def pieces : Fin 16 → (⟨S32x4x256, .f32⟩ : BufTy).Contents (Elt Ideal) :=
  ![val_main_v14 (F := Ideal) x g w, val_main_v15 (F := Ideal) x g w, val_main_v16 (F := Ideal) x g w, val_main_v19 (F := Ideal) x g w, val_main_v20 (F := Ideal) x g w, val_main_v21 (F := Ideal) x g w, val_main_v42 (F := Ideal) x g w, val_main_v48 (F := Ideal) x g w, val_main_v54 (F := Ideal) x g w, val_main_v29 (F := Ideal) x g w, val_main_v30 (F := Ideal) x g w, val_main_v31 (F := Ideal) x g w, val_main_v32 (F := Ideal) x g w, val_main_v34 (F := Ideal) x g w, val_main_v35 (F := Ideal) x g w, val_main_v36 (F := Ideal) x g w]

theorem pieces_eq : ∀ k : Fin 16, pieces x g w k (ix3 b t r) = pick (row x g w b t) (256 * k.val + r.val)
  | ⟨0, _⟩ => piece0 x g w b t r
  | ⟨1, _⟩ => piece1 x g w b t r
  | ⟨2, _⟩ => piece2 x g w b t r
  | ⟨3, _⟩ => piece3 x g w b t r
  | ⟨4, _⟩ => piece4 x g w b t r
  | ⟨5, _⟩ => piece5 x g w b t r
  | ⟨6, _⟩ => piece6 x g w b t r
  | ⟨7, _⟩ => piece7 x g w b t r
  | ⟨8, _⟩ => piece8 x g w b t r
  | ⟨9, _⟩ => piece9 x g w b t r
  | ⟨10, _⟩ => piece10 x g w b t r
  | ⟨11, _⟩ => piece11 x g w b t r
  | ⟨12, _⟩ => piece12 x g w b t r
  | ⟨13, _⟩ => piece13 x g w b t r
  | ⟨14, _⟩ => piece14 x g w b t r
  | ⟨15, _⟩ => piece15 x g w b t r
  | ⟨n + 16, h⟩ => absurd h (by omega)

/-- The first 4096 packed columns. -/
theorem v57 (e : Fin 4096) : val_main_v57 (F := Ideal) x g w (ix3 b t e) = pick (row x g w b t) e.val := by
  have h : val_main_v57 (F := Ideal) x g w (ix3 b t e) = pieces x g w ⟨e.val / 256, by omega⟩ (ix3 b t ⟨e.val % 256, by omega⟩) :=
    concatenate_ofFn_apply 2 (pieces x g w) concatenates_S32x4x256_S32x4x256_S32x4x256_S32x4x256_S32x4x256_S32x4x256_S32x4x256_S32x4x256_S32x4x256_S32x4x256_S32x4x256_S32x4x256_S32x4x256_S32x4x256_S32x4x256_S32x4x256_S32x4x4096_d2
      rfl 256 rfl (ix3 b t e) ⟨e.val / 256, by omega⟩ rfl (ix3 b t ⟨e.val % 256, by omega⟩) rfl
      (fun a ha => match a with | ⟨0, _⟩ => rfl | ⟨1, _⟩ => rfl | ⟨2, _⟩ => absurd rfl ha)
  rw [h, pieces_eq]
  congr 1
  show 256 * (e.val / 256) + e.val % 256 = e.val
  omega

/-- The last 384 packed columns. -/
theorem v58 (e : Fin 384) : val_main_v58 (F := Ideal) x g w (ix3 b t e) = pick (row x g w b t) (4096 + e.val) := by
  pointwise [val_main_v58, val_main_v55, val_main_v56, val_main_cst_2, val_main_cst_3, val_main_v33, val_main_v17, val_main_v18, val_main_v28]
  repeat' split
  all_goals first
    | exact close x g w b t _ _ _ (by unfold Kept; omega) (by unfold srcN; split_ifs <;> omega)
    | exact pick_pad _ _ (by unfold Kept; omega)

/-- Every packed column at a position. -/
theorem v59 (e : Fin 4480) : val_main_v59 (F := Ideal) x g w (ix3 b t e) = pick (row x g w b t) e.val := by
  pointwise [val_main_v59]
  split
  · exact v57 x g w b t _
  · refine (v58 x g w b t _).trans (congrArg _ ?_)
    show 4096 + (e.val - 4096) = e.val
    omega

/-- The packed projection with sequences and positions in one axis. -/
theorem v64 (R : Fin 128) (e : Fin 4480) : val_main_v64 (F := Ideal) x g w (ix2 R e)
    = pick (row x g w ⟨R.val / 4, by omega⟩ ⟨R.val % 4, by omega⟩) e.val := by
  pointwise [val_main_v64]
  exact v59 x g w _ _ _

/-- The compressed branch's new keys and values. -/
theorem v41 (h j : Fin 2) (d : Fin 64) : val_main_v41 (F := Ideal) x g w (ix5 b t h j d)
    = pick (row x g w b t) (1536 + h.val * 128 + j.val * 64 + d.val) := by
  pointwise [val_main_v41, val_main_v39, val_main_v40, val_main_v37, val_main_v38, val_main_v22, val_main_v23]
  split
  · exact close x g w b t _ _ _ (by unfold Kept; omega) (by unfold srcN; split_ifs <;> omega)
  · exact close x g w b t _ _ _ (by unfold Kept; omega) (by unfold srcN; split_ifs <;> omega)

/-- The last three positions of the convolution's input. -/
theorem v61 (t' : Fin 3) (e : Fin 512) : val_main_v61 (F := Ideal) x g w (ix3 b t' e)
    = pick (row x g w b ⟨1 + t'.val, by omega⟩) e.val := by
  pointwise [val_main_v61, val_main_v60, val_main_v14, val_main_v15]
  split
  · exact close x g w b _ _ _ _ (by unfold Kept; omega) (by unfold srcN; split_ifs <;> omega)
  · exact close x g w b _ _ _ _ (by unfold Kept; omega) (by unfold srcN; split_ifs <;> omega)

/-- The last position of the recurrent branch's input. -/
theorem v63 (t' : Fin 1) (e : Fin 896) : val_main_v63 (F := Ideal) x g w (ix3 b t' e)
    = pick (row x g w b ⟨3, by omega⟩) (if e.val < 768 then 2560 + e.val else 3328 + e.val) := by
  pointwise [val_main_v63, val_main_v62, val_main_v30, val_main_v31, val_main_v32, val_main_v33]
  by_cases h : e.val < 768
  · rw [if_pos h]
    repeat' split
    all_goals first
      | (exfalso; omega)
      | exact close x g w b _ _ _ _ (by unfold Kept; omega) (by unfold srcN; split_ifs <;> omega)
  · rw [if_neg h]
    repeat' split
    all_goals first
      | (exfalso; omega)
      | exact close x g w b _ _ _ _ (by unfold Kept; omega) (by unfold srcN; split_ifs <;> omega)

end Cert.ProjDecRefIdeal.Att
-- ==== Proof.DecClaim.lean ====
/- The claims about the decode input projection: its frames, and over the reals its four results are the plain statement's. -/
module

public import proofs.«01_k».proof.Defs
public import proofs.«01_k».proof.Proof.Gen.ProjDec.Frame
public import proofs.«01_k».proof.Proof.Gen.ProjDecRefIdeal.Run
public import proofs.«01_k».proof.Proof.DecTail
public import proofs.«01_k».proof.Proof.DecRefVal
public import Idealize.ShloMosaic.Adequacy
public import Idealize.ShloMosaic.Init

@[expose] public section

set_option maxRecDepth 16384

noncomputable section

namespace Cert.Proof.DecClaims

open Idealize.ShloMosaic Idealize.ShloMosaic.TcCoe Idealize.SL.Sem
open Cert.ProjSpec

/-- The kernel at machine precision stays within its memory and changes no argument. -/
theorem frame : Cert.quiescent_ProjDec := fun m ρ _ => Cert.ProjDec.Gen.frame m ρ
/-- So does the kernel over the reals. -/
theorem frame_ideal : Cert.quiescent_ProjDecIdeal := fun m ρ _ => Cert.ProjDecIdeal.Gen.frame m ρ

/-- The plain statement's run changes no argument; it declares no semaphore. -/
theorem frame_ref : Cert.quiescent_ProjDecRefIdeal := fun m ρ _ =>
  (θ_run Cert.ProjDecRefIdeal.defs _ _).mono (fun r h => ⟨fun c => (h c).2.2.2.2,
      Idealize.ShloMosaic.sem_eq_zero_of_no_sems (by decide) r.2⟩)
    (Cert.ProjDecRefIdeal.Value.run (F := Ideal) m ρ)

/-- Nothing was rewritten. -/
theorem preserves : Cert.preserves_ProjDec_ProjDecIdeal := trivial

open Cert.ProjDecIdeal Cert.ProjDecIdeal.Gen Cert.ProjDecIdeal.Att in
/-- The kernel's run over the reals: its four results as the host code leaves them, its arguments unchanged. -/
theorem run_results (m : (ℓ : Loc nD τ sig) → Buf (Elt Ideal) ℓ) (ρ) :
    θ_run defs (onTc (τ := τ) (main (F := Ideal))) ⟨m, fun _ => 0, ρ⟩ (fun r => ∀ c : Dev nD,
      r.2.mem ((c.tc : Thread nD τ).loc main_v7) = outA m c
      ∧ r.2.mem ((c.tc : Thread nD τ).loc main_v10) = cmpOf (outA m c)
      ∧ r.2.mem ((c.tc : Thread nD τ).loc main_v13) = convOf (outA m c)
      ∧ r.2.mem ((c.tc : Thread nD τ).loc main_v16) = shiftOf (outA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c).1 3,
      ((h c).2 main_v10 (Pipeline.mem_restRefs_of main_v10 (by decide) (by decide))).trans (tail_v10 m c),
      ((h c).2 main_v13 (Pipeline.mem_restRefs_of main_v13 (by decide) (by decide))).trans (tail_v13 m c),
      ((h c).2 main_v16 (Pipeline.mem_restRefs_of main_v16 (by decide) (by decide))).trans (tail_v16 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩) (run_main m ρ)

/-- The projection at a row and column, from the three arguments. -/
theorem out_at (m : (ℓ : Loc Cert.ProjDecIdeal.nD Cert.ProjDecIdeal.τ Cert.ProjDecIdeal.sig) → Buf (Elt Ideal) ℓ) (c : Dev Cert.ProjDecIdeal.nD)
    (R : Fin 128) (e : Fin 4480) :
    Cert.ProjDecIdeal.Att.outA m c (ix2 R e)
      = pick (Cert.ProjDecRefIdeal.Att.row (m ((c.tc : Thread Cert.ProjDecIdeal.nD Cert.ProjDecIdeal.τ).loc Cert.ProjDecIdeal.main_arg0))
          (m ((c.tc : Thread Cert.ProjDecIdeal.nD Cert.ProjDecIdeal.τ).loc Cert.ProjDecIdeal.main_arg1))
          (m ((c.tc : Thread Cert.ProjDecIdeal.nD Cert.ProjDecIdeal.τ).loc Cert.ProjDecIdeal.main_arg2)) ⟨R.val / 4, by omega⟩ ⟨R.val % 4, by omega⟩) e.val :=
  Cert.ProjDecIdeal.Att.arr3 m c R e

/-- Over the reals kernel and plain statement end with the same projection and the same three results cut out of it. -/
theorem algebraic : Cert.algebraic_ProjDecIdeal_ProjDecRefIdeal := by
  intro m ρ m' ρ' hpre hagree
  refine ⟨_, _, _, _, run_results m ρ, ?_⟩
  have pb : ∀ (b : Fin 32) (t : ℕ) (ht : t < 4) (h1), (⟨(b.val * 4 + t) / 4, h1⟩ : Fin 32) = b :=
    fun b t ht h1 => Fin.ext (by show (b.val * 4 + t) / 4 = b.val; omega)
  have pt : ∀ (b : Fin 32) (t : ℕ) (ht : t < 4) (h1), (⟨(b.val * 4 + t) % 4, h1⟩ : Fin 4) = ⟨t, ht⟩ :=
    fun b t ht h1 => Fin.ext (by show (b.val * 4 + t) % 4 = t; omega)
  refine (θ_run Cert.ProjDecRefIdeal.defs _ _).mono (fun r h c => ⟨(h c).1.trans ?_, (h c).2.1.trans ?_, (h c).2.2.1.trans ?_, (h c).2.2.2.1.trans ?_, (h c).2.2.2.2⟩)
    (Cert.ProjDecRefIdeal.Value.run (F := Ideal) m' ρ')
  · rw [Cert.ProjDecRefIdeal.Read.val_main_v64_eq, (hagree c).1, (hagree c).2.1, (hagree c).2.2]
    funext i
    idx_vars i
    exact (Cert.ProjDecRefIdeal.Att.v64 _ _ _ _ _).trans (out_at m c _ _).symm
  · rw [Cert.ProjDecRefIdeal.Read.val_main_v41_eq, (hagree c).1, (hagree c).2.1, (hagree c).2.2]
    funext i
    idx_vars i
    refine (Cert.ProjDecRefIdeal.Att.v41 _ _ _ _ _ _ _ _).trans (Eq.symm ?_)
    refine (Cert.ProjDecIdeal.Att.cmpOf_at _ (fun R e => _) (out_at m c) _ _ _ _ _).trans ?_
    rw [pb i0 i1.val i1.isLt _, pt i0 i1.val i1.isLt _]
  · rw [Cert.ProjDecRefIdeal.Read.val_main_v61_eq, (hagree c).1, (hagree c).2.1, (hagree c).2.2]
    funext i
    idx_vars i
    refine (Cert.ProjDecRefIdeal.Att.v61 _ _ _ _ _ _).trans (Eq.symm ?_)
    refine (Cert.ProjDecIdeal.Att.convOf_at _ (fun R e => _) (out_at m c) _ _ _).trans ?_
    rw [pb i0 (1 + i1.val) (by omega) _, pt i0 (1 + i1.val) (by omega) _]
  · rw [Cert.ProjDecRefIdeal.Read.val_main_v63_eq, (hagree c).1, (hagree c).2.1, (hagree c).2.2]
    funext i
    idx_vars i
    refine (Cert.ProjDecRefIdeal.Att.v63 _ _ _ _ _ _).trans (Eq.symm ?_)
    refine (Cert.ProjDecIdeal.Att.shiftOf_at _ (fun R e => _) (out_at m c) _ _ _).trans ?_
    rw [pb i0 3 (by omega) _, pt i0 3 (by omega) _]

end Cert.Proof.DecClaims
-- ==== Proof.MemSpec.lean ====
/- The memory's keys and values: their projection, and the normalisation of the keys. -/
module

public import proofs.«01_k».proof.Proof.ProjSpec

@[expose] public section

noncomputable section

namespace Cert.MemSpec

open Idealize.ShloMosaic
open Cert.ProjSpec

/-- One element of the memory's projection. -/
def mproj (x g : Fin 1024 → EReal) (w : Fin 1024 → Fin 512 → EReal) (e : Fin 512) : EReal := ∑ d, normed x g d * w d e

/-- One element of a normalised key: the key over the root of its mean square, times the gain. -/
def key (u g : Fin 64 → EReal) (d : Fin 64) : EReal :=
  u d * Ideal.rsqrt (Ideal.div (∑ k, u k * u k) (Ideal.ofBits FTy.f32 1115684864#32) + Ideal.ofBits FTy.f32 897988541#32) * g d

/-- A key (`j = 0`) or value (`j = 1`) of head `h`, from a row of the projection. -/
def kv (p : Fin 512 → EReal) (g : Fin 64 → EReal) (h : Fin 4) (j : Fin 2) (d : Fin 64) : EReal :=
  if j.val < 1 then key (fun d => p ⟨h.val * 64 + d.val, by omega⟩) g d else p ⟨256 + h.val * 64 + d.val, by omega⟩

end Cert.MemSpec
-- ==== Proof.MemKernel.lean ====
/- The memory projection kernel's array after the region, and the keys and values the host code makes of it. -/
module

public import proofs.«01_k».proof.Proof.Gen.MemKvIdeal.Frame
public import proofs.«01_k».proof.Proof.MemSpec
public import Idealize.ShloMosaic.Lib.Pointwise
public import Idealize.ShloMosaic.Lib.Pipeline.ValueKit

@[expose] public section

set_option maxRecDepth 16384

noncomputable section

namespace Cert.MemKvIdeal.Att

open Cert.MemKvIdeal Cert.MemKvIdeal.Gen Idealize.ShloMosaic Idealize.ShloMosaic.TcCoe Idealize.SL.Sem
open Cert.ProjSpec Cert.MemSpec

variable (m : (ℓ : Loc nD τ sig) → Buf (Elt Ideal) ℓ)

/-- The index maps of the four windows. -/
theorem idx : ∀ t : Fin cfg0.N,
    win0_0.index t = ![(grid0.coords t 0).val, 0] ∧ win0_1.index t = ![0, 0] ∧ win0_2.index t = ![0, 0]
    ∧ win0_3.index t = ![(grid0.coords t 0).val, 0] :=
  (by decide +kernel : ∀ t : Fin grid0.N, _)

/-- The memory's rows, batch and position in one axis. -/
theorem V_v4 (c : Dev nD) : V m c main_v4 = shapeCast S1024x1024 (m ((c : Thread nD τ).loc main_arg0)) shapeCasts_S4x256x1024_S1024x1024 := by
  entry_read
  rfl
/-- The gain as a row. -/
theorem V_v5 (c : Dev nD) : V m c main_v5 = shapeCast S1x1024 (m ((c : Thread nD τ).loc main_arg1)) shapeCasts_S1024_S1x1024 := by
  entry_read
  rfl

/-- The weights with their columns regrouped by head. -/
def wOf (w : Vec Ideal S1024x512 .f32) : Vec Ideal S1024x512 .bf16 :=
  truncf (F := Ideal) .bf16 (shapeCast S1024x512 (transpose S1024x4x2x64 [0, 2, 1, 3] (shapeCast S1024x2x4x64 w shapeCasts_S1024x512_S1024x2x4x64)
    transposes_S1024x2x4x64_S1024x4x2x64_0_2_1_3) shapeCasts_S1024x4x2x64_S1024x512) bitsLt_bf16_f32

/-- The weights as the region finds them. -/
theorem V_v3 (c : Dev nD) : V m c main_v3 = wOf (m ((c : Thread nD τ).loc main_arg2)) := by
  entry_read
  rfl

theorem x_at (X : Vec Ideal S4x256x1024 .f32) (R : Fin 1024) (d : Fin 1024) :
    shapeCast S1024x1024 X shapeCasts_S4x256x1024_S1024x1024 (ix2 R d) = X (ix3 ⟨R.val / 256, by omega⟩ ⟨R.val % 256, by omega⟩ d) := by
  pointwise []
theorem g_at (X : Vec Ideal S1024 .f32) (d : Fin 1024) : shapeCast S1x1024 X shapeCasts_S1024_S1x1024 (ix2 0 d) = X (ix1 d) := by
  pointwise []

/-- The column of the weights that regrouped column `e` holds. -/
def col (e : ℕ) : ℕ := e % 128 / 64 * 256 + e / 128 * 64 + e % 64

theorem w_at (w : Vec Ideal S1024x512 .f32) (d : Fin 1024) (e : Fin 512) : wOf w (ix2 d e) = w (ix2 d ⟨col e.val, by unfold col; omega⟩) := by
  pointwise [wOf]
  refine congrArg w (congrArg (ix2 d) (Fin.ext ?_))
  unfold col
  try simp only []
  try omega

/-- One element of the block the body leaves. -/
theorem out_at (X : Vec Ideal S512x1024 .f32) (Y : Vec Ideal S1x1024 .f32) (W : Vec Ideal S1024x512 .bf16) (r : Fin 512) (j : Fin 512) :
    out0_3 X Y W (ix2 r j) = ∑ d, normed (fun d => X (ix2 r d)) (fun d => Y (ix2 0 d)) d * W (ix2 d j) := by
  frame_out
  pointwise [k0_pay1]
  rfl

/-- The kernel's array at a row and regrouped column, from the arguments. -/
def outAt (x : Vec Ideal S4x256x1024 .f32) (g : Vec Ideal S1024 .f32) (w : Vec Ideal S1024x512 .f32) (R : Fin 1024) (e : Fin 512) : EReal :=
  mproj (fun d => x (ix3 ⟨R.val / 256, by omega⟩ ⟨R.val % 256, by omega⟩ d)) (fun d => g (ix1 d)) (fun d e => w (ix2 d e)) ⟨col e.val, by unfold col; omega⟩

/-- The array after the region. -/
theorem arr3 (c : Dev nD) (R : Fin 1024) (e : Fin 512) :
    ((dats m 0 c).arrAt 3 cfg0.N : Vec Ideal S1024x512 .f32) (ix2 R e)
      = outAt (m ((c : Thread nD τ).loc main_arg0)) (m ((c : Thread nD τ).loc main_arg1)) (m ((c : Thread nD τ).loc main_arg2)) R e := by
  refine congrFun (f := (dats m 0 c).arrAt 3 cfg0.N) (g := fun y : S1024x512.Idx =>
    outAt (m ((c : Thread nD τ).loc main_arg0)) (m ((c : Thread nD τ).loc main_arg1)) (m ((c : Thread nD τ).loc main_arg2)) (y 0) (y 1)) ?_ (ix2 R e)
  refine (dats m 0 c).arrAt_eq_of_covers 3 _ (by decide +kernel) fun t hf y => ?_
  blk_simp
  rw [after0_3]
  idx_vars y
  have h0 : (grid0.coords t 0).val < 2 := (grid0.coords t 0).isLt
  have e : (win0_3.blk t).view.emb (ix2 y0 y1) = ix2 ⟨(grid0.coords t 0).val * 512 + y0.val, by omega⟩ y1 := by
    blk_ext [idx t]
  refine Eq.trans ?_ (congrArg (fun i : S1024x512.Idx => outAt (m ((c : Thread nD τ).loc main_arg0)) (m ((c : Thread nD τ).loc main_arg1)) (m ((c : Thread nD τ).loc main_arg2)) (i 0) (i 1)) e).symm
  show _ = outAt _ _ _ ⟨(grid0.coords t 0).val * 512 + y0.val, by omega⟩ y1
  rw [out_at]
  unfold outAt mproj
  have ex : ∀ d : Fin 1024, iblk m c 0 t (ix2 y0 d) = (V m c main_v4 : Vec Ideal S1024x1024 .f32) (ix2 ⟨(grid0.coords t 0).val * 512 + y0.val, by omega⟩ d) := fun d => by
    blk_ext [iblk, idx t]
  have eg : ∀ d : Fin 1024, iblk m c 1 t (ix2 0 d) = (V m c main_v5 : Vec Ideal S1x1024 .f32) (ix2 0 d) := fun d => by
    blk_ext [iblk, idx t]
  have ew : ∀ d : Fin 1024, iblk m c 2 t (ix2 d y1) = (V m c main_v3 : Vec Ideal S1024x512 .bf16) (ix2 d y1) := fun d => by
    blk_ext [iblk, idx t]
  have hx : (fun d => iblk m c 0 t (ix2 y0 d)) = fun d : Fin 1024 => (m ((c : Thread nD τ).loc main_arg0) : Vec Ideal S4x256x1024 .f32)
      (ix3 ⟨((grid0.coords t 0).val * 512 + y0.val) / 256, by omega⟩ ⟨((grid0.coords t 0).val * 512 + y0.val) % 256, by omega⟩ d) :=
    funext fun d => (ex d).trans (by rw [V_v4]; exact x_at _ _ d)
  have hg : (fun d => iblk m c 1 t (ix2 0 d)) = fun d : Fin 1024 => (m ((c : Thread nD τ).loc main_arg1) : Vec Ideal S1024 .f32) (ix1 d) :=
    funext fun d => (eg d).trans (by rw [V_v5]; exact g_at _ d)
  rw [hx, hg]
  refine Finset.sum_congr rfl fun d _ => congrArg₂ (· * ·) rfl ?_
  refine (ew d).trans ?_
  rw [V_v3]
  exact w_at _ d y1

/-- The array as the host code after the region finds it. -/
def outA (c : Dev nD) : Vec Ideal S1024x512 .f32 := (dats m 0 c).arrAt 3 cfg0.N

/-- The region's array as the host code reads it. -/
theorem read_v6 (c : Dev nD) :
    Pipeline.withArrays (cfgs 0).spec c (V0 m c) (fun w => (dats m 0 c).arrAt w (cfgs 0).N) (Proc.tc.devRef main_v6) = outA m c :=
  Pipeline.withArrays_arr spec0 (by decide) c _ _ 3

/-- The gains' array is no array of the region. -/
theorem read_arg3 (c : Dev nD) :
    Pipeline.withArrays (cfgs 0).spec c (V0 m c) (fun w => (dats m 0 c).arrAt w (cfgs 0).N) (Proc.tc.devRef main_arg3) = m ((c : Thread nD τ).loc main_arg3) := by
  rw [Pipeline.withArrays_of_ne spec0 c _ _ main_arg3 (by decide)]
  exact V_main_arg3 m c

/-- The array with batch, position, head, and key or value apart. -/
def apart (A : Vec Ideal S1024x512 .f32) : Vec Ideal S4x256x4x2x64 .f32 := shapeCast S4x256x4x2x64 A shapeCasts_S1024x512_S4x256x4x2x64
/-- The keys before normalisation. -/
def rawKeys (A : Vec Ideal S1024x512 .f32) : Vec Ideal S4x256x4x64 .f32 :=
  shapeCast S4x256x4x64 (extractStridedSlice S4x256x4x1x64 ![0, 0, 0, 0, 0] (apart A) slices_S4x256x4x2x64_S4x256x4x1x64_0_0_0_0_0) shapeCasts_S4x256x4x1x64_S4x256x4x64
/-- The values. -/
def values (A : Vec Ideal S1024x512 .f32) : Vec Ideal S4x256x4x64 .f32 :=
  shapeCast S4x256x4x64 (extractStridedSlice S4x256x4x1x64 ![0, 0, 0, 1, 0] (apart A) slices_S4x256x4x2x64_S4x256x4x1x64_0_0_0_1_0) shapeCasts_S4x256x4x1x64_S4x256x4x64
/-- The normalised keys. -/
def keys (A : Vec Ideal S1024x512 .f32) (q : Vec Ideal S2x64 .f32) : Vec Ideal S4x256x4x64 .f32 :=
  mulf (mulf (rawKeys A) (broadcastInDim S4x256x4x64 ![0, 1, 2, 3] bcast_S4x256x4x1_S4x256x4x64_0_1_2_3
      (Host.rsqrt (addf (Host.divf (broadcastInDim S4x256x4x1 ![0, 1, 2] bcast_S4x256x4_S4x256x4x1_0_1_2
          (Host.reduceAdd (mulf (rawKeys A) (rawKeys A)) (constant (F := Ideal) S_ .f32 0x00000000#32) reducesTo_S4x256x4x64_S4x256x4_d3 h_S_))
        (broadcastInDim S4x256x4x1 ![] bcast_S_S4x256x4x1 (constant (F := Ideal) S_ .f32 0x42800000#32)))
        (broadcastInDim S4x256x4x1 ![] bcast_S_S4x256x4x1 (constant (F := Ideal) S_ .f32 0x358637BD#32))))))
    (broadcastInDim S4x256x4x64 ![0, 1, 2, 3] bcast_S1x1x1x64_S4x256x4x64_0_1_2_3 (broadcastInDim S1x1x1x64 ![3] bcast_S64_S1x1x1x64_3
      (shapeCast S64 (extractStridedSlice S1x64 ![1, 0] q slices_S2x64_S1x64_1_0) shapeCasts_S1x64_S64)))
/-- Keys and values side by side. -/
def memOf (A : Vec Ideal S1024x512 .f32) (q : Vec Ideal S2x64 .f32) : Vec Ideal S4x256x4x2x64 .f32 :=
  concatenate S4x256x4x2x64 3 [⟨S4x256x4x1x64, broadcastInDim S4x256x4x1x64 ![0, 1, 2, 4] bcast_S4x256x4x64_S4x256x4x1x64_0_1_2_4 (keys A q)⟩,
    ⟨S4x256x4x1x64, broadcastInDim S4x256x4x1x64 ![0, 1, 2, 4] bcast_S4x256x4x64_S4x256x4x1x64_0_1_2_4 (values A)⟩] concatenates_S4x256x4x1x64_S4x256x4x1x64_S4x256x4x2x64_d3

/-- The result after the run. -/
theorem tail_v29 (c : Dev nD) : Pipeline.afterTail₀ cfgs (dats m) 0 (V0 m) [hostOps1] c main_v29 = memOf (outA m c) (m ((c : Thread nD τ).loc main_arg3)) := by
  unfold Pipeline.afterTail₀
  simp only [hostOps1, List.flatten_cons, List.flatten_nil, List.append_nil, StableHlo.after_cons, StableHlo.after_nil]
  after_results_simp
  refine congrArg₂ (fun a b => concatenate S4x256x4x2x64 3 [⟨S4x256x4x1x64, a⟩, ⟨S4x256x4x1x64, b⟩] concatenates_S4x256x4x1x64_S4x256x4x1x64_S4x256x4x2x64_d3) ?_ ?_
  · after_results_simp
    rw [read_v6, read_arg3]
    rfl
  · after_results_simp
    rw [read_v6]
    rfl

section At

variable (A : Vec Ideal S1024x512 .f32) (q : Vec Ideal S2x64 .f32) (P : Fin 4 → Fin 256 → Fin 512 → EReal)
    (hA : ∀ b t (h : Fin 4) (j : Fin 2) (d : Fin 64), apart A (ix5 b t h j d) = P b t ⟨j.val * 256 + h.val * 64 + d.val, by omega⟩)
include hA

theorem rawKeys_at (b : Fin 4) (t : Fin 256) (h : Fin 4) (d : Fin 64) : rawKeys A (ix4 b t h d) = P b t ⟨h.val * 64 + d.val, by omega⟩ := by
  pointwise [rawKeys]
  refine (hA _ _ _ _ _).trans (congrArg _ (Fin.ext ?_))
  show 0 * 256 + h.val * 64 + d.val = h.val * 64 + d.val
  omega

theorem values_at (b : Fin 4) (t : Fin 256) (h : Fin 4) (d : Fin 64) : values A (ix4 b t h d) = P b t ⟨256 + h.val * 64 + d.val, by omega⟩ := by
  pointwise [values]
  refine (hA _ _ _ _ _).trans (congrArg _ (Fin.ext ?_))
  show 1 * 256 + h.val * 64 + d.val = 256 + h.val * 64 + d.val
  omega

theorem keys_at (b : Fin 4) (t : Fin 256) (h : Fin 4) (d : Fin 64) :
    keys A q (ix4 b t h d) = key (fun d => P b t ⟨h.val * 64 + d.val, by omega⟩) (fun d => q (ix2 1 d)) d := by
  pointwise [keys]
  simp only [rawKeys_at A P hA]
  rfl

/-- A key or value of the result. -/
theorem memOf_at (b : Fin 4) (t : Fin 256) (h : Fin 4) (j : Fin 2) (d : Fin 64) :
    memOf A q (ix5 b t h j d) = kv (P b t) (fun d => q (ix2 1 d)) h j d := by
  pointwise [memOf]
  unfold kv
  split
  · exact keys_at A q P hA _ _ _ _
  · exact values_at A P hA _ _ _ _

end At

/-- The array's heads and halves are the projection's columns. -/
theorem apart_at (A : Vec Ideal S1024x512 .f32) (b : Fin 4) (t : Fin 256) (h : Fin 4) (j : Fin 2) (d : Fin 64) :
    apart A (ix5 b t h j d) = A (ix2 ⟨b.val * 256 + t.val, by omega⟩ ⟨h.val * 128 + j.val * 64 + d.val, by omega⟩) := by
  pointwise [apart]

/-- The result at an index, from the arguments. -/
theorem mem_at (c : Dev nD) (b : Fin 4) (t : Fin 256) (h : Fin 4) (j : Fin 2) (d : Fin 64) :
    memOf (outA m c) (m ((c : Thread nD τ).loc main_arg3)) (ix5 b t h j d)
      = kv (mproj (fun d => (m ((c : Thread nD τ).loc main_arg0) : Vec Ideal S4x256x1024 .f32) (ix3 b t d)) (fun d => (m ((c : Thread nD τ).loc main_arg1) : Vec Ideal S1024 .f32) (ix1 d))
          (fun d e => (m ((c : Thread nD τ).loc main_arg2) : Vec Ideal S1024x512 .f32) (ix2 d e)))
        (fun d => (m ((c : Thread nD τ).loc main_arg3) : Vec Ideal S2x64 .f32) (ix2 1 d)) h j d := by
  refine memOf_at _ _ (fun b t => mproj (fun d => (m ((c : Thread nD τ).loc main_arg0) : Vec Ideal S4x256x1024 .f32) (ix3 b t d)) (fun d => (m ((c : Thread nD τ).loc main_arg1) : Vec Ideal S1024 .f32) (ix1 d))
          (fun d e => (m ((c : Thread nD τ).loc main_arg2) : Vec Ideal S1024x512 .f32) (ix2 d e))) ?_ b t h j d
  intro b t h j d
  refine (apart_at _ _ _ _ _ _).trans ((arr3 m c _ _).trans ?_)
  unfold outAt
  have e1 : ∀ h1, (⟨(b.val * 256 + t.val) / 256, h1⟩ : Fin 4) = b := fun h1 => Fin.ext (by show (b.val * 256 + t.val) / 256 = b.val; omega)
  have e2 : ∀ h1, (⟨(b.val * 256 + t.val) % 256, h1⟩ : Fin 256) = t := fun h1 => Fin.ext (by show (b.val * 256 + t.val) % 256 = t.val; omega)
  have e3 : ∀ h1 h2, (⟨col (h.val * 128 + j.val * 64 + d.val), h1⟩ : Fin 512) = ⟨j.val * 256 + h.val * 64 + d.val, h2⟩ :=
    fun h1 h2 => Fin.ext (by show col (h.val * 128 + j.val * 64 + d.val) = j.val * 256 + h.val * 64 + d.val; unfold col; omega)
  rw [e1, e2, e3]

end Cert.MemKvIdeal.Att
-- ==== Proof.MemRefVal.lean ====
/- The plain statement of the memory's keys and values, read at an index. -/
module

public import proofs.«01_k».proof.Proof.Gen.MemKvRefIdeal.Read
public import proofs.«01_k».proof.Proof.MemSpec
public import Idealize.ShloMosaic.Lib.Pointwise

@[expose] public section

set_option maxRecDepth 16384

noncomputable section

namespace Cert.MemKvRefIdeal.Att

open Cert.MemKvRefIdeal Cert.MemKvRefIdeal.Gen Cert.MemKvRefIdeal.Read Idealize.ShloMosaic Idealize.ShloMosaic.TcCoe Idealize.SL.Sem
open Cert.ProjSpec Cert.MemSpec

variable (x : Vec Ideal S4x256x1024 .f32) (g : Vec Ideal S1024 .f32) (w : Vec Ideal S1024x512 .f32) (q : Vec Ideal S2x64 .f32)

/-- The row of the projection at a position. -/
def row (b : Fin 4) (t : Fin 256) : Fin 512 → EReal :=
  mproj (fun d => x (ix3 b t d)) (fun d => g (ix1 d)) (fun d e => w (ix2 d e))

theorem v13 (b : Fin 4) (t : Fin 256) (e : Fin 512) : val_main_v13 (F := Ideal) x g w (ix3 b t e) = row x g w b t e := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- The projection split into keys and values and heads. -/
theorem v14 (b : Fin 4) (t : Fin 256) (j : Fin 2) (h : Fin 4) (d : Fin 64) :
    val_main_v14 (F := Ideal) x g w (ix5 b t j h d) = row x g w b t ⟨j.val * 256 + h.val * 64 + d.val, by omega⟩ := by
  pointwise [val_main_v14]
  refine (v13 x g w _ _ _).trans (congrArg _ (Fin.ext ?_))
  simp only []
  try omega

/-- The keys before normalisation. -/
theorem v16 (b : Fin 4) (t : Fin 256) (h : Fin 4) (d : Fin 64) :
    val_main_v16 (F := Ideal) x g w (ix4 b t h d) = row x g w b t ⟨h.val * 64 + d.val, by omega⟩ := by
  pointwise [val_main_v16, val_main_v15]
  refine (v14 x g w _ _ _ _ _).trans (congrArg _ (Fin.ext ?_))
  show 0 * 256 + h.val * 64 + d.val = h.val * 64 + d.val
  omega

/-- The values. -/
theorem v33 (b : Fin 4) (t : Fin 256) (h : Fin 4) (d : Fin 64) :
    val_main_v33 (F := Ideal) x g w (ix4 b t h d) = row x g w b t ⟨256 + h.val * 64 + d.val, by omega⟩ := by
  pointwise [val_main_v33, val_main_v32]
  refine (v14 x g w _ _ _ _ _).trans (congrArg _ (Fin.ext ?_))
  show 1 * 256 + h.val * 64 + d.val = 256 + h.val * 64 + d.val
  omega

/-- The keys, normalised. -/
theorem v31 (b : Fin 4) (t : Fin 256) (h : Fin 4) (d : Fin 64) :
    val_main_v31 (F := Ideal) x g w q (ix4 b t h d) = key (fun d => row x g w b t ⟨h.val * 64 + d.val, by omega⟩) (fun d => q (ix2 1 d)) d := by
  pointwise [val_main_v31, val_main_v30, val_main_v29, val_main_v28, val_main_v27, val_main_v26, val_main_v25, val_main_v24, val_main_v23, val_main_v22, val_main_v21, val_main_v20, val_main_v19, val_main_v18, val_main_v17, val_main_cst_2, val_main_cst_3, val_main_cst_4]
  simp only [v16]
  rfl

/-- The result. -/
theorem v36 (b : Fin 4) (t : Fin 256) (h : Fin 4) (j : Fin 2) (d : Fin 64) :
    val_main_v36 (F := Ideal) x g w q (ix5 b t h j d) = kv (row x g w b t) (fun d => q (ix2 1 d)) h j d := by
  pointwise [val_main_v36, val_main_v35, val_main_v34]
  unfold kv
  split
  · exact v31 x g w q _ _ _ _
  · exact v33 x g w _ _ _ _

end Cert.MemKvRefIdeal.Att
-- ==== Proof.MemClaim.lean ====
/- The claims about the memory's keys and values: their frames, and over the reals the result is the plain statement's. -/
module

public import proofs.«01_k».proof.Defs
public import proofs.«01_k».proof.Proof.Gen.MemKv.Frame
public import proofs.«01_k».proof.Proof.Gen.MemKvRefIdeal.Run
public import proofs.«01_k».proof.Proof.MemKernel
public import proofs.«01_k».proof.Proof.MemRefVal
public import Idealize.ShloMosaic.Adequacy
public import Idealize.ShloMosaic.Init

@[expose] public section

set_option maxRecDepth 16384

noncomputable section

namespace Cert.Proof.MemClaims

open Idealize.ShloMosaic Idealize.ShloMosaic.TcCoe Idealize.SL.Sem

/-- The kernel at machine precision stays within its memory and changes no argument. -/
theorem frame : Cert.quiescent_MemKv := fun m ρ _ => Cert.MemKv.Gen.frame m ρ
/-- So does the kernel over the reals. -/
theorem frame_ideal : Cert.quiescent_MemKvIdeal := fun m ρ _ => Cert.MemKvIdeal.Gen.frame m ρ

/-- The plain statement's run changes no argument; it declares no semaphore. -/
theorem frame_ref : Cert.quiescent_MemKvRefIdeal := fun m ρ _ =>
  (θ_run Cert.MemKvRefIdeal.defs _ _).mono (fun r h => ⟨fun c => (h c).2,
      Idealize.ShloMosaic.sem_eq_zero_of_no_sems (by decide) r.2⟩)
    (Cert.MemKvRefIdeal.Value.run (F := Ideal) m ρ)

/-- Nothing was rewritten. -/
theorem preserves : Cert.preserves_MemKv_MemKvIdeal := trivial

open Cert.MemKvIdeal Cert.MemKvIdeal.Gen Cert.MemKvIdeal.Att in
/-- The kernel's run over the reals: its result as the host code leaves it, its arguments unchanged. -/
theorem run_results (m : (ℓ : Loc nD τ sig) → Buf (Elt Ideal) ℓ) (ρ) :
    θ_run defs (onTc (τ := τ) (main (F := Ideal))) ⟨m, fun _ => 0, ρ⟩ (fun r => ∀ c : Dev nD,
      r.2.mem ((c.tc : Thread nD τ).loc main_v29) = memOf (outA m c) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v29 (Pipeline.mem_restRefs_of main_v29 (by decide) (by decide))).trans (tail_v29 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩) (run_main m ρ)

/-- Over the reals kernel and plain statement end with the same keys and values. -/
theorem algebraic : Cert.algebraic_MemKvIdeal_MemKvRefIdeal := by
  intro m ρ m' ρ' hpre hagree
  refine ⟨_, run_results m ρ, ?_⟩
  refine (θ_run Cert.MemKvRefIdeal.defs _ _).mono (fun r h c => ⟨(h c).1.trans ?_, (h c).2⟩)
    (Cert.MemKvRefIdeal.Value.run (F := Ideal) m' ρ')
  rw [Cert.MemKvRefIdeal.Read.val_main_v36_eq, (hagree c).1, (hagree c).2.1, (hagree c).2.2.1, (hagree c).2.2.2]
  funext i
  idx_vars i
  exact (Cert.MemKvRefIdeal.Att.v36 _ _ _ _ _ _ _ _ _).trans (Cert.MemKvIdeal.Att.mem_at m c _ _ _ _ _).symm

end Cert.Proof.MemClaims
-- ==== Proof.OutSpec.lean ====
/- The output projection at one position: the four mixers' outputs, gated, against the weights, added to the input. -/
module

public import Idealize.ShloMosaic.Lib.Pointwise

@[expose] public section

noncomputable section

namespace Cert.OutSpec

open Idealize.ShloMosaic

/-- The gate `z · σ(z)`. -/
def silu (z : EReal) : EReal := z * Ideal.logistic z

/-- Column `r` of the three branches' outputs `a`, `b`, `c`, each scaled by its head's gate in the packed row `p`. -/
def mix (p : Fin 4480 → EReal) (a b c : Fin 256 → EReal) (r : Fin 256) : EReal :=
  Ideal.logistic (p ⟨4352 + r.val / 64, by omega⟩) * a r + Ideal.logistic (p ⟨4356 + r.val / 64, by omega⟩) * b r
    + Ideal.logistic (p ⟨4360 + r.val / 64, by omega⟩) * c r

/-- The four mixers' gated outputs. -/
def parts (p : Fin 4480 → EReal) (ym yr a b c o : Fin 256 → EReal) : Fin 4 → Fin 256 → EReal :=
  ![ym, fun r => mix p a b c r * silu (p ⟨2304 + r.val, by omega⟩), yr, fun r => o r * silu (p ⟨3840 + r.val, by omega⟩)]

/-- One element of the output: the input plus the four mixers' products with their rows of the weights. -/
def outAt (x : EReal) (h : Fin 4 → Fin 256 → EReal) (w : Fin 1024 → EReal) : EReal :=
  x + ∑ q : Fin 4, ∑ r : Fin 256, h q r * w ⟨q.val * 256 + r.val, by omega⟩

/-- A sum over 1024 rows is a sum over four groups of 256. -/
theorem sum_blocks (f : Fin 1024 → EReal) : ∑ d, f d = ∑ q : Fin 4, ∑ r : Fin 256, f ⟨q.val * 256 + r.val, by omega⟩ := by
  rw [← Fintype.sum_prod_type']
  refine (Fintype.sum_equiv (finProdFinEquiv (m := 4) (n := 256)) _ _ fun x => ?_).symm
  congr 1
  apply Fin.ext
  show x.1.val * 256 + x.2.val = (finProdFinEquiv x).val
  rw [finProdFinEquiv_apply_val]
  ring

/-- A logistic value is a real number. -/
theorem logistic_real (x : EReal) : ∃ r : ℝ, Ideal.logistic x = (r : EReal) := by
  induction x with
  | bot => exact ⟨0, by simp⟩
  | coe r => exact ⟨_, Ideal.logistic_coe r⟩
  | top => exact ⟨1, by simp⟩

/-- A logistic value less itself is zero. -/
theorem logistic_sub (x : EReal) : Ideal.logistic x - Ideal.logistic x = 0 := by
  obtain ⟨r, h⟩ := logistic_real x
  rw [h, ← EReal.coe_sub, sub_self, EReal.coe_zero]

/-- A sum against a row that is one at `k` and zero elsewhere reads the summand at `k`. -/
theorem one_hot (f : Fin 128 → EReal) (k : ℕ) (hk : k < 128) : ∑ n : Fin 128, f n * (if n.val = k then (1 : EReal) else 0) = f ⟨k, hk⟩ := by
  rw [Finset.sum_eq_single (⟨k, hk⟩ : Fin 128)]
  · rw [if_pos rfl, mul_one]
  · intro b _ hb
    rw [if_neg (fun h => hb (Fin.ext h)), mul_zero]
  · intro h
    exact absurd (Finset.mem_univ _) h

/-- Logistic values split into a leading part and two remainders, the remainders zero, against such a row. -/
theorem split_one_hot (f : Fin 128 → EReal) (e : Fin 128 → EReal) (k : ℕ) (hk : k < 128) (he : ∀ n : Fin 128, e n = if n.val = k then (1 : EReal) else 0) :
    ∑ n, Ideal.logistic (f n) * e n + (∑ n, (Ideal.logistic (f n) - Ideal.logistic (f n)) * e n
      + ∑ n, ((Ideal.logistic (f n) - Ideal.logistic (f n)) - (Ideal.logistic (f n) - Ideal.logistic (f n))) * e n) = Ideal.logistic (f ⟨k, hk⟩) := by
  simp only [logistic_sub, sub_zero, zero_mul, Finset.sum_const_zero, add_zero, he]
  exact one_hot (fun n => Ideal.logistic (f n)) k hk

end Cert.OutSpec
-- ==== Proof.Gate0.lean ====
/- Rows of the gate expansion matrix that the output projection spells out as a literal. -/
module

public import proofs.«01_k».proof.ProjOutIdeal

@[expose] public section

set_option maxRecDepth 16384
set_option Elab.async false

noncomputable section

namespace Cert.ProjOutIdeal.Att

open Cert.ProjOutIdeal Idealize.ShloMosaic

/-- Entries of four rows: one where the row is the gate of the column's branch and head, else zero. -/
theorem gate_rows0 : ∀ (n : Fin 4) (o : Fin 768), lit0 ⟨(0 + n.val) * 768 + o.val, by omega⟩
    = if 0 + n.val = o.val / 256 * 4 + o.val % 256 / 64 then 0x3F80#16 else 0#16 := by
  decide +kernel

/-- Entries of four rows: one where the row is the gate of the column's branch and head, else zero. -/
theorem gate_rows1 : ∀ (n : Fin 4) (o : Fin 768), lit0 ⟨(4 + n.val) * 768 + o.val, by omega⟩
    = if 4 + n.val = o.val / 256 * 4 + o.val % 256 / 64 then 0x3F80#16 else 0#16 := by
  decide +kernel

/-- Entries of four rows: one where the row is the gate of the column's branch and head, else zero. -/
theorem gate_rows2 : ∀ (n : Fin 4) (o : Fin 768), lit0 ⟨(8 + n.val) * 768 + o.val, by omega⟩
    = if 8 + n.val = o.val / 256 * 4 + o.val % 256 / 64 then 0x3F80#16 else 0#16 := by
  decide +kernel

/-- Entries of four rows: one where the row is the gate of the column's branch and head, else zero. -/
theorem gate_rows3 : ∀ (n : Fin 4) (o : Fin 768), lit0 ⟨(12 + n.val) * 768 + o.val, by omega⟩
    = if 12 + n.val = o.val / 256 * 4 + o.val % 256 / 64 then 0x3F80#16 else 0#16 := by
  decide +kernel

end Cert.ProjOutIdeal.Att
-- ==== Proof.Gate1.lean ====
/- Rows of the gate expansion matrix that the output projection spells out as a literal. -/
module

public import proofs.«01_k».proof.ProjOutIdeal

@[expose] public section

set_option maxRecDepth 16384
set_option Elab.async false

noncomputable section

namespace Cert.ProjOutIdeal.Att

open Cert.ProjOutIdeal Idealize.ShloMosaic

/-- Entries of four rows: one where the row is the gate of the column's branch and head, else zero. -/
theorem gate_rows4 : ∀ (n : Fin 4) (o : Fin 768), lit0 ⟨(16 + n.val) * 768 + o.val, by omega⟩
    = if 16 + n.val = o.val / 256 * 4 + o.val % 256 / 64 then 0x3F80#16 else 0#16 := by
  decide +kernel

/-- Entries of four rows: one where the row is the gate of the column's branch and head, else zero. -/
theorem gate_rows5 : ∀ (n : Fin 4) (o : Fin 768), lit0 ⟨(20 + n.val) * 768 + o.val, by omega⟩
    = if 20 + n.val = o.val / 256 * 4 + o.val % 256 / 64 then 0x3F80#16 else 0#16 := by
  decide +kernel

/-- Entries of four rows: one where the row is the gate of the column's branch and head, else zero. -/
theorem gate_rows6 : ∀ (n : Fin 4) (o : Fin 768), lit0 ⟨(24 + n.val) * 768 + o.val, by omega⟩
    = if 24 + n.val = o.val / 256 * 4 + o.val % 256 / 64 then 0x3F80#16 else 0#16 := by
  decide +kernel

/-- Entries of four rows: one where the row is the gate of the column's branch and head, else zero. -/
theorem gate_rows7 : ∀ (n : Fin 4) (o : Fin 768), lit0 ⟨(28 + n.val) * 768 + o.val, by omega⟩
    = if 28 + n.val = o.val / 256 * 4 + o.val % 256 / 64 then 0x3F80#16 else 0#16 := by
  decide +kernel

end Cert.ProjOutIdeal.Att
-- ==== Proof.Gate2.lean ====
/- Rows of the gate expansion matrix that the output projection spells out as a literal. -/
module

public import proofs.«01_k».proof.ProjOutIdeal

@[expose] public section

set_option maxRecDepth 16384
set_option Elab.async false

noncomputable section

namespace Cert.ProjOutIdeal.Att

open Cert.ProjOutIdeal Idealize.ShloMosaic

/-- Entries of four rows: one where the row is the gate of the column's branch and head, else zero. -/
theorem gate_rows8 : ∀ (n : Fin 4) (o : Fin 768), lit0 ⟨(32 + n.val) * 768 + o.val, by omega⟩
    = if 32 + n.val = o.val / 256 * 4 + o.val % 256 / 64 then 0x3F80#16 else 0#16 := by
  decide +kernel

/-- Entries of four rows: one where the row is the gate of the column's branch and head, else zero. -/
theorem gate_rows9 : ∀ (n : Fin 4) (o : Fin 768), lit0 ⟨(36 + n.val) * 768 + o.val, by omega⟩
    = if 36 + n.val = o.val / 256 * 4 + o.val % 256 / 64 then 0x3F80#16 else 0#16 := by
  decide +kernel

/-- Entries of four rows: one where the row is the gate of the column's branch and head, else zero. -/
theorem gate_rows10 : ∀ (n : Fin 4) (o : Fin 768), lit0 ⟨(40 + n.val) * 768 + o.val, by omega⟩
    = if 40 + n.val = o.val / 256 * 4 + o.val % 256 / 64 then 0x3F80#16 else 0#16 := by
  decide +kernel

/-- Entries of four rows: one where the row is the gate of the column's branch and head, else zero. -/
theorem gate_rows11 : ∀ (n : Fin 4) (o : Fin 768), lit0 ⟨(44 + n.val) * 768 + o.val, by omega⟩
    = if 44 + n.val = o.val / 256 * 4 + o.val % 256 / 64 then 0x3F80#16 else 0#16 := by
  decide +kernel

end Cert.ProjOutIdeal.Att
-- ==== Proof.Gate3.lean ====
/- Rows of the gate expansion matrix that the output projection spells out as a literal. -/
module

public import proofs.«01_k».proof.ProjOutIdeal

@[expose] public section

set_option maxRecDepth 16384
set_option Elab.async false

noncomputable section

namespace Cert.ProjOutIdeal.Att

open Cert.ProjOutIdeal Idealize.ShloMosaic

/-- Entries of four rows: one where the row is the gate of the column's branch and head, else zero. -/
theorem gate_rows12 : ∀ (n : Fin 4) (o : Fin 768), lit0 ⟨(48 + n.val) * 768 + o.val, by omega⟩
    = if 48 + n.val = o.val / 256 * 4 + o.val % 256 / 64 then 0x3F80#16 else 0#16 := by
  decide +kernel

/-- Entries of four rows: one where the row is the gate of the column's branch and head, else zero. -/
theorem gate_rows13 : ∀ (n : Fin 4) (o : Fin 768), lit0 ⟨(52 + n.val) * 768 + o.val, by omega⟩
    = if 52 + n.val = o.val / 256 * 4 + o.val % 256 / 64 then 0x3F80#16 else 0#16 := by
  decide +kernel

/-- Entries of four rows: one where the row is the gate of the column's branch and head, else zero. -/
theorem gate_rows14 : ∀ (n : Fin 4) (o : Fin 768), lit0 ⟨(56 + n.val) * 768 + o.val, by omega⟩
    = if 56 + n.val = o.val / 256 * 4 + o.val % 256 / 64 then 0x3F80#16 else 0#16 := by
  decide +kernel

/-- Entries of four rows: one where the row is the gate of the column's branch and head, else zero. -/
theorem gate_rows15 : ∀ (n : Fin 4) (o : Fin 768), lit0 ⟨(60 + n.val) * 768 + o.val, by omega⟩
    = if 60 + n.val = o.val / 256 * 4 + o.val % 256 / 64 then 0x3F80#16 else 0#16 := by
  decide +kernel

end Cert.ProjOutIdeal.Att
-- ==== Proof.Gate4.lean ====
/- Rows of the gate expansion matrix that the output projection spells out as a literal. -/
module

public import proofs.«01_k».proof.ProjOutIdeal

@[expose] public section

set_option maxRecDepth 16384
set_option Elab.async false

noncomputable section

namespace Cert.ProjOutIdeal.Att

open Cert.ProjOutIdeal Idealize.ShloMosaic

/-- Entries of four rows: one where the row is the gate of the column's branch and head, else zero. -/
theorem gate_rows16 : ∀ (n : Fin 4) (o : Fin 768), lit0 ⟨(64 + n.val) * 768 + o.val, by omega⟩
    = if 64 + n.val = o.val / 256 * 4 + o.val % 256 / 64 then 0x3F80#16 else 0#16 := by
  decide +kernel

/-- Entries of four rows: one where the row is the gate of the column's branch and head, else zero. -/
theorem gate_rows17 : ∀ (n : Fin 4) (o : Fin 768), lit0 ⟨(68 + n.val) * 768 + o.val, by omega⟩
    = if 68 + n.val = o.val / 256 * 4 + o.val % 256 / 64 then 0x3F80#16 else 0#16 := by
  decide +kernel

/-- Entries of four rows: one where the row is the gate of the column's branch and head, else zero. -/
theorem gate_rows18 : ∀ (n : Fin 4) (o : Fin 768), lit0 ⟨(72 + n.val) * 768 + o.val, by omega⟩
    = if 72 + n.val = o.val / 256 * 4 + o.val % 256 / 64 then 0x3F80#16 else 0#16 := by
  decide +kernel

/-- Entries of four rows: one where the row is the gate of the column's branch and head, else zero. -/
theorem gate_rows19 : ∀ (n : Fin 4) (o : Fin 768), lit0 ⟨(76 + n.val) * 768 + o.val, by omega⟩
    = if 76 + n.val = o.val / 256 * 4 + o.val % 256 / 64 then 0x3F80#16 else 0#16 := by
  decide +kernel

end Cert.ProjOutIdeal.Att
-- ==== Proof.Gate5.lean ====
/- Rows of the gate expansion matrix that the output projection spells out as a literal. -/
module

public import proofs.«01_k».proof.ProjOutIdeal

@[expose] public section

set_option maxRecDepth 16384
set_option Elab.async false

noncomputable section

namespace Cert.ProjOutIdeal.Att

open Cert.ProjOutIdeal Idealize.ShloMosaic

/-- Entries of four rows: one where the row is the gate of the column's branch and head, else zero. -/
theorem gate_rows20 : ∀ (n : Fin 4) (o : Fin 768), lit0 ⟨(80 + n.val) * 768 + o.val, by omega⟩
    = if 80 + n.val = o.val / 256 * 4 + o.val % 256 / 64 then 0x3F80#16 else 0#16 := by
  decide +kernel

/-- Entries of four rows: one where the row is the gate of the column's branch and head, else zero. -/
theorem gate_rows21 : ∀ (n : Fin 4) (o : Fin 768), lit0 ⟨(84 + n.val) * 768 + o.val, by omega⟩
    = if 84 + n.val = o.val / 256 * 4 + o.val % 256 / 64 then 0x3F80#16 else 0#16 := by
  decide +kernel

/-- Entries of four rows: one where the row is the gate of the column's branch and head, else zero. -/
theorem gate_rows22 : ∀ (n : Fin 4) (o : Fin 768), lit0 ⟨(88 + n.val) * 768 + o.val, by omega⟩
    = if 88 + n.val = o.val / 256 * 4 + o.val % 256 / 64 then 0x3F80#16 else 0#16 := by
  decide +kernel

/-- Entries of four rows: one where the row is the gate of the column's branch and head, else zero. -/
theorem gate_rows23 : ∀ (n : Fin 4) (o : Fin 768), lit0 ⟨(92 + n.val) * 768 + o.val, by omega⟩
    = if 92 + n.val = o.val / 256 * 4 + o.val % 256 / 64 then 0x3F80#16 else 0#16 := by
  decide +kernel

end Cert.ProjOutIdeal.Att
-- ==== Proof.Gate6.lean ====
/- Rows of the gate expansion matrix that the output projection spells out as a literal. -/
module

public import proofs.«01_k».proof.ProjOutIdeal

@[expose] public section

set_option maxRecDepth 16384
set_option Elab.async false

noncomputable section

namespace Cert.ProjOutIdeal.Att

open Cert.ProjOutIdeal Idealize.ShloMosaic

/-- Entries of four rows: one where the row is the gate of the column's branch and head, else zero. -/
theorem gate_rows24 : ∀ (n : Fin 4) (o : Fin 768), lit0 ⟨(96 + n.val) * 768 + o.val, by omega⟩
    = if 96 + n.val = o.val / 256 * 4 + o.val % 256 / 64 then 0x3F80#16 else 0#16 := by
  decide +kernel

/-- Entries of four rows: one where the row is the gate of the column's branch and head, else zero. -/
theorem gate_rows25 : ∀ (n : Fin 4) (o : Fin 768), lit0 ⟨(100 + n.val) * 768 + o.val, by omega⟩
    = if 100 + n.val = o.val / 256 * 4 + o.val % 256 / 64 then 0x3F80#16 else 0#16 := by
  decide +kernel

/-- Entries of four rows: one where the row is the gate of the column's branch and head, else zero. -/
theorem gate_rows26 : ∀ (n : Fin 4) (o : Fin 768), lit0 ⟨(104 + n.val) * 768 + o.val, by omega⟩
    = if 104 + n.val = o.val / 256 * 4 + o.val % 256 / 64 then 0x3F80#16 else 0#16 := by
  decide +kernel

/-- Entries of four rows: one where the row is the gate of the column's branch and head, else zero. -/
theorem gate_rows27 : ∀ (n : Fin 4) (o : Fin 768), lit0 ⟨(108 + n.val) * 768 + o.val, by omega⟩
    = if 108 + n.val = o.val / 256 * 4 + o.val % 256 / 64 then 0x3F80#16 else 0#16 := by
  decide +kernel

end Cert.ProjOutIdeal.Att
-- ==== Proof.Gate7.lean ====
/- Rows of the gate expansion matrix that the output projection spells out as a literal. -/
module

public import proofs.«01_k».proof.ProjOutIdeal

@[expose] public section

set_option maxRecDepth 16384
set_option Elab.async false

noncomputable section

namespace Cert.ProjOutIdeal.Att

open Cert.ProjOutIdeal Idealize.ShloMosaic

/-- Entries of four rows: one where the row is the gate of the column's branch and head, else zero. -/
theorem gate_rows28 : ∀ (n : Fin 4) (o : Fin 768), lit0 ⟨(112 + n.val) * 768 + o.val, by omega⟩
    = if 112 + n.val = o.val / 256 * 4 + o.val % 256 / 64 then 0x3F80#16 else 0#16 := by
  decide +kernel

/-- Entries of four rows: one where the row is the gate of the column's branch and head, else zero. -/
theorem gate_rows29 : ∀ (n : Fin 4) (o : Fin 768), lit0 ⟨(116 + n.val) * 768 + o.val, by omega⟩
    = if 116 + n.val = o.val / 256 * 4 + o.val % 256 / 64 then 0x3F80#16 else 0#16 := by
  decide +kernel

/-- Entries of four rows: one where the row is the gate of the column's branch and head, else zero. -/
theorem gate_rows30 : ∀ (n : Fin 4) (o : Fin 768), lit0 ⟨(120 + n.val) * 768 + o.val, by omega⟩
    = if 120 + n.val = o.val / 256 * 4 + o.val % 256 / 64 then 0x3F80#16 else 0#16 := by
  decide +kernel

/-- Entries of four rows: one where the row is the gate of the column's branch and head, else zero. -/
theorem gate_rows31 : ∀ (n : Fin 4) (o : Fin 768), lit0 ⟨(124 + n.val) * 768 + o.val, by omega⟩
    = if 124 + n.val = o.val / 256 * 4 + o.val % 256 / 64 then 0x3F80#16 else 0#16 := by
  decide +kernel

end Cert.ProjOutIdeal.Att
-- ==== Proof.Gate.lean ====
/- The entries of the gate expansion matrix that the output projection spells out as a literal. -/
module

public import proofs.«01_k».proof.Proof.OutSpec
public import proofs.«01_k».proof.Proof.Gate0
public import proofs.«01_k».proof.Proof.Gate1
public import proofs.«01_k».proof.Proof.Gate2
public import proofs.«01_k».proof.Proof.Gate3
public import proofs.«01_k».proof.Proof.Gate4
public import proofs.«01_k».proof.Proof.Gate5
public import proofs.«01_k».proof.Proof.Gate6
public import proofs.«01_k».proof.Proof.Gate7

@[expose] public section

set_option maxRecDepth 16384

noncomputable section

namespace Cert.ProjOutIdeal.Att

open Cert.ProjOutIdeal Idealize.ShloMosaic Idealize.ShloMosaic.TcCoe Idealize.SL.Sem

/-- Entry `(n, o)` is one where lane `n` is the gate of column `o`'s branch and head, else zero. -/
theorem gate_eq : ∀ (n : Fin 128) (o : Fin 768), lit0 ⟨n.val * 768 + o.val, by omega⟩
    = if n.val = o.val / 256 * 4 + o.val % 256 / 64 then 0x3F80#16 else 0#16 := by
  intro n o
  obtain ⟨n, hn⟩ := n
  have key : ∀ k r : ℕ, ∀ _ : k < 32, ∀ hr : r < 4, lit0 ⟨(k * 4 + r) * 768 + o.val, by omega⟩
      = if k * 4 + r = o.val / 256 * 4 + o.val % 256 / 64 then 0x3F80#16 else 0#16 := by
    intro k r hk hr
    interval_cases k
    · have h := gate_rows0 ⟨r, hr⟩ o
      revert h; generalize lit0 = L; intro h; exact h
    · have h := gate_rows1 ⟨r, hr⟩ o
      revert h; generalize lit0 = L; intro h; exact h
    · have h := gate_rows2 ⟨r, hr⟩ o
      revert h; generalize lit0 = L; intro h; exact h
    · have h := gate_rows3 ⟨r, hr⟩ o
      revert h; generalize lit0 = L; intro h; exact h
    · have h := gate_rows4 ⟨r, hr⟩ o
      revert h; generalize lit0 = L; intro h; exact h
    · have h := gate_rows5 ⟨r, hr⟩ o
      revert h; generalize lit0 = L; intro h; exact h
    · have h := gate_rows6 ⟨r, hr⟩ o
      revert h; generalize lit0 = L; intro h; exact h
    · have h := gate_rows7 ⟨r, hr⟩ o
      revert h; generalize lit0 = L; intro h; exact h
    · have h := gate_rows8 ⟨r, hr⟩ o
      revert h; generalize lit0 = L; intro h; exact h
    · have h := gate_rows9 ⟨r, hr⟩ o
      revert h; generalize lit0 = L; intro h; exact h
    · have h := gate_rows10 ⟨r, hr⟩ o
      revert h; generalize lit0 = L; intro h; exact h
    · have h := gate_rows11 ⟨r, hr⟩ o
      revert h; generalize lit0 = L; intro h; exact h
    · have h := gate_rows12 ⟨r, hr⟩ o
      revert h; generalize lit0 = L; intro h; exact h
    · have h := gate_rows13 ⟨r, hr⟩ o
      revert h; generalize lit0 = L; intro h; exact h
    · have h := gate_rows14 ⟨r, hr⟩ o
      revert h; generalize lit0 = L; intro h; exact h
    · have h := gate_rows15 ⟨r, hr⟩ o
      revert h; generalize lit0 = L; intro h; exact h
    · have h := gate_rows16 ⟨r, hr⟩ o
      revert h; generalize lit0 = L; intro h; exact h
    · have h := gate_rows17 ⟨r, hr⟩ o
      revert h; generalize lit0 = L; intro h; exact h
    · have h := gate_rows18 ⟨r, hr⟩ o
      revert h; generalize lit0 = L; intro h; exact h
    · have h := gate_rows19 ⟨r, hr⟩ o
      revert h; generalize lit0 = L; intro h; exact h
    · have h := gate_rows20 ⟨r, hr⟩ o
      revert h; generalize lit0 = L; intro h; exact h
    · have h := gate_rows21 ⟨r, hr⟩ o
      revert h; generalize lit0 = L; intro h; exact h
    · have h := gate_rows22 ⟨r, hr⟩ o
      revert h; generalize lit0 = L; intro h; exact h
    · have h := gate_rows23 ⟨r, hr⟩ o
      revert h; generalize lit0 = L; intro h; exact h
    · have h := gate_rows24 ⟨r, hr⟩ o
      revert h; generalize lit0 = L; intro h; exact h
    · have h := gate_rows25 ⟨r, hr⟩ o
      revert h; generalize lit0 = L; intro h; exact h
    · have h := gate_rows26 ⟨r, hr⟩ o
      revert h; generalize lit0 = L; intro h; exact h
    · have h := gate_rows27 ⟨r, hr⟩ o
      revert h; generalize lit0 = L; intro h; exact h
    · have h := gate_rows28 ⟨r, hr⟩ o
      revert h; generalize lit0 = L; intro h; exact h
    · have h := gate_rows29 ⟨r, hr⟩ o
      revert h; generalize lit0 = L; intro h; exact h
    · have h := gate_rows30 ⟨r, hr⟩ o
      revert h; generalize lit0 = L; intro h; exact h
    · have h := gate_rows31 ⟨r, hr⟩ o
      revert h; generalize lit0 = L; intro h; exact h
  have e : n = n / 4 * 4 + n % 4 := by omega
  have h := key (n / 4) (n % 4) (by omega) (by omega)
  revert h; generalize lit0 = L; intro h
  simp only [← e] at h
  exact h

/-- The literal, read over the reals. -/
theorem gate_ideal (n : Fin 128) (o : Fin 768) : Ideal.ofBits .bf16 (lit0 ⟨n.val * 768 + o.val, by omega⟩)
    = if n.val = o.val / 256 * 4 + o.val % 256 / 64 then (1 : EReal) else 0 := by
  rw [gate_eq]
  split
  · have h : ¬ ((0x3F80#16 : BitVec 16).extractLsb' 15 1 = 1#1) := by decide
    simp only [Ideal.ofBits, Ideal.ieee]
    norm_num [Nat.shiftRight_eq_div_pow, h]
  · simp only [Ideal.ofBits, Ideal.ieee]; norm_num

end Cert.ProjOutIdeal.Att
-- ==== Proof.OutPay.lean ====
/- The output projection kernel's payloads, read at an index. -/
module

public import proofs.«01_k».proof.Proof.Gen.ProjOutIdeal.Frame
public import proofs.«01_k».proof.Proof.OutSpec
public import Idealize.ShloMosaic.Lib.Pointwise
public import Idealize.ShloMosaic.Lib.Pipeline.ValueKit

@[expose] public section

set_option maxRecDepth 16384

noncomputable section

namespace Cert.ProjOutIdeal.Att

open Cert.ProjOutIdeal Cert.ProjOutIdeal.Gen Idealize.ShloMosaic Idealize.ShloMosaic.TcCoe Idealize.SL.Sem
open Cert.OutSpec

/-- The input plus the four products. -/
theorem pay1_at (v32 v38 : FVec Ideal S512x256 .f32) (v39 : Vec Ideal S512x1024 .f32) (v41 v43 : Vec Ideal S512x256 .f32)
    (w0 w1 w2 w3 : Vec Ideal S256x1024 .bf16) (r : Fin 512) (j : Fin 1024) :
    k0_pay1 (F := Ideal) v32 v38 v39 v41 v43 w0 w1 w2 w3 (ix2 r j)
      = (v39 (ix2 r j) + ∑ d : Fin 256, v41 (ix2 r d) * w0 (ix2 d j) + ∑ d : Fin 256, v32 (ix2 r d) * w1 (ix2 d j)
        + ∑ d : Fin 256, v43 (ix2 r d) * w2 (ix2 d j) + ∑ d : Fin 256, v38 (ix2 r d) * w3 (ix2 d j) : EReal) := by
  pointwise [k0_pay1]

/-- The three branches gated head by head, times the gate of the branch mixer. -/
theorem pay2_at (g : Vec Ideal S512x128 .f32) (E : Vec Ideal S128x768 .bf16) (A B C Z : Vec Ideal S512x256 .f32)
    (hE : ∀ (n : Fin 128) (o : Fin 768), E (ix2 n o) = if n.val = o.val / 256 * 4 + o.val % 256 / 64 then (1 : EReal) else 0) (r : Fin 512) (k : Fin 256) :
    k0_pay2 (F := Ideal) g E A B C Z (ix2 r k)
      = ((Ideal.logistic (g (ix2 r ⟨k.val / 64, by omega⟩)) * A (ix2 r k) + Ideal.logistic (g (ix2 r ⟨4 + k.val / 64, by omega⟩)) * B (ix2 r k)
        + Ideal.logistic (g (ix2 r ⟨8 + k.val / 64, by omega⟩)) * C (ix2 r k)) * silu (Z (ix2 r k)) : EReal) := by
  pointwise [k0_pay2]
  rw [split_one_hot (fun n => g (ix2 r n)) (fun n => E (ix2 n ⟨k.val, by omega⟩)) (k.val / 64) (by omega) (fun n => (hE n _).trans (by
      have e : k.val / 256 * 4 + k.val % 256 / 64 = k.val / 64 := by omega
      show (if n.val = k.val / 256 * 4 + k.val % 256 / 64 then (1 : EReal) else 0) = _
      rw [e])),
    split_one_hot (fun n => g (ix2 r n)) (fun n => E (ix2 n ⟨256 + k.val, by omega⟩)) (4 + k.val / 64) (by omega) (fun n => (hE n _).trans (by
      have e : (256 + k.val) / 256 * 4 + (256 + k.val) % 256 / 64 = 4 + k.val / 64 := by omega
      show (if n.val = (256 + k.val) / 256 * 4 + (256 + k.val) % 256 / 64 then (1 : EReal) else 0) = _
      rw [e])),
    split_one_hot (fun n => g (ix2 r n)) (fun n => E (ix2 n ⟨512 + k.val, by omega⟩)) (8 + k.val / 64) (by omega) (fun n => (hE n _).trans (by
      have e : (512 + k.val) / 256 * 4 + (512 + k.val) % 256 / 64 = 8 + k.val / 64 := by omega
      show (if n.val = (512 + k.val) / 256 * 4 + (512 + k.val) % 256 / 64 then (1 : EReal) else 0) = _
      rw [e]))]
  rfl

/-- The memory branch gated. -/
theorem pay3_at (A Z : Vec Ideal S512x256 .f32) (r : Fin 512) (k : Fin 256) :
    k0_pay3 (F := Ideal) A Z (ix2 r k) = (A (ix2 r k) * silu (Z (ix2 r k)) : EReal) := by
  pointwise [k0_pay3]
  rfl

end Cert.ProjOutIdeal.Att
-- ==== Proof.OutKernel.lean ====
/- The output projection kernel's result array after the run, as a function of its argument arrays. -/
module

public import proofs.«01_k».proof.Proof.Gate
public import proofs.«01_k».proof.Proof.OutPay
public import Idealize.ShloMosaic.Lib.Pipeline.ValueKit

@[expose] public section

set_option maxRecDepth 16384

noncomputable section

namespace Cert.ProjOutIdeal.Att

open Cert.ProjOutIdeal Cert.ProjOutIdeal.Gen Idealize.ShloMosaic Idealize.ShloMosaic.TcCoe Idealize.SL.Sem
open Cert.OutSpec

variable (m : (ℓ : Loc nD τ sig) → Buf (Elt Ideal) ℓ)

/-- The index maps of the windows. -/
theorem idx : ∀ t : Fin cfg0.N,
    win0_0.index t = ![(grid0.coords t 0).val, 0] ∧ win0_1.index t = ![(grid0.coords t 0).val, 0] ∧ win0_2.index t = ![(grid0.coords t 0).val, 0]
    ∧ win0_3.index t = ![(grid0.coords t 0).val, 0] ∧ win0_4.index t = ![(grid0.coords t 0).val, 0] ∧ win0_5.index t = ![(grid0.coords t 0).val, 0]
    ∧ win0_6.index t = ![(grid0.coords t 0).val, 0] ∧ win0_7.index t = ![(grid0.coords t 0).val, 34] ∧ win0_8.index t = ![(grid0.coords t 0).val, 9]
    ∧ win0_9.index t = ![(grid0.coords t 0).val, 15] ∧ win0_10.index t = ![0, 0] ∧ win0_11.index t = ![0, 0]
    ∧ win0_12.index t = ![(grid0.coords t 0).val, 0] :=
  (by decide +kernel : ∀ t : Fin grid0.N, _)

/-- A mixer's output, read with sequences and positions in one axis. -/
theorem cast_at (X : Vec Ideal S4x4096x256 .f32) (R : Fin 16384) (d : Fin 256) :
    shapeCast S16384x256 X shapeCasts_S4x4096x256_S16384x256 (ix2 R d) = X (ix3 ⟨R.val / 4096, by omega⟩ ⟨R.val % 4096, by omega⟩ d) := by
  pointwise []

/-- The input, read with sequences and positions in one axis. -/
theorem castx_at (X : Vec Ideal S4x4096x1024 .f32) (R : Fin 16384) (d : Fin 1024) :
    shapeCast S16384x1024 X shapeCasts_S4x4096x1024_S16384x1024 (ix2 R d) = X (ix3 ⟨R.val / 4096, by omega⟩ ⟨R.val % 4096, by omega⟩ d) := by
  pointwise []

theorem V_v0 (c : Dev nD) : V m c main_v0 = shapeCast S16384x1024 (m ((c : Thread nD τ).loc main_arg0)) shapeCasts_S4x4096x1024_S16384x1024 := by entry_read; rfl
theorem V_v1 (c : Dev nD) : V m c main_v1 = shapeCast S16384x256 (m ((c : Thread nD τ).loc main_arg2)) shapeCasts_S4x4096x256_S16384x256 := by entry_read; rfl
theorem V_v2 (c : Dev nD) : V m c main_v2 = shapeCast S16384x256 (m ((c : Thread nD τ).loc main_arg3)) shapeCasts_S4x4096x256_S16384x256 := by entry_read; rfl
theorem V_v3 (c : Dev nD) : V m c main_v3 = shapeCast S16384x256 (m ((c : Thread nD τ).loc main_arg4)) shapeCasts_S4x4096x256_S16384x256 := by entry_read; rfl
theorem V_v4 (c : Dev nD) : V m c main_v4 = shapeCast S16384x256 (m ((c : Thread nD τ).loc main_arg5)) shapeCasts_S4x4096x256_S16384x256 := by entry_read; rfl
theorem V_v5 (c : Dev nD) : V m c main_v5 = shapeCast S16384x256 (m ((c : Thread nD τ).loc main_arg6)) shapeCasts_S4x4096x256_S16384x256 := by entry_read; rfl
theorem V_v6 (c : Dev nD) : V m c main_v6 = shapeCast S16384x256 (m ((c : Thread nD τ).loc main_arg7)) shapeCasts_S4x4096x256_S16384x256 := by entry_read; rfl
theorem V_v7 (c : Dev nD) : V m c main_v7 = (truncf .bf16 (m ((c : Thread nD τ).loc main_arg8) : FVec Ideal S1024x1024 .f32) bitsLt_bf16_f32 : FVec Ideal S1024x1024 .bf16) := by entry_read; rfl
theorem V_cst (c : Dev nD) : V m c main_cst = (fun i : S128x768.Idx => FloatOps.ofBits (F := Ideal) .bf16 (lit0 (S128x768.rowMajor i))) := by entry_read; rfl

/-- The row a block's row is. -/
def rowOf (t : Fin cfg0.N) (r : Fin 512) : Fin 16384 :=
  ⟨(grid0.coords t 0).val * 512 + r.val, by have h0 : (grid0.coords t 0).val < 32 := (grid0.coords t 0).isLt; omega⟩

theorem b0 (c : Dev nD) (t : Fin cfg0.N) (r : Fin 512) (j : Fin 1024) : iblk m c 0 t (ix2 r j)
    = (m ((c : Thread nD τ).loc main_arg0) : Vec Ideal S4x4096x1024 .f32) (ix3 ⟨(rowOf t r).val / 4096, by omega⟩ ⟨(rowOf t r).val % 4096, by omega⟩ j) := by
  refine Eq.trans (b := (V m c main_v0 : Vec Ideal S16384x1024 .f32) (ix2 (rowOf t r) j)) ?_ ?_
  · unfold rowOf; blk_ext [iblk, idx t]
  · rw [V_v0]; exact castx_at _ _ _

theorem b1 (c : Dev nD) (t : Fin cfg0.N) (r : Fin 512) (j : Fin 256) : iblk m c 1 t (ix2 r j)
    = (m ((c : Thread nD τ).loc main_arg2) : Vec Ideal S4x4096x256 .f32) (ix3 ⟨(rowOf t r).val / 4096, by omega⟩ ⟨(rowOf t r).val % 4096, by omega⟩ j) := by
  refine Eq.trans (b := (V m c main_v1 : Vec Ideal S16384x256 .f32) (ix2 (rowOf t r) j)) ?_ ?_
  · unfold rowOf; blk_ext [iblk, idx t]
  · rw [V_v1]; exact cast_at _ _ _

theorem b2 (c : Dev nD) (t : Fin cfg0.N) (r : Fin 512) (j : Fin 256) : iblk m c 2 t (ix2 r j)
    = (m ((c : Thread nD τ).loc main_arg3) : Vec Ideal S4x4096x256 .f32) (ix3 ⟨(rowOf t r).val / 4096, by omega⟩ ⟨(rowOf t r).val % 4096, by omega⟩ j) := by
  refine Eq.trans (b := (V m c main_v2 : Vec Ideal S16384x256 .f32) (ix2 (rowOf t r) j)) ?_ ?_
  · unfold rowOf; blk_ext [iblk, idx t]
  · rw [V_v2]; exact cast_at _ _ _

theorem b3 (c : Dev nD) (t : Fin cfg0.N) (r : Fin 512) (j : Fin 256) : iblk m c 3 t (ix2 r j)
    = (m ((c : Thread nD τ).loc main_arg4) : Vec Ideal S4x4096x256 .f32) (ix3 ⟨(rowOf t r).val / 4096, by omega⟩ ⟨(rowOf t r).val % 4096, by omega⟩ j) := by
  refine Eq.trans (b := (V m c main_v3 : Vec Ideal S16384x256 .f32) (ix2 (rowOf t r) j)) ?_ ?_
  · unfold rowOf; blk_ext [iblk, idx t]
  · rw [V_v3]; exact cast_at _ _ _

theorem b4 (c : Dev nD) (t : Fin cfg0.N) (r : Fin 512) (j : Fin 256) : iblk m c 4 t (ix2 r j)
    = (m ((c : Thread nD τ).loc main_arg5) : Vec Ideal S4x4096x256 .f32) (ix3 ⟨(rowOf t r).val / 4096, by omega⟩ ⟨(rowOf t r).val % 4096, by omega⟩ j) := by
  refine Eq.trans (b := (V m c main_v4 : Vec Ideal S16384x256 .f32) (ix2 (rowOf t r) j)) ?_ ?_
  · unfold rowOf; blk_ext [iblk, idx t]
  · rw [V_v4]; exact cast_at _ _ _

theorem b5 (c : Dev nD) (t : Fin cfg0.N) (r : Fin 512) (j : Fin 256) : iblk m c 5 t (ix2 r j)
    = (m ((c : Thread nD τ).loc main_arg6) : Vec Ideal S4x4096x256 .f32) (ix3 ⟨(rowOf t r).val / 4096, by omega⟩ ⟨(rowOf t r).val % 4096, by omega⟩ j) := by
  refine Eq.trans (b := (V m c main_v5 : Vec Ideal S16384x256 .f32) (ix2 (rowOf t r) j)) ?_ ?_
  · unfold rowOf; blk_ext [iblk, idx t]
  · rw [V_v5]; exact cast_at _ _ _

theorem b6 (c : Dev nD) (t : Fin cfg0.N) (r : Fin 512) (j : Fin 256) : iblk m c 6 t (ix2 r j)
    = (m ((c : Thread nD τ).loc main_arg7) : Vec Ideal S4x4096x256 .f32) (ix3 ⟨(rowOf t r).val / 4096, by omega⟩ ⟨(rowOf t r).val % 4096, by omega⟩ j) := by
  refine Eq.trans (b := (V m c main_v6 : Vec Ideal S16384x256 .f32) (ix2 (rowOf t r) j)) ?_ ?_
  · unfold rowOf; blk_ext [iblk, idx t]
  · rw [V_v6]; exact cast_at _ _ _

theorem b7 (c : Dev nD) (t : Fin cfg0.N) (r : Fin 512) (j : Fin 128) : iblk m c 7 t (ix2 r j)
    = (m ((c : Thread nD τ).loc main_arg1) : Vec Ideal S16384x4480 .f32) (ix2 (rowOf t r) ⟨4352 + j.val, by omega⟩) := by
  unfold rowOf; blk_ext [iblk, V_main_arg1, idx t]

theorem b8 (c : Dev nD) (t : Fin cfg0.N) (r : Fin 512) (j : Fin 256) : X0_8 m c t (ix2 r j)
    = (m ((c : Thread nD τ).loc main_arg1) : Vec Ideal S16384x4480 .f32) (ix2 (rowOf t r) ⟨2304 + j.val, by omega⟩) := by
  unfold X0_8 Pipeline.Window.fill
  rw [dif_pos (moved0_8 t _)]
  unfold rowOf; blk_ext [iblk, V_main_arg1, idx t]

theorem b9 (c : Dev nD) (t : Fin cfg0.N) (r : Fin 512) (j : Fin 256) : X0_9 m c t (ix2 r j)
    = (m ((c : Thread nD τ).loc main_arg1) : Vec Ideal S16384x4480 .f32) (ix2 (rowOf t r) ⟨3840 + j.val, by omega⟩) := by
  unfold X0_9 Pipeline.Window.fill
  rw [dif_pos (moved0_9 t _)]
  unfold rowOf; blk_ext [iblk, V_main_arg1, idx t]

theorem b10 (c : Dev nD) (t : Fin cfg0.N) (n : Fin 128) (o : Fin 768) : iblk m c 10 t (ix2 n o)
    = if n.val = o.val / 256 * 4 + o.val % 256 / 64 then (1 : EReal) else 0 := by
  refine Eq.trans (b := (V m c main_cst : Vec Ideal S128x768 .bf16) (ix2 n o)) ?_ ?_
  · blk_ext [iblk, idx t]
  · rw [V_cst]
    have er : S128x768.rowMajor (ix2 n o) = ⟨n.val * 768 + o.val, by show _ < 98304; omega⟩ :=
      Fin.ext (Shape.rowMajor_val_two _)
    show Ideal.ofBits .bf16 (lit0 (S128x768.rowMajor (ix2 n o))) = _
    rw [er]
    exact gate_ideal n o

theorem b11 (c : Dev nD) (t : Fin cfg0.N) (d j : Fin 1024) : iblk m c 11 t (ix2 d j)
    = (m ((c : Thread nD τ).loc main_arg8) : Vec Ideal S1024x1024 .f32) (ix2 d j) := by
  refine Eq.trans (b := (V m c main_v7 : Vec Ideal S1024x1024 .bf16) (ix2 d j)) ?_ ?_
  · blk_ext [iblk, idx t]
  · rw [V_v7]; rfl

/-- Rows of the weights loaded from the block. -/
theorem ldw (W : Vec Ideal S1024x1024 .bf16) (o : ℕ) (h) (d : Fin 256) (j : Fin 1024) (h') :
    View.ld W (Rect.unit (s := S1024x1024) ![o, 0] S256x1024.size h) (ix2 d j) = W (ix2 ⟨o + d.val, h'⟩ j) := by
  pointwise []

/-- One element of the output, from the argument arrays. -/
def outOf (x : Vec Ideal S4x4096x1024 .f32) (P : Vec Ideal S16384x4480 .f32) (ym yr a b c o : Vec Ideal S4x4096x256 .f32) (w : Vec Ideal S1024x1024 .f32)
    (R : Fin 16384) (e : Fin 1024) : EReal :=
  outAt (x (ix3 ⟨R.val / 4096, by omega⟩ ⟨R.val % 4096, by omega⟩ e))
    (parts (fun e => P (ix2 R e)) (fun r => ym (ix3 ⟨R.val / 4096, by omega⟩ ⟨R.val % 4096, by omega⟩ r)) (fun r => yr (ix3 ⟨R.val / 4096, by omega⟩ ⟨R.val % 4096, by omega⟩ r))
      (fun r => a (ix3 ⟨R.val / 4096, by omega⟩ ⟨R.val % 4096, by omega⟩ r)) (fun r => b (ix3 ⟨R.val / 4096, by omega⟩ ⟨R.val % 4096, by omega⟩ r))
      (fun r => c (ix3 ⟨R.val / 4096, by omega⟩ ⟨R.val % 4096, by omega⟩ r)) (fun r => o (ix3 ⟨R.val / 4096, by omega⟩ ⟨R.val % 4096, by omega⟩ r)))
    (fun d => w (ix2 d e))

/-- The same, from a memory. -/
def outM (c : Dev nD) (R : Fin 16384) (e : Fin 1024) : EReal :=
  outOf (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) R e

/-- A sum of five, regrouped. -/
theorem regroup (x a b c d : EReal) : x + a + b + c + d = x + (a + b + c + d) := by
  simp only [add_assoc]

/-- The gated branches of a block, from the arguments. -/
theorem branch_at (c : Dev nD) (t : Fin cfg0.N) (r : Fin 512) (k : Fin 256) :
    k0_pay2 (F := Ideal) (iblk m c 7 t) (iblk m c 10 t) (iblk m c 3 t) (iblk m c 4 t) (iblk m c 5 t) (X0_8 m c t) (ix2 r k)
      = (mix (fun e => (m ((c : Thread nD τ).loc main_arg1) : Vec Ideal S16384x4480 .f32) (ix2 (rowOf t r) e))
          (fun k => (m ((c : Thread nD τ).loc main_arg4) : Vec Ideal S4x4096x256 .f32) (ix3 ⟨(rowOf t r).val / 4096, by omega⟩ ⟨(rowOf t r).val % 4096, by omega⟩ k))
          (fun k => (m ((c : Thread nD τ).loc main_arg5) : Vec Ideal S4x4096x256 .f32) (ix3 ⟨(rowOf t r).val / 4096, by omega⟩ ⟨(rowOf t r).val % 4096, by omega⟩ k))
          (fun k => (m ((c : Thread nD τ).loc main_arg6) : Vec Ideal S4x4096x256 .f32) (ix3 ⟨(rowOf t r).val / 4096, by omega⟩ ⟨(rowOf t r).val % 4096, by omega⟩ k)) k
        * silu ((m ((c : Thread nD τ).loc main_arg1) : Vec Ideal S16384x4480 .f32) (ix2 (rowOf t r) ⟨2304 + k.val, by omega⟩)) : EReal) := by
  refine (pay2_at _ _ _ _ _ _ (b10 m c t) r k).trans ?_
  rw [b7, b7, b7, b3, b4, b5, b8]
  unfold mix
  rw [show (⟨4352 + (4 + k.val / 64), by omega⟩ : Fin 4480) = ⟨4356 + k.val / 64, by omega⟩ from Fin.ext (by show 4352 + (4 + k.val / 64) = 4356 + k.val / 64; omega),
    show (⟨4352 + (8 + k.val / 64), by omega⟩ : Fin 4480) = ⟨4360 + k.val / 64, by omega⟩ from Fin.ext (by show 4352 + (8 + k.val / 64) = 4360 + k.val / 64; omega)]

/-- The gated memory branch of a block, from the arguments. -/
theorem memory_at (c : Dev nD) (t : Fin cfg0.N) (r : Fin 512) (k : Fin 256) :
    k0_pay3 (F := Ideal) (iblk m c 6 t) (X0_9 m c t) (ix2 r k)
      = HMul.hMul (α := EReal) (β := EReal) (γ := EReal)
        ((m ((c : Thread nD τ).loc main_arg7) : Vec Ideal S4x4096x256 .f32) (ix3 ⟨(rowOf t r).val / 4096, by omega⟩ ⟨(rowOf t r).val % 4096, by omega⟩ k))
        (silu ((m ((c : Thread nD τ).loc main_arg1) : Vec Ideal S16384x4480 .f32) (ix2 (rowOf t r) ⟨3840 + k.val, by omega⟩))) := by
  refine (pay3_at _ _ r k).trans ?_
  rw [b6, b9]

/-- What the body leaves at an element of its block. -/
theorem left_at (c : Dev nD) (t : Fin cfg0.N) (r : Fin 512) (j : Fin 1024) : outsAt0 m c t (ix2 r j) = outM m c (rowOf t r) j := by
  unfold outsAt0
  frame_out
  refine (pay1_at _ _ _ _ _ _ _ _ _ r j).trans ?_
  unfold outM outOf outAt
  rw [Fin.sum_univ_four]
  refine Eq.trans ?_ (regroup _ _ _ _ _)
  refine congrArg₂ (· + ·) (congrArg₂ (· + ·) (congrArg₂ (· + ·) (congrArg₂ (· + ·) (b0 m c t r j) ?_) ?_) ?_) ?_
  · exact Finset.sum_congr rfl fun d _ => congrArg₂ (· * ·) (b1 m c t r d) ((ldw _ 0 _ d j (by omega)).trans (b11 m c t _ j))
  · exact Finset.sum_congr rfl fun d _ => congrArg₂ (· * ·) (branch_at m c t r d) ((ldw _ 256 _ d j (by omega)).trans (b11 m c t _ j))
  · exact Finset.sum_congr rfl fun d _ => congrArg₂ (· * ·) (b2 m c t r d) ((ldw _ 512 _ d j (by omega)).trans (b11 m c t _ j))
  · exact Finset.sum_congr rfl fun d _ => congrArg₂ (· * ·) (memory_at m c t r d) ((ldw _ 768 _ d j (by omega)).trans (b11 m c t _ j))

/-- The result array after the run. -/
theorem arr12 (c : Dev nD) : (dats m 0 c).arrAt 12 cfg0.N = fun y : S16384x1024.Idx => outM m c (y 0) (y 1) := by
  refine (dats m 0 c).arrAt_eq_of_covers 12 _ (by decide +kernel) fun t hf y => ?_
  blk_simp
  rw [after0_12]
  idx_vars y
  have e : (win0_12.blk t).view.emb (ix2 y0 y1) = ix2 (rowOf t y0) y1 := by
    unfold rowOf; blk_ext [idx t]
  refine Eq.trans ?_ (congrArg (fun i : S16384x1024.Idx => outM m c (i 0) (i 1)) e).symm
  exact left_at m c t y0 y1

end Cert.ProjOutIdeal.Att
-- ==== Proof.OutRefVal.lean ====
/- The plain statement of the output projection, read at an index. -/
module

public import proofs.«01_k».proof.Proof.Gen.ProjOutRefIdeal.Read
public import proofs.«01_k».proof.Proof.OutSpec
public import Idealize.ShloMosaic.Lib.Pointwise

@[expose] public section

set_option maxRecDepth 16384

noncomputable section

namespace Cert.ProjOutRefIdeal.Att

open Cert.ProjOutRefIdeal Cert.ProjOutRefIdeal.Gen Cert.ProjOutRefIdeal.Read Idealize.ShloMosaic Idealize.ShloMosaic.TcCoe Idealize.SL.Sem
open Cert.OutSpec

variable (x : Vec Ideal S4x4096x1024 .f32) (P : Vec Ideal S16384x4480 .f32) (ym yr a b c o : Vec Ideal S4x4096x256 .f32) (w : Vec Ideal S1024x1024 .f32)

/-- The packed projection's row of a position. -/
def row (s : Fin 4) (t : Fin 4096) : Fin 4480 → EReal := fun e => P (ix2 ⟨s.val * 4096 + t.val, by omega⟩ e)

/-- The gates, after the logistic function. -/
theorem v9 (s : Fin 4) (t : Fin 4096) (k : Fin 12) :
    val_main_v9 (F := Ideal) P (ix3 s t k) = Ideal.logistic (row P s t ⟨4352 + k.val, by omega⟩) := by
  pointwise [val_main_v9, val_main_v8, val_main_v7, val_main_v6, val_main_v5, val_main_v4, val_main_v1, val_main_v0, val_main_cst, val_main_cst_0]
  rfl

/-- The three branches, gated head by head. -/
theorem v28 (s : Fin 4) (t : Fin 4096) (r : Fin 256) :
    val_main_v28 (F := Ideal) P a b c (ix3 s t r)
      = mix (row P s t) (fun r => a (ix3 s t r)) (fun r => b (ix3 s t r)) (fun r => c (ix3 s t r)) r := by
  pointwise [val_main_v28, val_main_v27, val_main_v26, val_main_v25, val_main_v24, val_main_v23, val_main_v22, val_main_v21, val_main_v20,
    val_main_v19, val_main_v18, val_main_v17, val_main_v16, val_main_v15, val_main_v14, val_main_v13, val_main_v12, val_main_v11, val_main_v10]
  simp only [v9]
  unfold mix
  rw [show (⟨4352 + (4 + r.val / 64), by omega⟩ : Fin 4480) = ⟨4356 + r.val / 64, by omega⟩ from Fin.ext (by show 4352 + (4 + r.val / 64) = 4356 + r.val / 64; omega),
    show (⟨4352 + (8 + r.val / 64), by omega⟩ : Fin 4480) = ⟨4360 + r.val / 64, by omega⟩ from Fin.ext (by show 4352 + (8 + r.val / 64) = 4360 + r.val / 64; omega)]

theorem v29 (s : Fin 4) (t : Fin 4096) (r : Fin 256) :
    val_main_v29 (F := Ideal) P (ix3 s t r) = silu (row P s t ⟨2304 + r.val, by omega⟩) := by
  pointwise [val_main_v29, val_main_call0_v5, val_main_call0_v4, val_main_call0_v3, val_main_call0_v2, val_main_call0_v1, val_main_call0_v0, val_main_call0_cst, val_main_call0_cst_0, val_main_v2, val_main_v0]
  rfl

theorem v31 (s : Fin 4) (t : Fin 4096) (r : Fin 256) :
    val_main_v31 (F := Ideal) P (ix3 s t r) = silu (row P s t ⟨3840 + r.val, by omega⟩) := by
  pointwise [val_main_v31, val_main_call1_v5, val_main_call1_v4, val_main_call1_v3, val_main_call1_v2, val_main_call1_v1, val_main_call1_v0, val_main_call1_cst, val_main_call1_cst_0, val_main_v3, val_main_v0]
  rfl

/-- The four mixers side by side. -/
theorem v33 (s : Fin 4) (t : Fin 4096) (q : Fin 4) (r : Fin 256) :
    val_main_v33 (F := Ideal) P ym yr a b c o (ix3 s t ⟨q.val * 256 + r.val, by omega⟩)
      = parts (row P s t) (fun r => ym (ix3 s t r)) (fun r => yr (ix3 s t r)) (fun r => a (ix3 s t r)) (fun r => b (ix3 s t r))
          (fun r => c (ix3 s t r)) (fun r => o (ix3 s t r)) q r := by
  have h := concatenate_ofFn_apply 2 (![ym, val_main_v30 (F := Ideal) P a b c, yr, val_main_v32 (F := Ideal) P o] : Fin 4 → (⟨S4x4096x256, .f32⟩ : BufTy).Contents (Elt Ideal))
    concatenates_S4x4096x256_S4x4096x256_S4x4096x256_S4x4096x256_S4x4096x1024_d2
    rfl 256 rfl (ix3 s t ⟨q.val * 256 + r.val, by omega⟩) q (by show (q.val * 256 + r.val) / 256 = q.val; omega) (ix3 s t r)
    (by show r.val = (q.val * 256 + r.val) % 256; omega)
    (fun a ha => match a with | ⟨0, _⟩ => rfl | ⟨1, _⟩ => rfl | ⟨2, _⟩ => absurd rfl ha)
  refine Eq.trans h ?_
  fin_cases q
  · rfl
  · show val_main_v30 (F := Ideal) P a b c (ix3 s t r) = mix _ _ _ _ r * silu _
    rw [← v28, ← v29]
    pointwise [val_main_v30]
  · rfl
  · show val_main_v32 (F := Ideal) P o (ix3 s t r) = o _ * silu _
    rw [← v31]
    pointwise [val_main_v32]

/-- The result, sequences and positions in one axis. -/
theorem v36 (R : Fin 16384) (e : Fin 1024) :
    val_main_v36 (F := Ideal) x P ym yr a b c o w (ix2 R e)
      = outAt (x (ix3 ⟨R.val / 4096, by omega⟩ ⟨R.val % 4096, by omega⟩ e))
          (parts (fun e => P (ix2 R e)) (fun r => ym (ix3 ⟨R.val / 4096, by omega⟩ ⟨R.val % 4096, by omega⟩ r)) (fun r => yr (ix3 ⟨R.val / 4096, by omega⟩ ⟨R.val % 4096, by omega⟩ r))
            (fun r => a (ix3 ⟨R.val / 4096, by omega⟩ ⟨R.val % 4096, by omega⟩ r)) (fun r => b (ix3 ⟨R.val / 4096, by omega⟩ ⟨R.val % 4096, by omega⟩ r))
            (fun r => c (ix3 ⟨R.val / 4096, by omega⟩ ⟨R.val % 4096, by omega⟩ r)) (fun r => o (ix3 ⟨R.val / 4096, by omega⟩ ⟨R.val % 4096, by omega⟩ r)))
          (fun d => w (ix2 d e)) := by
  have hr : row P ⟨R.val / 4096, by omega⟩ ⟨R.val % 4096, by omega⟩ = fun e => P (ix2 R e) := by
    funext e
    unfold row
    congr 2
    apply Fin.ext
    show R.val / 4096 * 4096 + R.val % 4096 = R.val
    omega
  rw [← hr]
  pointwise [val_main_v36, val_main_v35, val_main_v34]
  unfold outAt
  rw [sum_blocks]
  simp only [v33]

end Cert.ProjOutRefIdeal.Att
-- ==== Proof.OutClaim.lean ====
/- The claims about the output projection: its frames, and over the reals the kernel's array is the plain statement's. -/
module

public import proofs.«01_k».proof.Defs
public import proofs.«01_k».proof.Proof.Gen.ProjOut.Frame
public import proofs.«01_k».proof.Proof.Gen.ProjOutIdeal.Value
public import proofs.«01_k».proof.Proof.Gen.ProjOutRefIdeal.Run
public import proofs.«01_k».proof.Proof.OutKernel
public import proofs.«01_k».proof.Proof.OutRefVal
public import Idealize.ShloMosaic.Adequacy
public import Idealize.ShloMosaic.Init

@[expose] public section

set_option maxRecDepth 16384

noncomputable section

namespace Cert.Proof.OutClaims

open Idealize.ShloMosaic Idealize.ShloMosaic.TcCoe Idealize.SL.Sem

/-- The kernel at machine precision stays within its memory and changes no argument. -/
theorem frame : Cert.quiescent_ProjOut := fun m ρ _ => Cert.ProjOut.Gen.frame m ρ
/-- So does the kernel over the reals. -/
theorem frame_ideal : Cert.quiescent_ProjOutIdeal := fun m ρ _ => Cert.ProjOutIdeal.Gen.frame m ρ

/-- The plain statement's run changes no argument; it declares no semaphore. -/
theorem frame_ref : Cert.quiescent_ProjOutRefIdeal := fun m ρ _ =>
  (θ_run Cert.ProjOutRefIdeal.defs _ _).mono (fun r h => ⟨fun c => (h c).2,
      Idealize.ShloMosaic.sem_eq_zero_of_no_sems (by decide) r.2⟩)
    (Cert.ProjOutRefIdeal.Value.run (F := Ideal) m ρ)

/-- Nothing was rewritten. -/
theorem preserves : Cert.preserves_ProjOut_ProjOutIdeal := trivial

/-- Over the reals kernel and plain statement end with the same output. -/
theorem algebraic : Cert.algebraic_ProjOutIdeal_ProjOutRefIdeal := by
  intro m ρ m' ρ' hpre hagree
  refine ⟨_, (θ_run Cert.ProjOutIdeal.defs _ _).mono (fun r h c =>
      ⟨(h c).1.trans (Cert.ProjOutIdeal.Att.arr12 m c), (h c).2⟩)
    (Cert.ProjOutIdeal.Value.run_blocks m ρ), ?_⟩
  refine (θ_run Cert.ProjOutRefIdeal.defs _ _).mono (fun r h c => ⟨(h c).1.trans ?_, (h c).2⟩)
    (Cert.ProjOutRefIdeal.Value.run (F := Ideal) m' ρ')
  obtain ⟨h0, h1, h2, h3, h4, h5, h6, h7, h8⟩ := hagree c
  rw [Cert.ProjOutRefIdeal.Read.val_main_v36_eq, h0, h1, h2, h3, h4, h5, h6, h7, h8]
  funext i
  idx_vars i
  exact Cert.ProjOutRefIdeal.Att.v36 _ _ _ _ _ _ _ _ _ _ _

end Cert.Proof.OutClaims
-- ==== Proof.PrepSpec.lean ====
/- The sparse attention's queries and key/value rows: their normalisation per head, and their rotation by position. -/
module

public import proofs.«01_k».proof.Proof.MemSpec
public import proofs.«01_k».proof.Proof.Masked

@[expose] public section

noncomputable section

namespace Cert.PrepSpec

open Idealize.ShloMosaic
open Cert.MemSpec
open Cert.Masked (Fin')

/-- The lanes of head `h` in a row of 256. -/
def part (p : Fin 256 → EReal) (h : Fin 4) : Fin 64 → EReal := fun d => p ⟨h.val * 64 + d.val, by omega⟩

/-- The head of a lane. -/
abbrev hd (e : Fin 256) : Fin 4 := ⟨e.val / 64, by omega⟩

/-- The lane within its head. -/
abbrev ln (e : Fin 256) : Fin 64 := ⟨e.val % 64, by omega⟩

/-- A head's 64 numbers rotated: pairs `(d, d + 32)` turned by the angle whose cosine and sine are given. -/
def rot (c s : Fin 32 → EReal) (y : Fin 64 → EReal) (d : Fin 64) : EReal :=
  if h : d.val < 32 then y d * c ⟨d.val, h⟩ - y ⟨32 + d.val, by omega⟩ * s ⟨d.val, h⟩
  else y ⟨d.val - 32, by omega⟩ * s ⟨d.val - 32, by omega⟩ + y d * c ⟨d.val - 32, by omega⟩

/-- A lane of the normalised queries. -/
def qn (p : Fin 256 → EReal) (g : Fin 64 → EReal) (e : Fin 256) : EReal := key (part p (hd e)) g (ln e)

/-- A lane of the rotated queries. -/
def qr (c s : Fin 32 → EReal) (p : Fin 256 → EReal) (g : Fin 64 → EReal) (e : Fin 256) : EReal :=
  rot c s (key (part p (hd e)) g) (ln e)

/-- A lane of the key/value rows: keys, the even heads, normalised and rotated; values as they are. -/
def kvr (c s : Fin 32 → EReal) (p : Fin 256 → EReal) (g : Fin 64 → EReal) (e : Fin 256) : EReal :=
  if e.val / 64 % 2 = 0 then rot c s (key (part p (hd e)) g) (ln e) else p e

/-- A sum over 256 lanes by heads. -/
theorem sum_heads (f : Fin 256 → EReal) : ∑ d, f d = ∑ q : Fin 4, ∑ r : Fin 64, f ⟨q.val * 64 + r.val, by omega⟩ := by
  rw [← Fintype.sum_prod_type']
  refine (Fintype.sum_equiv (finProdFinEquiv (m := 4) (n := 64)) _ _ fun x => ?_).symm
  congr 1
  apply Fin.ext
  show x.1.val * 64 + x.2.val = (finProdFinEquiv x).val
  rw [finProdFinEquiv_apply_val]
  ring

/-- A sum over 256 lanes against the table of same-head lanes is the sum over the lane's head. -/
theorem sum_same (f : Fin 256 → EReal) (E : Fin 256 → EReal) (e : Fin 256)
    (hE : ∀ k, E k = if k.val / 64 = e.val / 64 then (1 : EReal) else 0) :
    ∑ k, f k * E k = ∑ d : Fin 64, f ⟨e.val / 64 * 64 + d.val, by omega⟩ := by
  rw [sum_heads]
  rw [Finset.sum_eq_single (hd e)]
  · refine Finset.sum_congr rfl fun d _ => ?_
    rw [hE, if_pos (by simp only []; omega), mul_one]
  · intro q _ hq
    refine Finset.sum_eq_zero fun d _ => ?_
    rw [hE, if_neg, mul_zero]
    intro h
    apply hq
    apply Fin.ext
    show q.val = e.val / 64
    simp only [] at h
    omega
  · intro h; exact absurd (Finset.mem_univ _) h

/-- The split sum of squares over a lane's head: the two remainders vanish over finite numbers. -/
theorem split_sum (p : Fin 256 → EReal) (hp : ∀ k, Fin' (p k)) (E : Fin 256 → EReal) (e : Fin 256)
    (hE : ∀ k, E k = if k.val / 64 = e.val / 64 then (1 : EReal) else 0) :
    (∑ k, p k * p k * E k) + ((∑ k, (p k * p k - p k * p k) * E k) + ∑ k, (p k * p k - p k * p k - (p k * p k - p k * p k)) * E k)
      = ∑ d, part p (hd e) d * part p (hd e) d := by
  have h0 : ∀ k, p k * p k - p k * p k = 0 := fun k => ((hp k).mul (hp k)).sub_self
  simp only [h0, sub_self, zero_mul, Finset.sum_const_zero, add_zero]
  rw [show ((0 : EReal) - 0) = 0 by simp]
  simp only [zero_mul, Finset.sum_const_zero, add_zero]
  exact sum_same (fun k => p k * p k) E e hE

/-- Multiplying by the pattern of one sixty-fourth is dividing by that of sixty-four. -/
theorem mul_inv64 (x : EReal) : x * Ideal.ofBits FTy.f32 0x3C800000#32 = Ideal.div x (Ideal.ofBits FTy.f32 1115684864#32) := by
  have ha : Ideal.ofBits FTy.f32 0x3C800000#32 = ((1 / 64 : ℝ) : EReal) := by
    have h : ¬ ((0x3C800000#32 : BitVec 32).extractLsb' 31 1 = 1#1) := by decide
    simp only [Ideal.ofBits, Ideal.ieee]
    norm_num [Nat.shiftRight_eq_div_pow, h]
  have hb : Ideal.ofBits FTy.f32 1115684864#32 = ((64 : ℝ) : EReal) := by
    have h : ¬ ((1115684864#32 : BitVec 32).extractLsb' 31 1 = 1#1) := by decide
    simp only [Ideal.ofBits, Ideal.ieee]
    norm_num [Nat.shiftRight_eq_div_pow, h]
  rw [ha, hb]
  unfold Ideal.div
  rw [if_neg (by exact_mod_cast (by norm_num : (64 : ℝ) ≠ 0)), ← EReal.coe_inv]
  norm_num

/-- The rotation as the kernel spells it: each lane times the cosine, plus its partner times the signed sine. -/
theorem rot_lane (c s : Fin 32 → EReal) (y : Fin 256 → EReal) (z : Fin 64 → EReal) (e : Fin 256) (C S w : EReal)
    (hy : y e = z (ln e)) (hC : C = c ⟨e.val % 32, by omega⟩)
    (hS : S = if e.val % 64 < 32 then -(s ⟨e.val % 32, by omega⟩) else s ⟨e.val % 32, by omega⟩)
    (hw : w = if h : e.val % 64 < 32 then z ⟨32 + e.val % 64, by omega⟩ else z ⟨e.val % 64 - 32, by omega⟩) :
    y e * C + w * S = rot c s z (ln e) := by
  subst hC hS hw
  unfold rot
  rw [hy]
  by_cases h : e.val % 64 < 32
  · have h1 : e.val % 32 = e.val % 64 := by omega
    rw [dif_pos h, if_pos h, dif_pos h, mul_neg, sub_eq_add_neg]
    simp only [h1]
  · have h1 : e.val % 32 = e.val % 64 - 32 := by omega
    rw [dif_neg h, if_neg h, dif_neg h, add_comm]
    simp only [h1]

end Cert.PrepSpec
-- ==== Proof.PrepRefVal.lean ====
/- The plain statement of the prepared queries and key/value rows, read at an index. -/
module

public import proofs.«01_k».proof.Proof.Gen.PrepRefIdeal.Read
public import proofs.«01_k».proof.Proof.PrepSpec
public import Idealize.ShloMosaic.Lib.Pointwise

@[expose] public section

set_option maxRecDepth 16384

noncomputable section

namespace Cert.PrepRefIdeal.Att

open Cert.PrepRefIdeal Cert.PrepRefIdeal.Gen Cert.PrepRefIdeal.Read Idealize.ShloMosaic Idealize.ShloMosaic.TcCoe Idealize.SL.Sem
open Cert.PrepSpec Cert.MemSpec

variable (x : Vec Ideal S16384x4480 .f32) (g : Vec Ideal S4x64 .f32)

/-- The cosine of a position's angle. -/
def cosT (t : Fin 4096) (j : Fin 32) : EReal := val_main_v20 (F := Ideal) (ix2 t j)
/-- The sine of a position's angle. -/
def sinT (t : Fin 4096) (j : Fin 32) : EReal := val_main_v22 (F := Ideal) (ix2 t j)

/-- 256 lanes of a packed row from column `o` on. -/
def cut (o : ℕ) (h : o ≤ 4224) (b : Fin 4) (t : Fin 4096) : Fin 256 → EReal :=
  fun e => x (ix2 ⟨b.val * 4096 + t.val, by omega⟩ ⟨o + e.val, by omega⟩)

theorem v2 (b : Fin 4) (t : Fin 4096) (h : Fin 4) (d : Fin 64) :
    val_main_v2 (F := Ideal) x (ix4 b t h d) = part (cut x 1280 (by decide) b t) h d := by
  pointwise [val_main_v2, val_main_v1, val_main_v0]
  unfold part cut
  congr 2 <;> apply Fin.ext <;> simp only [] <;> omega

/-- The queries, normalised per head. -/
theorem v38 (b : Fin 4) (t : Fin 4096) (h : Fin 4) (d : Fin 64) :
    val_main_v38 (F := Ideal) x g (ix4 b t h d) = key (part (cut x 1280 (by decide) b t) h) (fun d => g (ix2 0 d)) d := by
  pointwise [val_main_v38, val_main_v37, val_main_v36, val_main_v35, val_main_v34, val_main_v33, val_main_v32, val_main_v31, val_main_v30, val_main_v29, val_main_v28, val_main_v27, val_main_v26, val_main_v25, val_main_v24, val_main_cst_1, val_main_cst_2, val_main_cst_3]
  simp only [v2]
  rfl

/-- The queries, rotated. -/
theorem v134 (b : Fin 4) (t : Fin 4096) (h : Fin 4) (d : Fin 64) :
    val_main_v134 (F := Ideal) x g (ix4 b t h d)
      = rot (cosT t) (sinT t) (key (part (cut x 1280 (by decide) b t) h) (fun d => g (ix2 0 d))) d := by
  pointwise [val_main_v134, val_main_v133, val_main_v132, val_main_v131, val_main_v130, val_main_v129, val_main_v128, val_main_v127, val_main_v126, val_main_v125, val_main_v124, val_main_v123, val_main_v122, val_main_v121, val_main_v120, val_main_v119, val_main_v118, val_main_v23, val_main_v21]
  unfold rot
  simp only [v38]
  by_cases hlt : d.val < 32
  · rw [dif_pos hlt, dif_pos hlt]; rfl
  · rw [dif_neg hlt, dif_neg hlt]
    have e : ∀ hb, (⟨32 + (d.val - 32), hb⟩ : Fin 64) = d := fun _ => Fin.ext (by show 32 + (d.val - 32) = d.val; omega)
    simp only [e]
    rfl

/-- The normalised queries, heads side by side. -/
theorem v117 (b : Fin 4) (t : Fin 4096) (e : Fin 256) :
    val_main_v117 (F := Ideal) x g (ix3 b t e) = qn (cut x 1280 (by decide) b t) (fun d => g (ix2 0 d)) e := by
  pointwise [val_main_v117]
  exact v38 x g _ _ _ _

/-- The rotated queries, heads side by side. -/
theorem v135 (b : Fin 4) (t : Fin 4096) (e : Fin 256) :
    val_main_v135 (F := Ideal) x g (ix3 b t e) = qr (cosT t) (sinT t) (cut x 1280 (by decide) b t) (fun d => g (ix2 0 d)) e := by
  pointwise [val_main_v135]
  exact v134 x g _ _ _ _

theorem v4 (b : Fin 4) (t : Fin 4096) (h j : Fin 2) (d : Fin 64) :
    val_main_v4 (F := Ideal) x (ix5 b t h j d) = part (cut x 1792 (by decide) b t) ⟨h.val * 2 + j.val, by omega⟩ d := by
  pointwise [val_main_v4, val_main_v3, val_main_v0]
  unfold part cut
  congr 2 <;> apply Fin.ext <;> simp only [] <;> omega

theorem v40 (b : Fin 4) (t : Fin 4096) (h : Fin 2) (d : Fin 64) :
    val_main_v40 (F := Ideal) x (ix4 b t h d) = part (cut x 1792 (by decide) b t) ⟨h.val * 2, by omega⟩ d := by
  pointwise [val_main_v40, val_main_v39]
  exact v4 x _ _ _ _ _

theorem v74 (b : Fin 4) (t : Fin 4096) (h : Fin 2) (d : Fin 64) :
    val_main_v74 (F := Ideal) x (ix4 b t h d) = part (cut x 1792 (by decide) b t) ⟨h.val * 2 + 1, by omega⟩ d := by
  pointwise [val_main_v74, val_main_v73]
  exact v4 x _ _ _ _ _

/-- The selected keys, normalised per head. -/
theorem v55 (b : Fin 4) (t : Fin 4096) (h : Fin 2) (d : Fin 64) :
    val_main_v55 (F := Ideal) x g (ix4 b t h d)
      = key (part (cut x 1792 (by decide) b t) ⟨h.val * 2, by omega⟩) (fun d => g (ix2 2 d)) d := by
  pointwise [val_main_v55, val_main_v54, val_main_v53, val_main_v52, val_main_v51, val_main_v50, val_main_v49, val_main_v48, val_main_v47, val_main_v46, val_main_v45, val_main_v44, val_main_v43, val_main_v42, val_main_v41, val_main_cst_4, val_main_cst_5, val_main_cst_6]
  simp only [v40]
  rfl

/-- The selected keys, rotated. -/
theorem v72 (b : Fin 4) (t : Fin 4096) (h : Fin 2) (d : Fin 64) :
    val_main_v72 (F := Ideal) x g (ix4 b t h d)
      = rot (cosT t) (sinT t) (key (part (cut x 1792 (by decide) b t) ⟨h.val * 2, by omega⟩) (fun d => g (ix2 2 d))) d := by
  pointwise [val_main_v72, val_main_v71, val_main_v70, val_main_v69, val_main_v68, val_main_v67, val_main_v66, val_main_v65, val_main_v64, val_main_v63, val_main_v62, val_main_v61, val_main_v60, val_main_v59, val_main_v58, val_main_v57, val_main_v56, val_main_v23, val_main_v21]
  unfold rot
  simp only [v55]
  by_cases hlt : d.val < 32
  · rw [dif_pos hlt, dif_pos hlt]; rfl
  · rw [dif_neg hlt, dif_neg hlt]
    have e : ∀ hb, (⟨32 + (d.val - 32), hb⟩ : Fin 64) = d := fun _ => Fin.ext (by show 32 + (d.val - 32) = d.val; omega)
    simp only [e]
    rfl

/-- The selected keys and values. -/
theorem v77 (b : Fin 4) (t : Fin 4096) (h j : Fin 2) (d : Fin 64) :
    val_main_v77 (F := Ideal) x g (ix5 b t h j d)
      = kvr (cosT t) (sinT t) (cut x 1792 (by decide) b t) (fun d => g (ix2 2 d)) ⟨h.val * 128 + j.val * 64 + d.val, by omega⟩ := by
  pointwise [val_main_v77, val_main_v76, val_main_v75]
  have hl : ln ⟨h.val * 128 + j.val * 64 + d.val, by omega⟩ = d := Fin.ext (by show (h.val * 128 + j.val * 64 + d.val) % 64 = d.val; omega)
  unfold kvr
  split
  · rename_i hj
    have hh : hd ⟨h.val * 128 + j.val * 64 + d.val, by omega⟩ = ⟨h.val * 2, by omega⟩ :=
      Fin.ext (by show (h.val * 128 + j.val * 64 + d.val) / 64 = h.val * 2; omega)
    rw [if_pos (by show (h.val * 128 + j.val * 64 + d.val) / 64 % 2 = 0; omega), hl, hh]
    exact v72 x g _ _ _ _
  · rename_i hj
    rw [if_neg (by show ¬ (h.val * 128 + j.val * 64 + d.val) / 64 % 2 = 0; omega)]
    refine (v74 x _ _ _ _).trans ?_
    unfold part
    refine congrArg _ (Fin.ext ?_)
    show (h.val * 2 + 1) * 64 + d.val = h.val * 128 + j.val * 64 + d.val
    omega

theorem v6 (b : Fin 4) (t : Fin 4096) (h j : Fin 2) (d : Fin 64) :
    val_main_v6 (F := Ideal) x (ix5 b t h j d) = part (cut x 2048 (by decide) b t) ⟨h.val * 2 + j.val, by omega⟩ d := by
  pointwise [val_main_v6, val_main_v5, val_main_v0]
  unfold part cut
  congr 2 <;> apply Fin.ext <;> simp only [] <;> omega

theorem v79 (b : Fin 4) (t : Fin 4096) (h : Fin 2) (d : Fin 64) :
    val_main_v79 (F := Ideal) x (ix4 b t h d) = part (cut x 2048 (by decide) b t) ⟨h.val * 2, by omega⟩ d := by
  pointwise [val_main_v79, val_main_v78]
  exact v6 x _ _ _ _ _

theorem v113 (b : Fin 4) (t : Fin 4096) (h : Fin 2) (d : Fin 64) :
    val_main_v113 (F := Ideal) x (ix4 b t h d) = part (cut x 2048 (by decide) b t) ⟨h.val * 2 + 1, by omega⟩ d := by
  pointwise [val_main_v113, val_main_v112]
  exact v6 x _ _ _ _ _

/-- The window's keys, normalised per head. -/
theorem v94 (b : Fin 4) (t : Fin 4096) (h : Fin 2) (d : Fin 64) :
    val_main_v94 (F := Ideal) x g (ix4 b t h d)
      = key (part (cut x 2048 (by decide) b t) ⟨h.val * 2, by omega⟩) (fun d => g (ix2 3 d)) d := by
  pointwise [val_main_v94, val_main_v93, val_main_v92, val_main_v91, val_main_v90, val_main_v89, val_main_v88, val_main_v87, val_main_v86, val_main_v85, val_main_v84, val_main_v83, val_main_v82, val_main_v81, val_main_v80, val_main_cst_7, val_main_cst_8, val_main_cst_9]
  simp only [v79]
  rfl

/-- The window's keys, rotated. -/
theorem v111 (b : Fin 4) (t : Fin 4096) (h : Fin 2) (d : Fin 64) :
    val_main_v111 (F := Ideal) x g (ix4 b t h d)
      = rot (cosT t) (sinT t) (key (part (cut x 2048 (by decide) b t) ⟨h.val * 2, by omega⟩) (fun d => g (ix2 3 d))) d := by
  pointwise [val_main_v111, val_main_v110, val_main_v109, val_main_v108, val_main_v107, val_main_v106, val_main_v105, val_main_v104, val_main_v103, val_main_v102, val_main_v101, val_main_v100, val_main_v99, val_main_v98, val_main_v97, val_main_v96, val_main_v95, val_main_v23, val_main_v21]
  unfold rot
  simp only [v94]
  by_cases hlt : d.val < 32
  · rw [dif_pos hlt, dif_pos hlt]; rfl
  · rw [dif_neg hlt, dif_neg hlt]
    have e : ∀ hb, (⟨32 + (d.val - 32), hb⟩ : Fin 64) = d := fun _ => Fin.ext (by show 32 + (d.val - 32) = d.val; omega)
    simp only [e]
    rfl

/-- The window's keys and values. -/
theorem v116 (b : Fin 4) (t : Fin 4096) (h j : Fin 2) (d : Fin 64) :
    val_main_v116 (F := Ideal) x g (ix5 b t h j d)
      = kvr (cosT t) (sinT t) (cut x 2048 (by decide) b t) (fun d => g (ix2 3 d)) ⟨h.val * 128 + j.val * 64 + d.val, by omega⟩ := by
  pointwise [val_main_v116, val_main_v115, val_main_v114]
  have hl : ln ⟨h.val * 128 + j.val * 64 + d.val, by omega⟩ = d := Fin.ext (by show (h.val * 128 + j.val * 64 + d.val) % 64 = d.val; omega)
  unfold kvr
  split
  · rename_i hj
    have hh : hd ⟨h.val * 128 + j.val * 64 + d.val, by omega⟩ = ⟨h.val * 2, by omega⟩ :=
      Fin.ext (by show (h.val * 128 + j.val * 64 + d.val) / 64 = h.val * 2; omega)
    rw [if_pos (by show (h.val * 128 + j.val * 64 + d.val) / 64 % 2 = 0; omega), hl, hh]
    exact v111 x g _ _ _ _
  · rename_i hj
    rw [if_neg (by show ¬ (h.val * 128 + j.val * 64 + d.val) / 64 % 2 = 0; omega)]
    refine (v113 x _ _ _ _).trans ?_
    unfold part
    refine congrArg _ (Fin.ext ?_)
    show (h.val * 2 + 1) * 64 + d.val = h.val * 128 + j.val * 64 + d.val
    omega

/-- The last 512 of the window's keys and values. -/
theorem v136 (b : Fin 4) (t : Fin 512) (h j : Fin 2) (d : Fin 64) :
    val_main_v136 (F := Ideal) x g (ix5 b t h j d)
      = kvr (cosT ⟨3584 + t.val, by omega⟩) (sinT ⟨3584 + t.val, by omega⟩) (cut x 2048 (by decide) b ⟨3584 + t.val, by omega⟩)
          (fun d => g (ix2 3 d)) ⟨h.val * 128 + j.val * 64 + d.val, by omega⟩ := by
  pointwise [val_main_v136]
  exact v116 x g _ _ _ _ _

end Cert.PrepRefIdeal.Att
-- ==== Proof.PrepHost.lean ====
/- What the preparation kernel's region finds: the packed rows, the gains, the tables of cosines and sines, and the table of same-head lanes. -/
module

public import proofs.«01_k».proof.Proof.Gen.PrepIdeal.Frame
public import proofs.«01_k».proof.Proof.PrepRefVal
public import Idealize.ShloMosaic.Lib.StableHlo.RunRead
public import Idealize.ShloMosaic.Lib.Pointwise
public import Idealize.ShloMosaic.Lib.Pipeline.ValueKit

@[expose] public section

set_option maxRecDepth 16384

noncomputable section

namespace Cert.PrepIdeal.Att

open Cert.PrepIdeal Cert.PrepIdeal.Gen Idealize.ShloMosaic Idealize.ShloMosaic.TcCoe Idealize.SL.Sem

variable (m : (ℓ : Loc nD τ sig) → Buf (Elt Ideal) ℓ)

/-- A vector of ones. -/
def onesV : FVec Ideal S64 .f32 := broadcastInDim S64 ![] bcast_S_S64 (constant S_ .f32 0x3F800000#32)
/-- The filler. -/
def zeroV : FVec Ideal S_ .f32 := sitofp .f32 (constantI S_ 32 0#32)
/-- The query gains, once per head. -/
def rowQ (q : Vec Ideal S4x64 .f32) : FVec Ideal S256 .f32 :=
  shapeCast S256 (broadcastInDim S4x64 ![0, 1] bcast_S1x64_S4x64_0_1 (shapeCast S1x64 (shapeCast S64 (extractStridedSlice S1x64 ![0, 0] q slices_S4x64_S1x64_0_0) shapeCasts_S1x64_S64) shapeCasts_S64_S1x64)) shapeCasts_S4x64_S256
/-- A key gain in the key lanes, ones in the value lanes. -/
def rowKV (k : FVec Ideal S64 .f32) : FVec Ideal S256 .f32 :=
  concatenate S256 0 [⟨S64, k⟩, ⟨S64, onesV⟩, ⟨S64, k⟩, ⟨S64, onesV⟩] concatenates_S64_S64_S64_S64_S256_d0
/-- A row, padded by nothing. -/
def padRow (v : FVec Ideal S256 .f32) : FVec Ideal S1x256 .f32 :=
  pad S1x256 ![0, 0] ![0, 0] ![0, 0] (shapeCast S1x256 v shapeCasts_S256_S1x256) zeroV pads_S1x256_S1x256_000_000 h_S_
/-- The block of gains. -/
def gOf (q : Vec Ideal S4x64 .f32) : FVec Ideal S8x256 .f32 :=
  pad S8x256 ![0, 0] ![5, 0] ![0, 0] (concatenate S3x256 0 [⟨S1x256, padRow (rowQ q)⟩,
    ⟨S1x256, padRow (rowKV (shapeCast S64 (extractStridedSlice S1x64 ![2, 0] q slices_S4x64_S1x64_2_0) shapeCasts_S1x64_S64))⟩,
    ⟨S1x256, padRow (rowKV (shapeCast S64 (extractStridedSlice S1x64 ![3, 0] q slices_S4x64_S1x64_3_0) shapeCasts_S1x64_S64))⟩] concatenates_S1x256_S1x256_S1x256_S3x256_d0)
    zeroV pads_S3x256_S8x256_050_000 h_S_

set_option maxHeartbeats 2000000 in
/-- The gains as the region finds them. -/
theorem V_v23 (c : Dev nD) : V m c main_v23 = gOf (m ((c : Thread nD τ).loc main_arg1)) := by
  unfold V V0
  after_reads_simp
  rfl

/-- The angles. -/
def angV : FVec Ideal S4096x32 .f32 :=
  mulf (broadcastInDim S4096x32 ![0, 1] bcast_S4096x1_S4096x32_0_1 (broadcastInDim S4096x1 ![0] bcast_S4096_S4096x1_0
      (sitofp .f32 (addi (broadcastInDim S4096 ![] bcast_S_S4096 (constantI S_ 32 0#32)) (iotaInDim S4096 32 0)))))
    (broadcastInDim S4096x32 ![0, 1] bcast_S1x32_S4096x32_0_1 (broadcastInDim S1x32 ![1] bcast_S32_S1x32_1
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))

/-- Two halves of a head's table side by side, once per head. -/
def tile (a b : FVec Ideal S4096x32 .f32) : FVec Ideal S4096x256 .f32 :=
  shapeCast S4096x256 (broadcastInDim S1x4096x4x64 ![0, 1, 2, 3] bcast_S1x4096x1x64_S1x4096x4x64_0_1_2_3
    (shapeCast S1x4096x1x64 (concatenate S4096x64 1 [⟨S4096x32, a⟩, ⟨S4096x32, b⟩] concatenates_S4096x32_S4096x32_S4096x64_d1) shapeCasts_S4096x64_S1x4096x1x64)) shapeCasts_S1x4096x4x64_S4096x256

/-- The cosines as the region finds them. -/
theorem V_v44 (c : Dev nD) : V m c main_v44 = tile (Host.cos angV) (Host.cos angV) := by
  entry_read
  rfl

/-- The sines, negated in a head's first half, as the region finds them. -/
theorem V_v49 (c : Dev nD) : V m c main_v49 = tile (Host.negf (Host.sin angV)) (Host.sin angV) := by
  entry_read
  rfl

/-- The packed rows as the region finds them. -/
theorem V_v50 (c : Dev nD) : V m c main_v50 = shapeCast S4x4096x4480 (m ((c : Thread nD τ).loc main_arg0)) shapeCasts_S16384x4480_S4x4096x4480 := by
  entry_read
  rfl

/-- The same-head table as the region finds it. -/
theorem V_cst (c : Dev nD) : V m c main_cst = (fun i : S256x256.Idx => FloatOps.ofBits (F := Ideal) .bf16 (lit0 (S256x256.rowMajor i))) := by
  entry_read
  rfl

/-- The angles are the plain statement's. -/
theorem ang_at (t : Fin 4096) (j : Fin 32) : angV (ix2 t j) = Cert.PrepRefIdeal.Read.val_main_v19 (F := Ideal) (ix2 t j) := by
  have h0 : IntOp.addi (0#32) (BitVec.ofNat 32 t.val) = BitVec.ofNat 32 t.val := BitVec.zero_add _
  pointwise [angV, Cert.PrepRefIdeal.Read.val_main_v19, Cert.PrepRefIdeal.Read.val_main_v18, Cert.PrepRefIdeal.Read.val_main_v17, Cert.PrepRefIdeal.Read.val_main_v16, Cert.PrepRefIdeal.Read.val_main_v15, Cert.PrepRefIdeal.Read.val_main_v14, Cert.PrepRefIdeal.Read.val_main_v13, Cert.PrepRefIdeal.Read.val_main_v12, Cert.PrepRefIdeal.Read.val_main_v11, Cert.PrepRefIdeal.Read.val_main_v10, Cert.PrepRefIdeal.Read.val_main_v9, Cert.PrepRefIdeal.Read.val_main_v8, Cert.PrepRefIdeal.Read.val_main_v7, Cert.PrepRefIdeal.Read.val_main_cst, Cert.PrepRefIdeal.Read.val_main_cst_0]
  rw [h0]

/-- A tiled table at a lane: the first half's table in a head's first half, the second's in its second. -/
theorem tile_at (a b : FVec Ideal S4096x32 .f32) (t : Fin 4096) (e : Fin 256) :
    tile a b (ix2 t e) = if e.val % 64 < 32 then a (ix2 t ⟨e.val % 32, by omega⟩) else b (ix2 t ⟨e.val % 32, by omega⟩) := by
  pointwise [tile]
  by_cases h : e.val % 64 < 32
  · rw [dif_pos h, if_pos h]
    exact congrArg (fun k : Fin 32 => a (ix2 t k)) (Fin.ext (show e.val % 64 = e.val % 32 by omega))
  · rw [dif_neg h, if_neg h]
    exact congrArg (fun k : Fin 32 => b (ix2 t k)) (Fin.ext (show e.val % 64 - 32 = e.val % 32 by omega))

/-- The query row of the gains. -/
theorem g0_at (q : Vec Ideal S4x64 .f32) (e : Fin 256) : gOf q (ix2 0 e) = q (ix2 0 ⟨e.val % 64, by omega⟩) := by
  pointwise [gOf, padRow, rowQ, rowKV, zeroV, onesV]

/-- The selected row of the gains, in the key lanes. -/
theorem g1_at (q : Vec Ideal S4x64 .f32) (e : Fin 256) (h : e.val / 64 % 2 = 0) : gOf q (ix2 1 e) = q (ix2 2 ⟨e.val % 64, by omega⟩) := by
  pointwise [gOf, padRow, rowQ, rowKV, zeroV, onesV]
  by_cases h1 : e.val < 64
  · rw [dif_pos h1]
    exact congrArg (fun k : Fin 64 => q (ix2 2 k)) (Fin.ext (show e.val = e.val % 64 by omega))
  · rw [dif_neg h1, dif_neg (show ¬ e.val - 64 < 64 by omega), dif_pos (show e.val - 64 - 64 < 64 by omega)]
    exact congrArg (fun k : Fin 64 => q (ix2 2 k)) (Fin.ext (show e.val - 64 - 64 = e.val % 64 by omega))

/-- The window row of the gains, in the key lanes. -/
theorem g2_at (q : Vec Ideal S4x64 .f32) (e : Fin 256) (h : e.val / 64 % 2 = 0) : gOf q (ix2 2 e) = q (ix2 3 ⟨e.val % 64, by omega⟩) := by
  pointwise [gOf, padRow, rowQ, rowKV, zeroV, onesV]
  by_cases h1 : e.val < 64
  · rw [dif_pos h1]
    exact congrArg (fun k : Fin 64 => q (ix2 3 k)) (Fin.ext (show e.val = e.val % 64 by omega))
  · rw [dif_neg h1, dif_neg (show ¬ e.val - 64 < 64 by omega), dif_pos (show e.val - 64 - 64 < 64 by omega)]
    exact congrArg (fun k : Fin 64 => q (ix2 3 k)) (Fin.ext (show e.val - 64 - 64 = e.val % 64 by omega))

/-- The cosines at a position and a lane. -/
theorem cos_at (t : Fin 4096) (e : Fin 256) : tile (Host.cos angV) (Host.cos angV) (ix2 t e) = Cert.PrepRefIdeal.Att.cosT t ⟨e.val % 32, by omega⟩ := by
  rw [tile_at, ite_self]
  unfold Cert.PrepRefIdeal.Att.cosT
  show Ideal.cos (angV (ix2 t _)) = Ideal.cos (Cert.PrepRefIdeal.Read.val_main_v19 (F := Ideal) (ix2 t _))
  rw [ang_at]

/-- The sines at a position and a lane, negated in a head's first half. -/
theorem sin_at (t : Fin 4096) (e : Fin 256) : tile (Host.negf (Host.sin angV)) (Host.sin angV) (ix2 t e)
    = if e.val % 64 < 32 then -(Cert.PrepRefIdeal.Att.sinT t ⟨e.val % 32, by omega⟩) else Cert.PrepRefIdeal.Att.sinT t ⟨e.val % 32, by omega⟩ := by
  rw [tile_at]
  unfold Cert.PrepRefIdeal.Att.sinT
  have h : Host.sin angV (ix2 t ⟨e.val % 32, by omega⟩) = Cert.PrepRefIdeal.Read.val_main_v22 (F := Ideal) (ix2 t ⟨e.val % 32, by omega⟩) := by
    show Ideal.sin (angV (ix2 t _)) = Ideal.sin (Cert.PrepRefIdeal.Read.val_main_v19 (F := Ideal) (ix2 t _))
    rw [ang_at]
  refine ite_congr rfl (fun _ => ?_) (fun _ => h)
  show -(Host.sin angV (ix2 t _)) = _
  rw [h]

end Cert.PrepIdeal.Att
-- ==== Proof.PrepPay.lean ====
/- The preparation kernel's payloads, read at an index. -/
module

public import proofs.«01_k».proof.Proof.Gen.PrepIdeal.Frame
public import proofs.«01_k».proof.Proof.PrepSpec
public import Idealize.ShloMosaic.Lib.Pointwise
public import Idealize.ShloMosaic.Lib.Pipeline.ValueKit

@[expose] public section

set_option maxRecDepth 16384

noncomputable section

namespace Cert.PrepIdeal.Att

open Cert.PrepIdeal Cert.PrepIdeal.Gen Idealize.ShloMosaic Idealize.ShloMosaic.TcCoe Idealize.SL.Sem
open Cert.PrepSpec Cert.MemSpec
open Cert.Masked (Fin')

/-- The lanes in the first half of their head. -/
theorem first_at : ∀ e : Fin 256, k0_pay2 (ix2 (0 : Fin 1) e) = if e.val % 64 < 32 then 1#1 else 0#1 := by
  decide +kernel

/-- The lanes of the keys. -/
theorem isk_at : ∀ e : Fin 256, k0_pay4 k0_pay3 2#32 (ix2 (0 : Fin 1) e) = if e.val / 64 % 2 = 0 then 1#1 else 0#1 := by
  decide +kernel

/-- The split sum of squares. -/
theorem pay9_at (E : Vec Ideal S256x256 .bf16) (X : Vec Ideal S1x512x256 .f32) (r : Fin 512) (e : Fin 256) :
    k0_pay9 (F := Ideal) E X (ix2 r e)
      = ((∑ k : Fin 256, X (ix3 0 r k) * X (ix3 0 r k) * E (ix2 k e))
        + ((∑ k : Fin 256, (X (ix3 0 r k) * X (ix3 0 r k) - X (ix3 0 r k) * X (ix3 0 r k)) * E (ix2 k e))
          + ∑ k : Fin 256, (X (ix3 0 r k) * X (ix3 0 r k) - X (ix3 0 r k) * X (ix3 0 r k)
              - (X (ix3 0 r k) * X (ix3 0 r k) - X (ix3 0 r k) * X (ix3 0 r k))) * E (ix2 k e)) : EReal) := by
  pointwise [k0_pay9, k0_pay7]

/-- The split sum of squares, scaled, plus the constant. -/
theorem pay19_at (E : Vec Ideal S256x256 .bf16) (X : Vec Ideal S1x512x256 .f32) (r : Fin 512) (e : Fin 256) :
    k0_pay19 (F := Ideal) E X (ix2 r e)
      = ((∑ k : Fin 256, X (ix3 0 r k) * X (ix3 0 r k) * E (ix2 k e))
        + ((∑ k : Fin 256, (X (ix3 0 r k) * X (ix3 0 r k) - X (ix3 0 r k) * X (ix3 0 r k)) * E (ix2 k e))
          + ∑ k : Fin 256, (X (ix3 0 r k) * X (ix3 0 r k) - X (ix3 0 r k) * X (ix3 0 r k)
              - (X (ix3 0 r k) * X (ix3 0 r k) - X (ix3 0 r k) * X (ix3 0 r k))) * E (ix2 k e))) * Ideal.ofBits FTy.f32 0x3C800000#32
          + Ideal.ofBits FTy.f32 897988541#32 := by
  pointwise [k0_pay19, k0_pay17]

/-- The normalised block. -/
theorem pay10_at (v : FVec Ideal S512x256 .f32) (g : FVec Ideal S1x256 .f32) (w : FVec Ideal S512x256 .f32) (r : Fin 512) (e : Fin 256) :
    k0_pay10 (F := Ideal) v g w (ix2 r e)
      = HMul.hMul (α := EReal) (β := EReal) (γ := EReal) (v (ix2 r e) * Ideal.rsqrt (w (ix2 r e) * Ideal.ofBits FTy.f32 0x3C800000#32 + Ideal.ofBits FTy.f32 897988541#32)) (g (ix2 0 e)) := by
  pointwise [k0_pay10]

/-- A lane normalised by the split sum is a lane of its head normalised. -/
theorem norm_lane (p : Fin 256 → EReal) (hp : ∀ k, Fin' (p k)) (E : Fin 256 → EReal) (e : Fin 256)
    (hE : ∀ k, E k = if k.val / 64 = e.val / 64 then (1 : EReal) else 0) (g : Fin 64 → EReal) (G : EReal) (hG : G = g (ln e)) :
    p e * Ideal.rsqrt (((∑ k, p k * p k * E k) + ((∑ k, (p k * p k - p k * p k) * E k) + ∑ k, (p k * p k - p k * p k - (p k * p k - p k * p k)) * E k))
      * Ideal.ofBits FTy.f32 0x3C800000#32 + Ideal.ofBits FTy.f32 897988541#32) * G = key (part p (hd e)) g (ln e) := by
  rw [split_sum p hp E e hE, mul_inv64, hG]
  unfold key
  have he : part p (hd e) (ln e) = p e := congrArg p (Fin.ext (by show e.val / 64 * 64 + e.val % 64 = e.val; omega))
  rw [he]

/-- A lane times the cosine plus its partner times the signed sine is a lane of its head rotated. -/
theorem rope_lane (c s : Fin 32 → EReal) (y : Fin 256 → EReal) (z : Fin 64 → EReal) (e : Fin 256) (C S : EReal)
    (hy : ∀ e' : Fin 256, e'.val / 64 = e.val / 64 → y e' = z (ln e')) (hC : C = c ⟨e.val % 32, by omega⟩)
    (hS : S = if e.val % 64 < 32 then -(s ⟨e.val % 32, by omega⟩) else s ⟨e.val % 32, by omega⟩) :
    y e * C + Scalar.select (if e.val % 64 < 32 then 1#1 else 0#1) (y ⟨(e.val + 256 - 224) % 256, by omega⟩) (y ⟨(e.val + 256 - 32) % 256, by omega⟩) * S
      = rot c s z (ln e) := by
  refine rot_lane c s y z e C S _ (hy e rfl) hC hS ?_
  by_cases h : e.val % 64 < 32
  · rw [if_pos h, dif_pos h]
    refine (if_pos rfl).trans ((hy _ ?_).trans (congrArg z (Fin.ext ?_)))
    · show (e.val + 256 - 224) % 256 / 64 = e.val / 64; omega
    · show (e.val + 256 - 224) % 256 % 64 = 32 + e.val % 64; omega
  · rw [if_neg h, dif_neg h]
    refine (if_neg (by decide)).trans ((hy _ ?_).trans (congrArg z (Fin.ext ?_)))
    · show (e.val + 256 - 32) % 256 / 64 = e.val / 64; omega
    · show (e.val + 256 - 32) % 256 % 64 = e.val % 64 - 32; omega

section Blocks

variable (E : Vec Ideal S256x256 .bf16) (C S : Vec Ideal S512x256 .f32) (X : Vec Ideal S1x512x256 .f32) (G : Vec Ideal S1x256 .f32)
variable (hE : ∀ k o : Fin 256, E (ix2 k o) = if k.val / 64 = o.val / 64 then (1 : EReal) else 0)
variable (r : Fin 512) (hX : ∀ k, Fin' (X (ix3 0 r k))) (g : Fin 64 → EReal)
include hE hX

/-- The queries of a block, normalised. -/
theorem norm_at (hG : ∀ e : Fin 256, G (ix2 0 e) = g (ln e)) (e : Fin 256) :
    k0_pay10 (F := Ideal) (k0_pay7 X) (k0_pay8 G) (k0_pay9 E X) (ix2 r e) = qn (fun k => X (ix3 0 r k)) g e := by
  refine (pay10_at _ _ _ r e).trans ?_
  rw [pay9_at]
  have h7 : k0_pay7 (F := Ideal) X (ix2 r e) = X (ix3 0 r e) := by pointwise [k0_pay7]
  have h8 : k0_pay8 (F := Ideal) G (ix2 0 e) = G (ix2 0 e) := by pointwise [k0_pay8]
  rw [h7, h8]
  exact norm_lane (fun k => X (ix3 0 r k)) hX (fun k => E (ix2 k e)) e (fun k => hE k e) g _ (hG e)

/-- The block of normalised queries. -/
theorem qn_at (hG : ∀ e : Fin 256, G (ix2 0 e) = g (ln e)) (e : Fin 256) :
    k0_pay11 (F := Ideal) (k0_pay7 X) (k0_pay8 G) (k0_pay9 E X) (ix3 0 r e) = qn (fun k => X (ix3 0 r k)) g e := by
  refine Eq.trans ?_ (norm_at E X G hE r hX g hG e)
  pointwise [k0_pay11]

variable (c s : Fin 32 → EReal) (hC : ∀ e : Fin 256, C (ix2 r e) = c ⟨e.val % 32, by omega⟩)
  (hS : ∀ e : Fin 256, S (ix2 r e) = if e.val % 64 < 32 then -(s ⟨e.val % 32, by omega⟩) else s ⟨e.val % 32, by omega⟩)
include hC hS

/-- The block of rotated queries. -/
theorem qr_at (hG : ∀ e : Fin 256, G (ix2 0 e) = g (ln e)) (e : Fin 256) :
    k0_pay12 (F := Ideal) k0_pay2 (k0_pay5 C) (k0_pay6 S) (k0_pay7 X) (k0_pay8 G) (k0_pay9 E X) (ix3 0 r e)
      = qr c s (fun k => X (ix3 0 r k)) g e := by
  pointwise [k0_pay12]
  have h5 : k0_pay5 (F := Ideal) C (ix2 r e) = C (ix2 r e) := by pointwise [k0_pay5]
  have h6 : k0_pay6 (F := Ideal) S (ix2 r e) = S (ix2 r e) := by pointwise [k0_pay6]
  simp only [norm_at E X G hE r hX g hG]
  rw [h5, h6, first_at e]
  refine rope_lane c s (qn (fun k => X (ix3 0 r k)) g) _ e _ _ (fun e' he => ?_) (hC e) (hS e)
  unfold qn
  rw [show hd e' = hd e from Fin.ext he]

/-- The block of the selected branch's keys and values. -/
theorem slc_at (hG : ∀ e : Fin 256, e.val / 64 % 2 = 0 → G (ix2 0 e) = g (ln e)) (e : Fin 256) :
    k0_pay16 (F := Ideal) k0_pay2 (k0_pay4 k0_pay3 2#32) (k0_pay5 C) (k0_pay6 S) (k0_pay13 X) (k0_pay14 G) (k0_pay15 E X) (Scalar.ofBits .f32 0x3C800000#32) (ix3 0 r e)
      = kvr c s (fun k => X (ix3 0 r k)) g e := by
  pointwise [k0_pay16]
  have h5 : k0_pay5 (F := Ideal) C (ix2 r e) = C (ix2 r e) := by pointwise [k0_pay5]
  have h6 : k0_pay6 (F := Ideal) S (ix2 r e) = S (ix2 r e) := by pointwise [k0_pay6]
  have h13 : ∀ e', k0_pay13 (F := Ideal) X (ix2 r e') = X (ix3 0 r e') := fun e' => by pointwise [k0_pay13]
  have h14 : ∀ e', k0_pay14 (F := Ideal) G (ix2 0 e') = G (ix2 0 e') := fun e' => by pointwise [k0_pay14]
  have h15 : ∀ e', k0_pay15 (F := Ideal) E X (ix2 r e') = _ := fun e' => pay9_at E X r e'
  simp only [h13, h14, h15]
  rw [h5, h6, first_at e, isk_at e]
  unfold kvr
  by_cases hk : e.val / 64 % 2 = 0
  · rw [if_pos hk, if_pos hk]
    refine (if_pos rfl).trans ?_
    refine rope_lane c s (fun e' => HMul.hMul (α := EReal) (β := EReal) (γ := EReal) (X (ix3 0 r e') * Ideal.rsqrt (((∑ k : Fin 256, X (ix3 0 r k) * X (ix3 0 r k) * E (ix2 k e'))
        + ((∑ k : Fin 256, (X (ix3 0 r k) * X (ix3 0 r k) - X (ix3 0 r k) * X (ix3 0 r k)) * E (ix2 k e'))
          + ∑ k : Fin 256, (X (ix3 0 r k) * X (ix3 0 r k) - X (ix3 0 r k) * X (ix3 0 r k)
              - (X (ix3 0 r k) * X (ix3 0 r k) - X (ix3 0 r k) * X (ix3 0 r k))) * E (ix2 k e'))) * Ideal.ofBits FTy.f32 0x3C800000#32
          + Ideal.ofBits FTy.f32 897988541#32)) (G (ix2 0 e'))) _ e _ _ (fun e' he => ?_) (hC e) (hS e)
    refine (norm_lane (fun k => X (ix3 0 r k)) hX (fun k => E (ix2 k e')) e' (fun k => hE k e') g _ (hG e' (by omega))).trans ?_
    rw [show hd e' = hd e from Fin.ext he]
  · rw [if_neg hk, if_neg hk]
    exact if_neg (by decide)

/-- The block of the window's keys and values. -/
theorem win_at (hG : ∀ e : Fin 256, e.val / 64 % 2 = 0 → G (ix2 0 e) = g (ln e)) (e : Fin 256) :
    k0_pay1 (F := Ideal) k0_pay2 (k0_pay4 k0_pay3 2#32) (k0_pay5 C) (k0_pay6 S) (k0_pay17 X) (k0_pay18 G) (k0_pay19 E X) (ix3 0 r e)
      = kvr c s (fun k => X (ix3 0 r k)) g e := by
  refine Eq.trans ?_ (slc_at E C S X G hE r hX g c s hC hS hG e)
  pointwise [k0_pay1, k0_pay16]
  have h19 : ∀ e', k0_pay19 (F := Ideal) E X (ix2 r e')
      = HAdd.hAdd (α := EReal) (β := EReal) (γ := EReal) (k0_pay15 (F := Ideal) E X (ix2 r e') * Ideal.ofBits FTy.f32 0x3C800000#32) (Ideal.ofBits FTy.f32 897988541#32) :=
    fun e' => (pay19_at E X r e').trans (by rw [← pay9_at E X r e']; rfl)
  simp only [h19]
  rfl

end Blocks

end Cert.PrepIdeal.Att
-- ==== Proof.Ones0.lean ====
/- Rows of the table of same-head lanes that the preparation kernel spells out as a literal. -/
module

public import proofs.«01_k».proof.PrepIdeal

@[expose] public section

set_option maxRecDepth 16384
set_option Elab.async false

noncomputable section

namespace Cert.PrepIdeal.Att

open Cert.PrepIdeal Idealize.ShloMosaic

/-- Entries of eight rows: one where row and column lie in one head, else zero. -/
theorem ones_rows0 : ∀ (n : Fin 8) (o : Fin 256), lit0 ⟨(0 + n.val) * 256 + o.val, by omega⟩
    = if (0 + n.val) / 64 = o.val / 64 then 0x3F80#16 else 0#16 := by
  decide +kernel

/-- Entries of eight rows: one where row and column lie in one head, else zero. -/
theorem ones_rows1 : ∀ (n : Fin 8) (o : Fin 256), lit0 ⟨(8 + n.val) * 256 + o.val, by omega⟩
    = if (8 + n.val) / 64 = o.val / 64 then 0x3F80#16 else 0#16 := by
  decide +kernel

/-- Entries of eight rows: one where row and column lie in one head, else zero. -/
theorem ones_rows2 : ∀ (n : Fin 8) (o : Fin 256), lit0 ⟨(16 + n.val) * 256 + o.val, by omega⟩
    = if (16 + n.val) / 64 = o.val / 64 then 0x3F80#16 else 0#16 := by
  decide +kernel

/-- Entries of eight rows: one where row and column lie in one head, else zero. -/
theorem ones_rows3 : ∀ (n : Fin 8) (o : Fin 256), lit0 ⟨(24 + n.val) * 256 + o.val, by omega⟩
    = if (24 + n.val) / 64 = o.val / 64 then 0x3F80#16 else 0#16 := by
  decide +kernel

end Cert.PrepIdeal.Att
-- ==== Proof.Ones1.lean ====
/- Rows of the table of same-head lanes that the preparation kernel spells out as a literal. -/
module

public import proofs.«01_k».proof.PrepIdeal

@[expose] public section

set_option maxRecDepth 16384
set_option Elab.async false

noncomputable section

namespace Cert.PrepIdeal.Att

open Cert.PrepIdeal Idealize.ShloMosaic

/-- Entries of eight rows: one where row and column lie in one head, else zero. -/
theorem ones_rows4 : ∀ (n : Fin 8) (o : Fin 256), lit0 ⟨(32 + n.val) * 256 + o.val, by omega⟩
    = if (32 + n.val) / 64 = o.val / 64 then 0x3F80#16 else 0#16 := by
  decide +kernel

/-- Entries of eight rows: one where row and column lie in one head, else zero. -/
theorem ones_rows5 : ∀ (n : Fin 8) (o : Fin 256), lit0 ⟨(40 + n.val) * 256 + o.val, by omega⟩
    = if (40 + n.val) / 64 = o.val / 64 then 0x3F80#16 else 0#16 := by
  decide +kernel

/-- Entries of eight rows: one where row and column lie in one head, else zero. -/
theorem ones_rows6 : ∀ (n : Fin 8) (o : Fin 256), lit0 ⟨(48 + n.val) * 256 + o.val, by omega⟩
    = if (48 + n.val) / 64 = o.val / 64 then 0x3F80#16 else 0#16 := by
  decide +kernel

/-- Entries of eight rows: one where row and column lie in one head, else zero. -/
theorem ones_rows7 : ∀ (n : Fin 8) (o : Fin 256), lit0 ⟨(56 + n.val) * 256 + o.val, by omega⟩
    = if (56 + n.val) / 64 = o.val / 64 then 0x3F80#16 else 0#16 := by
  decide +kernel

end Cert.PrepIdeal.Att
-- ==== Proof.Ones2.lean ====
/- Rows of the table of same-head lanes that the preparation kernel spells out as a literal. -/
module

public import proofs.«01_k».proof.PrepIdeal

@[expose] public section

set_option maxRecDepth 16384
set_option Elab.async false

noncomputable section

namespace Cert.PrepIdeal.Att

open Cert.PrepIdeal Idealize.ShloMosaic

/-- Entries of eight rows: one where row and column lie in one head, else zero. -/
theorem ones_rows8 : ∀ (n : Fin 8) (o : Fin 256), lit0 ⟨(64 + n.val) * 256 + o.val, by omega⟩
    = if (64 + n.val) / 64 = o.val / 64 then 0x3F80#16 else 0#16 := by
  decide +kernel

/-- Entries of eight rows: one where row and column lie in one head, else zero. -/
theorem ones_rows9 : ∀ (n : Fin 8) (o : Fin 256), lit0 ⟨(72 + n.val) * 256 + o.val, by omega⟩
    = if (72 + n.val) / 64 = o.val / 64 then 0x3F80#16 else 0#16 := by
  decide +kernel

/-- Entries of eight rows: one where row and column lie in one head, else zero. -/
theorem ones_rows10 : ∀ (n : Fin 8) (o : Fin 256), lit0 ⟨(80 + n.val) * 256 + o.val, by omega⟩
    = if (80 + n.val) / 64 = o.val / 64 then 0x3F80#16 else 0#16 := by
  decide +kernel

/-- Entries of eight rows: one where row and column lie in one head, else zero. -/
theorem ones_rows11 : ∀ (n : Fin 8) (o : Fin 256), lit0 ⟨(88 + n.val) * 256 + o.val, by omega⟩
    = if (88 + n.val) / 64 = o.val / 64 then 0x3F80#16 else 0#16 := by
  decide +kernel

end Cert.PrepIdeal.Att
-- ==== Proof.Ones3.lean ====
/- Rows of the table of same-head lanes that the preparation kernel spells out as a literal. -/
module

public import proofs.«01_k».proof.PrepIdeal

@[expose] public section

set_option maxRecDepth 16384
set_option Elab.async false

noncomputable section

namespace Cert.PrepIdeal.Att

open Cert.PrepIdeal Idealize.ShloMosaic

/-- Entries of eight rows: one where row and column lie in one head, else zero. -/
theorem ones_rows12 : ∀ (n : Fin 8) (o : Fin 256), lit0 ⟨(96 + n.val) * 256 + o.val, by omega⟩
    = if (96 + n.val) / 64 = o.val / 64 then 0x3F80#16 else 0#16 := by
  decide +kernel

/-- Entries of eight rows: one where row and column lie in one head, else zero. -/
theorem ones_rows13 : ∀ (n : Fin 8) (o : Fin 256), lit0 ⟨(104 + n.val) * 256 + o.val, by omega⟩
    = if (104 + n.val) / 64 = o.val / 64 then 0x3F80#16 else 0#16 := by
  decide +kernel

/-- Entries of eight rows: one where row and column lie in one head, else zero. -/
theorem ones_rows14 : ∀ (n : Fin 8) (o : Fin 256), lit0 ⟨(112 + n.val) * 256 + o.val, by omega⟩
    = if (112 + n.val) / 64 = o.val / 64 then 0x3F80#16 else 0#16 := by
  decide +kernel

/-- Entries of eight rows: one where row and column lie in one head, else zero. -/
theorem ones_rows15 : ∀ (n : Fin 8) (o : Fin 256), lit0 ⟨(120 + n.val) * 256 + o.val, by omega⟩
    = if (120 + n.val) / 64 = o.val / 64 then 0x3F80#16 else 0#16 := by
  decide +kernel

end Cert.PrepIdeal.Att
-- ==== Proof.Ones4.lean ====
/- Rows of the table of same-head lanes that the preparation kernel spells out as a literal. -/
module

public import proofs.«01_k».proof.PrepIdeal

@[expose] public section

set_option maxRecDepth 16384
set_option Elab.async false

noncomputable section

namespace Cert.PrepIdeal.Att

open Cert.PrepIdeal Idealize.ShloMosaic

/-- Entries of eight rows: one where row and column lie in one head, else zero. -/
theorem ones_rows16 : ∀ (n : Fin 8) (o : Fin 256), lit0 ⟨(128 + n.val) * 256 + o.val, by omega⟩
    = if (128 + n.val) / 64 = o.val / 64 then 0x3F80#16 else 0#16 := by
  decide +kernel

/-- Entries of eight rows: one where row and column lie in one head, else zero. -/
theorem ones_rows17 : ∀ (n : Fin 8) (o : Fin 256), lit0 ⟨(136 + n.val) * 256 + o.val, by omega⟩
    = if (136 + n.val) / 64 = o.val / 64 then 0x3F80#16 else 0#16 := by
  decide +kernel

/-- Entries of eight rows: one where row and column lie in one head, else zero. -/
theorem ones_rows18 : ∀ (n : Fin 8) (o : Fin 256), lit0 ⟨(144 + n.val) * 256 + o.val, by omega⟩
    = if (144 + n.val) / 64 = o.val / 64 then 0x3F80#16 else 0#16 := by
  decide +kernel

/-- Entries of eight rows: one where row and column lie in one head, else zero. -/
theorem ones_rows19 : ∀ (n : Fin 8) (o : Fin 256), lit0 ⟨(152 + n.val) * 256 + o.val, by omega⟩
    = if (152 + n.val) / 64 = o.val / 64 then 0x3F80#16 else 0#16 := by
  decide +kernel

end Cert.PrepIdeal.Att
-- ==== Proof.Ones5.lean ====
/- Rows of the table of same-head lanes that the preparation kernel spells out as a literal. -/
module

public import proofs.«01_k».proof.PrepIdeal

@[expose] public section

set_option maxRecDepth 16384
set_option Elab.async false

noncomputable section

namespace Cert.PrepIdeal.Att

open Cert.PrepIdeal Idealize.ShloMosaic

/-- Entries of eight rows: one where row and column lie in one head, else zero. -/
theorem ones_rows20 : ∀ (n : Fin 8) (o : Fin 256), lit0 ⟨(160 + n.val) * 256 + o.val, by omega⟩
    = if (160 + n.val) / 64 = o.val / 64 then 0x3F80#16 else 0#16 := by
  decide +kernel

/-- Entries of eight rows: one where row and column lie in one head, else zero. -/
theorem ones_rows21 : ∀ (n : Fin 8) (o : Fin 256), lit0 ⟨(168 + n.val) * 256 + o.val, by omega⟩
    = if (168 + n.val) / 64 = o.val / 64 then 0x3F80#16 else 0#16 := by
  decide +kernel

/-- Entries of eight rows: one where row and column lie in one head, else zero. -/
theorem ones_rows22 : ∀ (n : Fin 8) (o : Fin 256), lit0 ⟨(176 + n.val) * 256 + o.val, by omega⟩
    = if (176 + n.val) / 64 = o.val / 64 then 0x3F80#16 else 0#16 := by
  decide +kernel

/-- Entries of eight rows: one where row and column lie in one head, else zero. -/
theorem ones_rows23 : ∀ (n : Fin 8) (o : Fin 256), lit0 ⟨(184 + n.val) * 256 + o.val, by omega⟩
    = if (184 + n.val) / 64 = o.val / 64 then 0x3F80#16 else 0#16 := by
  decide +kernel

end Cert.PrepIdeal.Att
-- ==== Proof.Ones6.lean ====
/- Rows of the table of same-head lanes that the preparation kernel spells out as a literal. -/
module

public import proofs.«01_k».proof.PrepIdeal

@[expose] public section

set_option maxRecDepth 16384
set_option Elab.async false

noncomputable section

namespace Cert.PrepIdeal.Att

open Cert.PrepIdeal Idealize.ShloMosaic

/-- Entries of eight rows: one where row and column lie in one head, else zero. -/
theorem ones_rows24 : ∀ (n : Fin 8) (o : Fin 256), lit0 ⟨(192 + n.val) * 256 + o.val, by omega⟩
    = if (192 + n.val) / 64 = o.val / 64 then 0x3F80#16 else 0#16 := by
  decide +kernel

/-- Entries of eight rows: one where row and column lie in one head, else zero. -/
theorem ones_rows25 : ∀ (n : Fin 8) (o : Fin 256), lit0 ⟨(200 + n.val) * 256 + o.val, by omega⟩
    = if (200 + n.val) / 64 = o.val / 64 then 0x3F80#16 else 0#16 := by
  decide +kernel

/-- Entries of eight rows: one where row and column lie in one head, else zero. -/
theorem ones_rows26 : ∀ (n : Fin 8) (o : Fin 256), lit0 ⟨(208 + n.val) * 256 + o.val, by omega⟩
    = if (208 + n.val) / 64 = o.val / 64 then 0x3F80#16 else 0#16 := by
  decide +kernel

/-- Entries of eight rows: one where row and column lie in one head, else zero. -/
theorem ones_rows27 : ∀ (n : Fin 8) (o : Fin 256), lit0 ⟨(216 + n.val) * 256 + o.val, by omega⟩
    = if (216 + n.val) / 64 = o.val / 64 then 0x3F80#16 else 0#16 := by
  decide +kernel

end Cert.PrepIdeal.Att
-- ==== Proof.Ones7.lean ====
/- Rows of the table of same-head lanes that the preparation kernel spells out as a literal. -/
module

public import proofs.«01_k».proof.PrepIdeal

@[expose] public section

set_option maxRecDepth 16384
set_option Elab.async false

noncomputable section

namespace Cert.PrepIdeal.Att

open Cert.PrepIdeal Idealize.ShloMosaic

/-- Entries of eight rows: one where row and column lie in one head, else zero. -/
theorem ones_rows28 : ∀ (n : Fin 8) (o : Fin 256), lit0 ⟨(224 + n.val) * 256 + o.val, by omega⟩
    = if (224 + n.val) / 64 = o.val / 64 then 0x3F80#16 else 0#16 := by
  decide +kernel

/-- Entries of eight rows: one where row and column lie in one head, else zero. -/
theorem ones_rows29 : ∀ (n : Fin 8) (o : Fin 256), lit0 ⟨(232 + n.val) * 256 + o.val, by omega⟩
    = if (232 + n.val) / 64 = o.val / 64 then 0x3F80#16 else 0#16 := by
  decide +kernel

/-- Entries of eight rows: one where row and column lie in one head, else zero. -/
theorem ones_rows30 : ∀ (n : Fin 8) (o : Fin 256), lit0 ⟨(240 + n.val) * 256 + o.val, by omega⟩
    = if (240 + n.val) / 64 = o.val / 64 then 0x3F80#16 else 0#16 := by
  decide +kernel

/-- Entries of eight rows: one where row and column lie in one head, else zero. -/
theorem ones_rows31 : ∀ (n : Fin 8) (o : Fin 256), lit0 ⟨(248 + n.val) * 256 + o.val, by omega⟩
    = if (248 + n.val) / 64 = o.val / 64 then 0x3F80#16 else 0#16 := by
  decide +kernel

end Cert.PrepIdeal.Att
-- ==== Proof.Ones.lean ====
/- The entries of the table of same-head lanes that the preparation kernel spells out as a literal. -/
module

public import proofs.«01_k».proof.Proof.OutSpec
public import proofs.«01_k».proof.Proof.Ones0
public import proofs.«01_k».proof.Proof.Ones1
public import proofs.«01_k».proof.Proof.Ones2
public import proofs.«01_k».proof.Proof.Ones3
public import proofs.«01_k».proof.Proof.Ones4
public import proofs.«01_k».proof.Proof.Ones5
public import proofs.«01_k».proof.Proof.Ones6
public import proofs.«01_k».proof.Proof.Ones7

@[expose] public section

set_option maxRecDepth 16384

noncomputable section

namespace Cert.PrepIdeal.Att

open Cert.PrepIdeal Idealize.ShloMosaic Idealize.ShloMosaic.TcCoe Idealize.SL.Sem

/-- Entry `(n, o)` is one where lanes `n` and `o` lie in one head, else zero. -/
theorem ones_eq : ∀ (n o : Fin 256), lit0 ⟨n.val * 256 + o.val, by omega⟩
    = if n.val / 64 = o.val / 64 then 0x3F80#16 else 0#16 := by
  intro n o
  obtain ⟨n, hn⟩ := n
  have key : ∀ k r : ℕ, ∀ _ : k < 32, ∀ hr : r < 8, lit0 ⟨(k * 8 + r) * 256 + o.val, by omega⟩
      = if (k * 8 + r) / 64 = o.val / 64 then 0x3F80#16 else 0#16 := by
    intro k r hk hr
    interval_cases k
    · have h := ones_rows0 ⟨r, hr⟩ o
      revert h; generalize lit0 = L; intro h; exact h
    · have h := ones_rows1 ⟨r, hr⟩ o
      revert h; generalize lit0 = L; intro h; exact h
    · have h := ones_rows2 ⟨r, hr⟩ o
      revert h; generalize lit0 = L; intro h; exact h
    · have h := ones_rows3 ⟨r, hr⟩ o
      revert h; generalize lit0 = L; intro h; exact h
    · have h := ones_rows4 ⟨r, hr⟩ o
      revert h; generalize lit0 = L; intro h; exact h
    · have h := ones_rows5 ⟨r, hr⟩ o
      revert h; generalize lit0 = L; intro h; exact h
    · have h := ones_rows6 ⟨r, hr⟩ o
      revert h; generalize lit0 = L; intro h; exact h
    · have h := ones_rows7 ⟨r, hr⟩ o
      revert h; generalize lit0 = L; intro h; exact h
    · have h := ones_rows8 ⟨r, hr⟩ o
      revert h; generalize lit0 = L; intro h; exact h
    · have h := ones_rows9 ⟨r, hr⟩ o
      revert h; generalize lit0 = L; intro h; exact h
    · have h := ones_rows10 ⟨r, hr⟩ o
      revert h; generalize lit0 = L; intro h; exact h
    · have h := ones_rows11 ⟨r, hr⟩ o
      revert h; generalize lit0 = L; intro h; exact h
    · have h := ones_rows12 ⟨r, hr⟩ o
      revert h; generalize lit0 = L; intro h; exact h
    · have h := ones_rows13 ⟨r, hr⟩ o
      revert h; generalize lit0 = L; intro h; exact h
    · have h := ones_rows14 ⟨r, hr⟩ o
      revert h; generalize lit0 = L; intro h; exact h
    · have h := ones_rows15 ⟨r, hr⟩ o
      revert h; generalize lit0 = L; intro h; exact h
    · have h := ones_rows16 ⟨r, hr⟩ o
      revert h; generalize lit0 = L; intro h; exact h
    · have h := ones_rows17 ⟨r, hr⟩ o
      revert h; generalize lit0 = L; intro h; exact h
    · have h := ones_rows18 ⟨r, hr⟩ o
      revert h; generalize lit0 = L; intro h; exact h
    · have h := ones_rows19 ⟨r, hr⟩ o
      revert h; generalize lit0 = L; intro h; exact h
    · have h := ones_rows20 ⟨r, hr⟩ o
      revert h; generalize lit0 = L; intro h; exact h
    · have h := ones_rows21 ⟨r, hr⟩ o
      revert h; generalize lit0 = L; intro h; exact h
    · have h := ones_rows22 ⟨r, hr⟩ o
      revert h; generalize lit0 = L; intro h; exact h
    · have h := ones_rows23 ⟨r, hr⟩ o
      revert h; generalize lit0 = L; intro h; exact h
    · have h := ones_rows24 ⟨r, hr⟩ o
      revert h; generalize lit0 = L; intro h; exact h
    · have h := ones_rows25 ⟨r, hr⟩ o
      revert h; generalize lit0 = L; intro h; exact h
    · have h := ones_rows26 ⟨r, hr⟩ o
      revert h; generalize lit0 = L; intro h; exact h
    · have h := ones_rows27 ⟨r, hr⟩ o
      revert h; generalize lit0 = L; intro h; exact h
    · have h := ones_rows28 ⟨r, hr⟩ o
      revert h; generalize lit0 = L; intro h; exact h
    · have h := ones_rows29 ⟨r, hr⟩ o
      revert h; generalize lit0 = L; intro h; exact h
    · have h := ones_rows30 ⟨r, hr⟩ o
      revert h; generalize lit0 = L; intro h; exact h
    · have h := ones_rows31 ⟨r, hr⟩ o
      revert h; generalize lit0 = L; intro h; exact h
  have e : n = n / 8 * 8 + n % 8 := by omega
  have h := key (n / 8) (n % 8) (by omega) (by omega)
  revert h; generalize lit0 = L; intro h
  simp only [← e] at h
  exact h

/-- The entries over the reals. -/
theorem ones_ideal (n o : Fin 256) : Ideal.ofBits .bf16 (lit0 ⟨n.val * 256 + o.val, by omega⟩)
    = if n.val / 64 = o.val / 64 then (1 : EReal) else 0 := by
  rw [ones_eq]
  split
  · have h : ¬ ((0x3F80#16 : BitVec 16).extractLsb' 15 1 = 1#1) := by decide
    simp only [Ideal.ofBits, Ideal.ieee]
    norm_num [Nat.shiftRight_eq_div_pow, h]
  · simp only [Ideal.ofBits, Ideal.ieee]; norm_num

end Cert.PrepIdeal.Att
-- ==== Proof.PrepKernel.lean ====
/- What the preparation kernel leaves, as functions of its argument arrays. -/
module

public import proofs.«01_k».proof.Proof.PrepHost
public import proofs.«01_k».proof.Proof.PrepPay
public import proofs.«01_k».proof.Proof.Ones

@[expose] public section

set_option maxRecDepth 16384

noncomputable section

namespace Cert.PrepIdeal.Att

open Cert.PrepIdeal Cert.PrepIdeal.Gen Idealize.ShloMosaic Idealize.ShloMosaic.TcCoe Idealize.SL.Sem
open Cert.PrepSpec
open Cert.Masked (Fin')
open Cert.PrepRefIdeal.Att (cosT sinT cut)

variable (m : (ℓ : Loc nD τ sig) → Buf (Elt Ideal) ℓ)

/-- The index maps of the windows. -/
theorem idx : ∀ t : Fin cfg0.N,
    win0_0.index t = ![(grid0.coords t 0).val, (grid0.coords t 1).val, 5] ∧ win0_1.index t = ![(grid0.coords t 0).val, (grid0.coords t 1).val, 7]
    ∧ win0_2.index t = ![(grid0.coords t 0).val, (grid0.coords t 1).val, 8] ∧ win0_3.index t = ![(grid0.coords t 1).val, 0]
    ∧ win0_4.index t = ![(grid0.coords t 1).val, 0] ∧ win0_5.index t = ![0, 0] ∧ win0_6.index t = ![0, 0]
    ∧ win0_7.index t = ![(grid0.coords t 0).val, (grid0.coords t 1).val, 0] ∧ win0_8.index t = ![(grid0.coords t 0).val, (grid0.coords t 1).val, 0]
    ∧ win0_9.index t = ![(grid0.coords t 0).val, (grid0.coords t 1).val, 0] ∧ win0_10.index t = ![(grid0.coords t 0).val, (grid0.coords t 1).val, 0] :=
  (by decide +kernel : ∀ t : Fin grid0.N, _)

/-- The sequence a block is of. -/
def seqOf (t : Fin cfg0.N) : Fin 4 := ⟨(grid0.coords t 0).val, (grid0.coords t 0).isLt⟩
/-- The position a block's row is at. -/
def posOf (t : Fin cfg0.N) (r : Fin 512) : Fin 4096 :=
  ⟨(grid0.coords t 1).val * 512 + r.val, by have h0 : (grid0.coords t 1).val < 8 := (grid0.coords t 1).isLt; omega⟩

/-- The packed rows, read with sequences and positions apart. -/
theorem castp_at (X : Vec Ideal S16384x4480 .f32) (b : Fin 4) (t : Fin 4096) (e : Fin 4480) :
    shapeCast S4x4096x4480 X shapeCasts_S16384x4480_S4x4096x4480 (ix3 b t e) = X (ix2 ⟨b.val * 4096 + t.val, by omega⟩ e) := by
  pointwise []

/-- The packed rows and the gains of a memory. -/
def xs (c : Dev nD) : Vec Ideal S16384x4480 .f32 := m ((c : Thread nD τ).loc main_arg0)
def gs (c : Dev nD) : Vec Ideal S4x64 .f32 := m ((c : Thread nD τ).loc main_arg1)

theorem b0 (c : Dev nD) (t : Fin cfg0.N) (r : Fin 512) (e : Fin 256) : X0_0 m c t (ix3 0 r e) = cut (xs m c) 1280 (by decide) (seqOf t) (posOf t r) e := by
  refine Eq.trans (b := (V m c main_v50 : Vec Ideal S4x4096x4480 .f32) (ix3 (seqOf t) (posOf t r) ⟨1280 + e.val, by omega⟩)) ?_ ?_
  · unfold X0_0 Pipeline.Window.fill
    rw [dif_pos (moved0_0 t _)]
    unfold seqOf posOf; blk_ext [iblk, idx t]
  · rw [V_v50]; exact castp_at _ _ _ _

theorem b1 (c : Dev nD) (t : Fin cfg0.N) (r : Fin 512) (e : Fin 256) : X0_1 m c t (ix3 0 r e) = cut (xs m c) 1792 (by decide) (seqOf t) (posOf t r) e := by
  refine Eq.trans (b := (V m c main_v50 : Vec Ideal S4x4096x4480 .f32) (ix3 (seqOf t) (posOf t r) ⟨1792 + e.val, by omega⟩)) ?_ ?_
  · unfold X0_1 Pipeline.Window.fill
    rw [dif_pos (moved0_1 t _)]
    unfold seqOf posOf; blk_ext [iblk, idx t]
  · rw [V_v50]; exact castp_at _ _ _ _

theorem b2 (c : Dev nD) (t : Fin cfg0.N) (r : Fin 512) (e : Fin 256) : X0_2 m c t (ix3 0 r e) = cut (xs m c) 2048 (by decide) (seqOf t) (posOf t r) e := by
  refine Eq.trans (b := (V m c main_v50 : Vec Ideal S4x4096x4480 .f32) (ix3 (seqOf t) (posOf t r) ⟨2048 + e.val, by omega⟩)) ?_ ?_
  · unfold X0_2 Pipeline.Window.fill
    rw [dif_pos (moved0_2 t _)]
    unfold seqOf posOf; blk_ext [iblk, idx t]
  · rw [V_v50]; exact castp_at _ _ _ _

theorem b3 (c : Dev nD) (t : Fin cfg0.N) (r : Fin 512) (e : Fin 256) : iblk m c 3 t (ix2 r e) = cosT (posOf t r) ⟨e.val % 32, by omega⟩ := by
  refine Eq.trans (b := (V m c main_v44 : Vec Ideal S4096x256 .f32) (ix2 (posOf t r) e)) ?_ ?_
  · unfold posOf; blk_ext [iblk, idx t]
  · rw [V_v44]; exact cos_at _ _

theorem b4 (c : Dev nD) (t : Fin cfg0.N) (r : Fin 512) (e : Fin 256) : iblk m c 4 t (ix2 r e)
    = if e.val % 64 < 32 then -(sinT (posOf t r) ⟨e.val % 32, by omega⟩) else sinT (posOf t r) ⟨e.val % 32, by omega⟩ := by
  refine Eq.trans (b := (V m c main_v49 : Vec Ideal S4096x256 .f32) (ix2 (posOf t r) e)) ?_ ?_
  · unfold posOf; blk_ext [iblk, idx t]
  · rw [V_v49]; exact sin_at _ _

theorem b5 (c : Dev nD) (t : Fin cfg0.N) (k : Fin 8) (e : Fin 256) : iblk m c 5 t (ix2 k e) = gOf (gs m c) (ix2 k e) := by
  refine Eq.trans (b := (V m c main_v23 : Vec Ideal S8x256 .f32) (ix2 k e)) ?_ ?_
  · blk_ext [iblk, idx t]
  · rw [V_v23]; rfl

theorem b6 (c : Dev nD) (t : Fin cfg0.N) (n o : Fin 256) : iblk m c 6 t (ix2 n o) = if n.val / 64 = o.val / 64 then (1 : EReal) else 0 := by
  refine Eq.trans (b := (V m c main_cst : Vec Ideal S256x256 .bf16) (ix2 n o)) ?_ ?_
  · blk_ext [iblk, idx t]
  · rw [V_cst]
    have er : S256x256.rowMajor (ix2 n o) = ⟨n.val * 256 + o.val, by show _ < 65536; omega⟩ :=
      Fin.ext (Shape.rowMajor_val_two _)
    show Ideal.ofBits .bf16 (lit0 (S256x256.rowMajor (ix2 n o))) = _
    rw [er]
    exact ones_ideal n o

/-- A row of gains loaded from the block. -/
theorem ldg (W : Vec Ideal S8x256 .f32) (o : ℕ) (h) (e : Fin 256) (h') :
    View.ld W (Rect.unit (s := S8x256) ![o, 0] S1x256.size h) (ix2 0 e) = W (ix2 ⟨o, h'⟩ e) := by
  pointwise []

/-- What the body leaves of output 0. -/
theorem left7 (c : Dev nD) (hx : ∀ i, Fin' (xs m c i)) (t : Fin cfg0.N) (r : Fin 512) (e : Fin 256) :
    (outsAt0 m c t).1 (ix3 0 r e) = qn (cut (xs m c) 1280 (by decide) (seqOf t) (posOf t r)) (fun d => gs m c (ix2 0 d)) e := by
  unfold outsAt0
  frame_out
  refine (qn_at _ _ _ (b6 m c t) r ?_ (fun d => gs m c (ix2 0 d)) ?_ e).trans ?_
  · intro k; rw [b0]; exact hx _
  · exact fun e => ((ldg _ 0 _ e (by decide)).trans (b5 m c t _ e)).trans (g0_at _ e)
  · exact congrArg (fun p => qn p (fun d => gs m c (ix2 0 d)) e) (funext fun k => b0 m c t r k)

/-- Output 0 after the run. -/
theorem arr7 (c : Dev nD) (hx : ∀ i, Fin' (xs m c i)) : (dats m 0 c).arrAt 7 cfg0.N
    = fun y : S4x4096x256.Idx => qn (cut (xs m c) 1280 (by decide) (y 0) (y 1)) (fun d => gs m c (ix2 0 d)) (y 2) := by
  refine (dats m 0 c).arrAt_eq_of_covers 7 _ (by decide +kernel) fun t hf y => ?_
  blk_simp
  rw [after0_7]
  idx_vars y
  have hy0 : y0 = 0 := Subsingleton.elim _ _
  subst hy0
  have e : (win0_7.blk t).view.emb (ix3 0 y1 y2) = ix3 (seqOf t) (posOf t y1) y2 := by
    unfold seqOf posOf; blk_ext [idx t]
  refine Eq.trans ?_ (congrArg (fun y : S4x4096x256.Idx => qn (cut (xs m c) 1280 (by decide) (y 0) (y 1)) (fun d => gs m c (ix2 0 d)) (y 2)) e).symm
  exact left7 m c hx t y1 y2

/-- What the body leaves of output 1. -/
theorem left8 (c : Dev nD) (hx : ∀ i, Fin' (xs m c i)) (t : Fin cfg0.N) (r : Fin 512) (e : Fin 256) :
    (outsAt0 m c t).2.1 (ix3 0 r e) = qr (cosT (posOf t r)) (sinT (posOf t r)) (cut (xs m c) 1280 (by decide) (seqOf t) (posOf t r)) (fun d => gs m c (ix2 0 d)) e := by
  unfold outsAt0
  frame_out
  refine (qr_at _ _ _ _ _ (b6 m c t) r ?_ (fun d => gs m c (ix2 0 d)) (cosT (posOf t r)) (sinT (posOf t r)) (b3 m c t r) (b4 m c t r) ?_ e).trans ?_
  · intro k; rw [b0]; exact hx _
  · exact fun e => ((ldg _ 0 _ e (by decide)).trans (b5 m c t _ e)).trans (g0_at _ e)
  · exact congrArg (fun p => qr (cosT (posOf t r)) (sinT (posOf t r)) p (fun d => gs m c (ix2 0 d)) e) (funext fun k => b0 m c t r k)

/-- Output 1 after the run. -/
theorem arr8 (c : Dev nD) (hx : ∀ i, Fin' (xs m c i)) : (dats m 0 c).arrAt 8 cfg0.N
    = fun y : S4x4096x256.Idx => qr (cosT (y 1)) (sinT (y 1)) (cut (xs m c) 1280 (by decide) (y 0) (y 1)) (fun d => gs m c (ix2 0 d)) (y 2) := by
  refine (dats m 0 c).arrAt_eq_of_covers 8 _ (by decide +kernel) fun t hf y => ?_
  blk_simp
  rw [after0_8]
  idx_vars y
  have hy0 : y0 = 0 := Subsingleton.elim _ _
  subst hy0
  have e : (win0_8.blk t).view.emb (ix3 0 y1 y2) = ix3 (seqOf t) (posOf t y1) y2 := by
    unfold seqOf posOf; blk_ext [idx t]
  refine Eq.trans ?_ (congrArg (fun y : S4x4096x256.Idx => qr (cosT (y 1)) (sinT (y 1)) (cut (xs m c) 1280 (by decide) (y 0) (y 1)) (fun d => gs m c (ix2 0 d)) (y 2)) e).symm
  exact left8 m c hx t y1 y2

/-- What the body leaves of output 2. -/
theorem left9 (c : Dev nD) (hx : ∀ i, Fin' (xs m c i)) (t : Fin cfg0.N) (r : Fin 512) (e : Fin 256) :
    (outsAt0 m c t).2.2.1 (ix3 0 r e) = kvr (cosT (posOf t r)) (sinT (posOf t r)) (cut (xs m c) 1792 (by decide) (seqOf t) (posOf t r)) (fun d => gs m c (ix2 2 d)) e := by
  unfold outsAt0
  frame_out
  refine (slc_at _ _ _ _ _ (b6 m c t) r ?_ (fun d => gs m c (ix2 2 d)) (cosT (posOf t r)) (sinT (posOf t r)) (b3 m c t r) (b4 m c t r) ?_ e).trans ?_
  · intro k; rw [b1]; exact hx _
  · exact fun e he => ((ldg _ 1 _ e (by decide)).trans (b5 m c t _ e)).trans (g1_at _ e he)
  · exact congrArg (fun p => kvr (cosT (posOf t r)) (sinT (posOf t r)) p (fun d => gs m c (ix2 2 d)) e) (funext fun k => b1 m c t r k)

/-- Output 2 after the run. -/
theorem arr9 (c : Dev nD) (hx : ∀ i, Fin' (xs m c i)) : (dats m 0 c).arrAt 9 cfg0.N
    = fun y : S4x4096x256.Idx => kvr (cosT (y 1)) (sinT (y 1)) (cut (xs m c) 1792 (by decide) (y 0) (y 1)) (fun d => gs m c (ix2 2 d)) (y 2) := by
  refine (dats m 0 c).arrAt_eq_of_covers 9 _ (by decide +kernel) fun t hf y => ?_
  blk_simp
  rw [after0_9]
  idx_vars y
  have hy0 : y0 = 0 := Subsingleton.elim _ _
  subst hy0
  have e : (win0_9.blk t).view.emb (ix3 0 y1 y2) = ix3 (seqOf t) (posOf t y1) y2 := by
    unfold seqOf posOf; blk_ext [idx t]
  refine Eq.trans ?_ (congrArg (fun y : S4x4096x256.Idx => kvr (cosT (y 1)) (sinT (y 1)) (cut (xs m c) 1792 (by decide) (y 0) (y 1)) (fun d => gs m c (ix2 2 d)) (y 2)) e).symm
  exact left9 m c hx t y1 y2

/-- What the body leaves of output 3. -/
theorem left10 (c : Dev nD) (hx : ∀ i, Fin' (xs m c i)) (t : Fin cfg0.N) (r : Fin 512) (e : Fin 256) :
    (outsAt0 m c t).2.2.2 (ix3 0 r e) = kvr (cosT (posOf t r)) (sinT (posOf t r)) (cut (xs m c) 2048 (by decide) (seqOf t) (posOf t r)) (fun d => gs m c (ix2 3 d)) e := by
  unfold outsAt0
  frame_out
  refine (win_at _ _ _ _ _ (b6 m c t) r ?_ (fun d => gs m c (ix2 3 d)) (cosT (posOf t r)) (sinT (posOf t r)) (b3 m c t r) (b4 m c t r) ?_ e).trans ?_
  · intro k; rw [b2]; exact hx _
  · exact fun e he => ((ldg _ 2 _ e (by decide)).trans (b5 m c t _ e)).trans (g2_at _ e he)
  · exact congrArg (fun p => kvr (cosT (posOf t r)) (sinT (posOf t r)) p (fun d => gs m c (ix2 3 d)) e) (funext fun k => b2 m c t r k)

/-- Output 3 after the run. -/
theorem arr10 (c : Dev nD) (hx : ∀ i, Fin' (xs m c i)) : (dats m 0 c).arrAt 10 cfg0.N
    = fun y : S4x4096x256.Idx => kvr (cosT (y 1)) (sinT (y 1)) (cut (xs m c) 2048 (by decide) (y 0) (y 1)) (fun d => gs m c (ix2 3 d)) (y 2) := by
  refine (dats m 0 c).arrAt_eq_of_covers 10 _ (by decide +kernel) fun t hf y => ?_
  blk_simp
  rw [after0_10]
  idx_vars y
  have hy0 : y0 = 0 := Subsingleton.elim _ _
  subst hy0
  have e : (win0_10.blk t).view.emb (ix3 0 y1 y2) = ix3 (seqOf t) (posOf t y1) y2 := by
    unfold seqOf posOf; blk_ext [idx t]
  refine Eq.trans ?_ (congrArg (fun y : S4x4096x256.Idx => kvr (cosT (y 1)) (sinT (y 1)) (cut (xs m c) 2048 (by decide) (y 0) (y 1)) (fun d => gs m c (ix2 3 d)) (y 2)) e).symm
  exact left10 m c hx t y1 y2

end Cert.PrepIdeal.Att
-- ==== Proof.PrepTail.lean ====
/- The results the host code shapes after the preparation kernel. -/
module

public import proofs.«01_k».proof.Proof.PrepKernel

@[expose] public section

set_option maxRecDepth 16384

noncomputable section

namespace Cert.PrepIdeal.Att

open Cert.PrepIdeal Cert.PrepIdeal.Gen Idealize.ShloMosaic Idealize.ShloMosaic.TcCoe Idealize.SL.Sem

variable (m : (ℓ : Loc nD τ sig) → Buf (Elt Ideal) ℓ)

/-- The selected and the window keys and values as the host code after the region finds them. -/
def outS (c : Dev nD) : Vec Ideal S4x4096x256 .f32 := (dats m 0 c).arrAt 9 cfg0.N
def outW (c : Dev nD) : Vec Ideal S4x4096x256 .f32 := (dats m 0 c).arrAt 10 cfg0.N

theorem read_s (c : Dev nD) :
    Pipeline.withArrays (cfgs 0).spec c (V0 m c) (fun w => (dats m 0 c).arrAt w (cfgs 0).N) (Proc.tc.devRef main_v51_2) = outS m c :=
  (dats m 0 c).withArrays_arrAt sharedIn0 (V0 m c) (A_eq m c) 9
theorem read_w (c : Dev nD) :
    Pipeline.withArrays (cfgs 0).spec c (V0 m c) (fun w => (dats m 0 c).arrAt w (cfgs 0).N) (Proc.tc.devRef main_v51_3) = outW m c :=
  (dats m 0 c).withArrays_arrAt sharedIn0 (V0 m c) (A_eq m c) 10

/-- Rows of keys and values, the heads, keys and values apart. -/
def kv5 (A : Vec Ideal S4x4096x256 .f32) : Vec Ideal S4x4096x2x2x64 .f32 := shapeCast S4x4096x2x2x64 A shapeCasts_S4x4096x256_S4x4096x2x2x64
/-- The last positions of them. -/
def last5 (A : Vec Ideal S4x4096x256 .f32) : Vec Ideal S4x512x2x2x64 .f32 :=
  extractStridedSlice S4x512x2x2x64 ![0, 3584, 0, 0, 0] (kv5 A) slices_S4x4096x2x2x64_S4x512x2x2x64_0_3584_0_0_0

/-- The selected keys and values after the run. -/
theorem tail_v52 (c : Dev nD) : Pipeline.afterTail₀ cfgs (dats m) 0 (V0 m) [hostOps1] c main_v52 = kv5 (outS m c) := by
  unfold Pipeline.afterTail₀
  simp only [hostOps1, List.flatten_cons, List.flatten_nil, List.append_nil, StableHlo.after_cons, StableHlo.after_nil]
  after_results_simp
  rw [read_s]
  rfl

/-- The window keys and values after the run. -/
theorem tail_v54 (c : Dev nD) : Pipeline.afterTail₀ cfgs (dats m) 0 (V0 m) [hostOps1] c main_v54 = last5 (outW m c) := by
  unfold Pipeline.afterTail₀
  simp only [hostOps1, List.flatten_cons, List.flatten_nil, List.append_nil, StableHlo.after_cons, StableHlo.after_nil]
  after_results_simp
  rw [read_w]
  rfl

/-- An element of them. -/
theorem kv5_at (A : Vec Ideal S4x4096x256 .f32) (b : Fin 4) (t : Fin 4096) (h j : Fin 2) (d : Fin 64) :
    kv5 A (ix5 b t h j d) = A (ix3 b t ⟨h.val * 128 + j.val * 64 + d.val, by omega⟩) := by
  pointwise [kv5]

theorem last5_at (A : Vec Ideal S4x4096x256 .f32) (b : Fin 4) (t : Fin 512) (h j : Fin 2) (d : Fin 64) :
    last5 A (ix5 b t h j d) = A (ix3 b ⟨3584 + t.val, by omega⟩ ⟨h.val * 128 + j.val * 64 + d.val, by omega⟩) := by
  refine Eq.trans (b := kv5 A (ix5 b ⟨3584 + t.val, by omega⟩ h j d)) ?_ (kv5_at _ _ _ _ _ _)
  pointwise [last5]

end Cert.PrepIdeal.Att
-- ==== Proof.PrepPre.lean ====
/- What the precondition of the preparation says: every entry of the packed rows is finite. -/
module

public import proofs.«01_k».proof.Proof.Gen.Pre_prep_finite
public import proofs.«01_k».proof.Proof.CmpPre

@[expose] public section

set_option maxRecDepth 16384

noncomputable section

namespace Cert.Pre_prep_finite

open Idealize.ShloMosaic Idealize.SL.Sem
open Cert.Masked (Fin')

/-- The precondition makes the packed rows finite everywhere. -/
theorem finite_of (x : FVec Ideal S16384x4480 .f32) (g : FVec Ideal S4x64 .f32) (h : fn (F := Ideal) x g = fun _ => 1#1) : ∀ i, Fin' (x i) := by
  have h0 := congrFun h (Shape.Idx.first Gen.h_S_)
  unfold fn at h0
  haveI : Subsingleton S_.Idx := ⟨fun a b => funext fun i => i.elim0⟩
  exact fun i => Cert.Pre_cmp_finite.fin_of_cmp _ (Host.reduce_andi_all _ _ _ _ _ h0 i)

end Cert.Pre_prep_finite
-- ==== Proof.PrepClaim.lean ====
/- The claims about the preparation of queries, keys and values: its frames, and over the reals, for finite packed rows,
   its four results are the plain statement's. -/
module

public import proofs.«01_k».proof.Defs
public import proofs.«01_k».proof.Proof.Gen.Prep.Frame
public import proofs.«01_k».proof.Proof.Gen.PrepRefIdeal.Run
public import proofs.«01_k».proof.Proof.PrepTail
public import proofs.«01_k».proof.Proof.PrepRefVal
public import proofs.«01_k».proof.Proof.PrepPre
public import Idealize.ShloMosaic.Adequacy
public import Idealize.ShloMosaic.Init

@[expose] public section

set_option maxRecDepth 16384

noncomputable section

namespace Cert.Proof.PrepClaims

open Idealize.ShloMosaic Idealize.ShloMosaic.TcCoe Idealize.SL.Sem
open Cert.PrepSpec

/-- The kernel runs and leaves its arguments. -/
theorem frame : Cert.quiescent_Prep := fun m ρ _ => Cert.Prep.Gen.frame m ρ
/-- So does the kernel over the reals, -/
theorem frame_ideal : Cert.quiescent_PrepIdeal := fun m ρ _ => Cert.PrepIdeal.Gen.frame m ρ
/-- from finite arguments too. -/
theorem frame_ideal_pre : Cert.quiescent_PrepIdeal_pre_prep_finite := fun m ρ _ => Cert.PrepIdeal.Gen.frame m ρ

/-- The plain statement's run changes no argument; it declares no semaphore. -/
theorem frame_ref : Cert.quiescent_PrepRefIdeal := fun m ρ _ =>
  (θ_run Cert.PrepRefIdeal.defs _ _).mono (fun r h => ⟨fun c => (h c).2.2.2.2,
      Idealize.ShloMosaic.sem_eq_zero_of_no_sems (by decide) r.2⟩)
    (Cert.PrepRefIdeal.Value.run (F := Ideal) m ρ)
theorem frame_ref_pre : Cert.quiescent_PrepRefIdeal_pre_prep_finite := fun m ρ _ => frame_ref m ρ trivial

/-- Nothing was rewritten. -/
theorem preserves : Cert.preserves_Prep_PrepIdeal := trivial

open Cert.PrepIdeal Cert.PrepIdeal.Gen Cert.PrepIdeal.Att in
/-- The kernel's run over the reals: its four results as the host code leaves them, its arguments unchanged. -/
theorem run_results (m : (ℓ : Loc nD τ sig) → Buf (Elt Ideal) ℓ) (ρ) :
    θ_run defs (onTc (τ := τ) (main (F := Ideal))) ⟨m, fun _ => 0, ρ⟩ (fun r => ∀ c : Dev nD,
      r.2.mem ((c.tc : Thread nD τ).loc main_v51_0) = (dats m 0 c).arrAt 7 cfg0.N
      ∧ r.2.mem ((c.tc : Thread nD τ).loc main_v51_1) = (dats m 0 c).arrAt 8 cfg0.N
      ∧ r.2.mem ((c.tc : Thread nD τ).loc main_v52) = kv5 (outS m c)
      ∧ r.2.mem ((c.tc : Thread nD τ).loc main_v54) = last5 (outW m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c).1 7, (h c).1 8,
      ((h c).2 main_v52 (Pipeline.mem_restRefs_of main_v52 (by decide) (by decide))).trans (tail_v52 m c),
      ((h c).2 main_v54 (Pipeline.mem_restRefs_of main_v54 (by decide) (by decide))).trans (tail_v54 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩) (run_main m ρ)

/-- Over the reals, for finite packed rows, kernel and plain statement end with the same queries, keys and values. -/
theorem algebraic : Cert.algebraic_PrepIdeal_PrepRefIdeal_pre_prep_finite := by
  intro m ρ m' ρ' hpre hagree
  have hf := fun c => Cert.Pre_prep_finite.finite_of _ _ (hpre c)
  refine ⟨_, _, _, _, run_results m ρ, ?_⟩
  refine (θ_run Cert.PrepRefIdeal.defs _ _).mono (fun r h c => ⟨(h c).1.trans ?_, (h c).2.1.trans ?_, (h c).2.2.1.trans ?_, (h c).2.2.2.1.trans ?_, (h c).2.2.2.2⟩)
    (Cert.PrepRefIdeal.Value.run (F := Ideal) m' ρ')
  · rw [Cert.PrepRefIdeal.Read.val_main_v117_eq, (hagree c).1, (hagree c).2, Cert.PrepIdeal.Att.arr7 m c (hf c)]
    funext i
    idx_vars i
    exact Cert.PrepRefIdeal.Att.v117 _ _ _ _ _
  · rw [Cert.PrepRefIdeal.Read.val_main_v135_eq, (hagree c).1, (hagree c).2, Cert.PrepIdeal.Att.arr8 m c (hf c)]
    funext i
    idx_vars i
    exact Cert.PrepRefIdeal.Att.v135 _ _ _ _ _
  · rw [Cert.PrepRefIdeal.Read.val_main_v77_eq, (hagree c).1, (hagree c).2]
    funext i
    idx_vars i
    refine (Cert.PrepRefIdeal.Att.v77 _ _ _ _ _ _ _).trans (Eq.symm ?_)
    refine (Cert.PrepIdeal.Att.kv5_at _ _ _ _ _ _).trans ?_
    unfold Cert.PrepIdeal.Att.outS
    rw [Cert.PrepIdeal.Att.arr9 m c (hf c)]
    rfl
  · rw [Cert.PrepRefIdeal.Read.val_main_v136_eq, (hagree c).1, (hagree c).2]
    funext i
    idx_vars i
    refine (Cert.PrepRefIdeal.Att.v136 _ _ _ _ _ _ _).trans (Eq.symm ?_)
    refine (Cert.PrepIdeal.Att.last5_at _ _ _ _ _ _).trans ?_
    unfold Cert.PrepIdeal.Att.outW
    rw [Cert.PrepIdeal.Att.arr10 m c (hf c)]
    rfl

end Cert.Proof.PrepClaims
-- ==== Proof.lean ====
module

public import proofs.«01_k».proof.Defs
public import proofs.«01_k».proof.Proof.Gen.Cmp
public import proofs.«01_k».proof.Proof.Gen.Cmp.Skeleton
public import proofs.«01_k».proof.Proof.Gen.Cmp.Launch
public import proofs.«01_k».proof.Proof.Gen.Cmp.Points
public import proofs.«01_k».proof.Proof.Gen.Cmp.Frame
public import proofs.«01_k».proof.Proof.Gen.CmpIdeal
public import proofs.«01_k».proof.Proof.Gen.CmpIdeal.Skeleton
public import proofs.«01_k».proof.Proof.Gen.CmpIdeal.Launch
public import proofs.«01_k».proof.Proof.Gen.CmpIdeal.Points
public import proofs.«01_k».proof.Proof.Gen.CmpIdeal.Frame
public import proofs.«01_k».proof.Proof.Gen.CmpIdeal.Value
public import proofs.«01_k».proof.Proof.Gen.CmpRefIdeal
public import proofs.«01_k».proof.Proof.Gen.CmpRefIdeal.Run
public import proofs.«01_k».proof.Proof.Gen.CmpRefIdeal.Read
public import proofs.«01_k».proof.Proof.Gen.Pre_cmp_finite
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.ProjDec
public import proofs.«01_k».proof.Proof.Gen.ProjDec.Launch
public import proofs.«01_k».proof.Proof.Gen.ProjDec.Points
public import proofs.«01_k».proof.Proof.Gen.ProjDec.Frame
public import proofs.«01_k».proof.Proof.Gen.ProjDecIdeal
public import proofs.«01_k».proof.Proof.Gen.ProjDecIdeal.Launch
public import proofs.«01_k».proof.Proof.Gen.ProjDecIdeal.Points
public import proofs.«01_k».proof.Proof.Gen.ProjDecIdeal.Frame
public import proofs.«01_k».proof.Proof.Gen.ProjDecRefIdeal
public import proofs.«01_k».proof.Proof.Gen.ProjDecRefIdeal.Run
public import proofs.«01_k».proof.Proof.Gen.ProjDecRefIdeal.Read
public import proofs.«01_k».proof.Proof.Gen.MemKv
public import proofs.«01_k».proof.Proof.Gen.MemKv.Launch
public import proofs.«01_k».proof.Proof.Gen.MemKv.Points
public import proofs.«01_k».proof.Proof.Gen.MemKv.Frame
public import proofs.«01_k».proof.Proof.Gen.MemKvIdeal
public import proofs.«01_k».proof.Proof.Gen.MemKvIdeal.Launch
public import proofs.«01_k».proof.Proof.Gen.MemKvIdeal.Points
public import proofs.«01_k».proof.Proof.Gen.MemKvIdeal.Frame
public import proofs.«01_k».proof.Proof.Gen.MemKvRefIdeal
public import proofs.«01_k».proof.Proof.Gen.MemKvRefIdeal.Run
public import proofs.«01_k».proof.Proof.Gen.MemKvRefIdeal.Read
public import proofs.«01_k».proof.Proof.Gen.ProjOut
public import proofs.«01_k».proof.Proof.Gen.ProjOut.Launch
public import proofs.«01_k».proof.Proof.Gen.ProjOut.Points
public import proofs.«01_k».proof.Proof.Gen.ProjOut.Frame
public import proofs.«01_k».proof.Proof.Gen.ProjOutIdeal
public import proofs.«01_k».proof.Proof.Gen.ProjOutIdeal.Launch
public import proofs.«01_k».proof.Proof.Gen.ProjOutIdeal.Points
public import proofs.«01_k».proof.Proof.Gen.ProjOutIdeal.Frame
public import proofs.«01_k».proof.Proof.Gen.ProjOutIdeal.Value
public import proofs.«01_k».proof.Proof.Gen.ProjOutRefIdeal
public import proofs.«01_k».proof.Proof.Gen.ProjOutRefIdeal.Run
public import proofs.«01_k».proof.Proof.Gen.ProjOutRefIdeal.Read
public import proofs.«01_k».proof.Proof.Gen.Prep
public import proofs.«01_k».proof.Proof.Gen.Prep.Launch
public import proofs.«01_k».proof.Proof.Gen.Prep.Points
public import proofs.«01_k».proof.Proof.Gen.Prep.Frame
public import proofs.«01_k».proof.Proof.Gen.PrepIdeal
public import proofs.«01_k».proof.Proof.Gen.PrepIdeal.Launch
public import proofs.«01_k».proof.Proof.Gen.PrepIdeal.Points
public import proofs.«01_k».proof.Proof.Gen.PrepIdeal.Frame
public import proofs.«01_k».proof.Proof.Gen.PrepRefIdeal
public import proofs.«01_k».proof.Proof.Gen.PrepRefIdeal.Run
public import proofs.«01_k».proof.Proof.Gen.PrepRefIdeal.Read
public import proofs.«01_k».proof.Proof.Gen.Pre_prep_finite
public import proofs.«01_k».proof.Proof.CmpClaim
public import proofs.«01_k».proof.Proof.ProjClaim
public import proofs.«01_k».proof.Proof.DecClaim
public import proofs.«01_k».proof.Proof.MemClaim
public import proofs.«01_k».proof.Proof.OutClaim
public import proofs.«01_k».proof.Proof.PrepClaim
public import Idealize.ShloMosaic.Adequacy
public import Idealize.ShloMosaic.Init

@[expose] public section

noncomputable section

namespace Cert.Proof

open Idealize.ShloMosaic Idealize.SL.Sem Cert.Cmp

/-- `Cert.Claim`: the frames, the rewrites, and the value equality of each program pair. -/
theorem claim : Cert.Claim := ⟨Cert.Cmp.Gen.facts, Cert.CmpIdeal.Gen.facts, Cert.CmpRefIdeal.Gen.facts,
  Cert.Proj.Gen.facts, Cert.ProjIdeal.Gen.facts, Cert.ProjRefIdeal.Gen.facts,
  Cert.ProjDec.Gen.facts, Cert.ProjDecIdeal.Gen.facts, Cert.ProjDecRefIdeal.Gen.facts,
  Cert.MemKv.Gen.facts, Cert.MemKvIdeal.Gen.facts, Cert.MemKvRefIdeal.Gen.facts,
  Cert.ProjOut.Gen.facts, Cert.ProjOutIdeal.Gen.facts, Cert.ProjOutRefIdeal.Gen.facts,
  Cert.Prep.Gen.facts, Cert.PrepIdeal.Gen.facts, Cert.PrepRefIdeal.Gen.facts,
  Cert.Pre_cmp_finite.Gen.facts, Cert.Pre_prep_finite.Gen.facts,
  CmpClaims.frame, CmpClaims.frame_ideal, CmpClaims.frame_ideal_pre, CmpClaims.frame_ref, CmpClaims.frame_ref_pre,
  ProjClaims.frame, ProjClaims.frame_ideal, ProjClaims.frame_ref,
  DecClaims.frame, DecClaims.frame_ideal, DecClaims.frame_ref,
  MemClaims.frame, MemClaims.frame_ideal, MemClaims.frame_ref,
  OutClaims.frame, OutClaims.frame_ideal, OutClaims.frame_ref,
  PrepClaims.frame, PrepClaims.frame_ideal, PrepClaims.frame_ideal_pre, PrepClaims.frame_ref, PrepClaims.frame_ref_pre,
  CmpClaims.preserves, CmpClaims.algebraic, ProjClaims.preserves, ProjClaims.algebraic,
  DecClaims.preserves, DecClaims.algebraic, MemClaims.preserves, MemClaims.algebraic, OutClaims.preserves, OutClaims.algebraic,
  PrepClaims.preserves, PrepClaims.algebraic⟩

end Cert.Proof

end
